-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 1024]⟩ ⟨2, ![1024, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x32 : Shape := ⟨2, ![1024, 32]⟩
abbrev S32x1024 : Shape := ⟨2, ![32, 1024]⟩
abbrev S2x96x1024 : Shape := ⟨3, ![2, 96, 1024]⟩
abbrev S2x32x1024 : Shape := ⟨3, ![2, 32, 1024]⟩
abbrev S2x128x1024 : Shape := ⟨3, ![2, 128, 1024]⟩
abbrev S256x1024 : Shape := ⟨2, ![256, 1024]⟩
abbrev S7x32x1024 : Shape := ⟨3, ![7, 32, 1024]⟩
abbrev S2 : Shape := ⟨1, ![2]⟩
abbrev S7 : Shape := ⟨1, ![7]⟩
abbrev S_ : Shape := ⟨0, ![]⟩
abbrev S32x32 : Shape := ⟨2, ![32, 32]⟩
abbrev S1x32x1024 : Shape := ⟨3, ![1, 32, 1024]⟩
abbrev S1 : Shape := ⟨1, ![1]⟩
abbrev S1x96x1024 : Shape := ⟨3, ![1, 96, 1024]⟩
abbrev S96x1024 : Shape := ⟨2, ![96, 1024]⟩
abbrev S1x128x1024 : Shape := ⟨3, ![1, 128, 1024]⟩
abbrev S128x1024 : Shape := ⟨2, ![128, 1024]⟩

abbrev nBuf : Space → Nat
  | .hbm => 3
  | .vmem => 13
  | .smem => 0
  | _ => 0

abbrev bufTy : (tb : Table) → Fin (tcTables nBuf tb) → BufTy
  | .hbm, ⟨0, _⟩ => ⟨S1024x32, .f32⟩
  | .hbm, ⟨1, _⟩ => ⟨S32x1024, .f32⟩
  | .hbm, ⟨2, _⟩ => ⟨S32x1024, .f32⟩
  | .local _ .vmem, ⟨0, _⟩ => ⟨S1024x32, .f32⟩
  | .local _ .vmem, ⟨1, _⟩ => ⟨S32x1024, .f32⟩
  | .local _ .vmem, ⟨2, _⟩ => ⟨S32x1024, .f32⟩
  | .local _ .vmem, ⟨3, _⟩ => ⟨S2x96x1024, .f32⟩
  | .local _ .vmem, ⟨4, _⟩ => ⟨S2x32x1024, .f32⟩
  | .local _ .vmem, ⟨5, _⟩ => ⟨S2x128x1024, .f32⟩
  | .local _ .vmem, ⟨6, _⟩ => ⟨S2x128x1024, .f32⟩
  | .local _ .vmem, ⟨7, _⟩ => ⟨S256x1024, .f32⟩
  | .local _ .vmem, ⟨8, _⟩ => ⟨S2x96x1024, .f32⟩
  | .local _ .vmem, ⟨9, _⟩ => ⟨S2x32x1024, .f32⟩
  | .local _ .vmem, ⟨10, _⟩ => ⟨S2x128x1024, .f32⟩
  | .local _ .vmem, ⟨11, _⟩ => ⟨S2x128x1024, .f32⟩
  | .local _ .vmem, ⟨12, _⟩ => ⟨S7x32x1024, .f32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v28 : BitVec 32 := Scalar.addi v2 c1_i32_7
  let c32_i32_8 : BitVec 32 := 32#32
  let v29 : BitVec 32 := Scalar.remsi v28 c32_i32_8
  let c1_i32_10 : BitVec 32 := 1#32
  let v30 : BitVec 32 := Scalar.muli v29 c1_i32_10
  let v31 : BitVec 32 := Scalar.addi c0_i32_11 v30
  v31.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_12 : BitVec 32 := 2#32
  let v32 : BitVec 32 := Scalar.addi v2 c2_i32_12
  let c32_i32_13 : BitVec 32 := 32#32
  let v33 : BitVec 32 := Scalar.remsi v32 c32_i32_13
  let c1_i32_15 : BitVec 32 := 1#32
  let v34 : BitVec 32 := Scalar.muli v33 c1_i32_15
  let v35 : BitVec 32 := Scalar.addi c0_i32_16 v34
  v35.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_17 : BitVec 32 := 3#32
  let v36 : BitVec 32 := Scalar.addi v2 c3_i32_17
  let c32_i32_18 : BitVec 32 := 32#32
  let v37 : BitVec 32 := Scalar.remsi v36 c32_i32_18
  let c1_i32_20 : BitVec 32 := 1#32
  let v38 : BitVec 32 := Scalar.muli v37 c1_i32_20
  let v39 : BitVec 32 := Scalar.addi c0_i32_21 v38
  v39.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_22 : BitVec 32 := 4#32
  let v40 : BitVec 32 := Scalar.addi v2 c4_i32_22
  let c32_i32_23 : BitVec 32 := 32#32
  let v41 : BitVec 32 := Scalar.remsi v40 c32_i32_23
  let c1_i32_25 : BitVec 32 := 1#32
  let v42 : BitVec 32 := Scalar.muli v41 c1_i32_25
  let v43 : BitVec 32 := Scalar.addi c0_i32_26 v42
  v43.toNat
def k0_dev5 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v44 : BitVec 32 := Scalar.addi v2 c5_i32
  let c32_i32_27 : BitVec 32 := 32#32
  let v45 : BitVec 32 := Scalar.remsi v44 c32_i32_27
  let c1_i32_29 : BitVec 32 := 1#32
  let v46 : BitVec 32 := Scalar.muli v45 c1_i32_29
  let v47 : BitVec 32 := Scalar.addi c0_i32_30 v46
  v47.toNat
def k0_dev6 (d0 : Dev nD) : Nat :=
  let c0_i32_34 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v48 : BitVec 32 := Scalar.addi v2 c6_i32
  let c32_i32_31 : BitVec 32 := 32#32
  let v49 : BitVec 32 := Scalar.remsi v48 c32_i32_31
  let c1_i32_33 : BitVec 32 := 1#32
  let v50 : BitVec 32 := Scalar.muli v49 c1_i32_33
  let v51 : BitVec 32 := Scalar.addi c0_i32_34 v50
  v51.toNat
def k0_dev7 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v52 : BitVec 32 := Scalar.addi v2 c7_i32
  let c32_i32_35 : BitVec 32 := 32#32
  let v53 : BitVec 32 := Scalar.remsi v52 c32_i32_35
  let c1_i32_37 : BitVec 32 := 1#32
  let v54 : BitVec 32 := Scalar.muli v53 c1_i32_37
  let v55 : BitVec 32 := Scalar.addi c0_i32_38 v54
  v55.toNat
def k0_dev8 (d0 : Dev nD) : Nat :=
  let c0_i32_42 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v56 : BitVec 32 := Scalar.addi v2 c8_i32
  let c32_i32_39 : BitVec 32 := 32#32
  let v57 : BitVec 32 := Scalar.remsi v56 c32_i32_39
  let c1_i32_41 : BitVec 32 := 1#32
  let v58 : BitVec 32 := Scalar.muli v57 c1_i32_41
  let v59 : BitVec 32 := Scalar.addi c0_i32_42 v58
  v59.toNat
def k0_dev9 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v60 : BitVec 32 := Scalar.addi v2 c9_i32
  let c32_i32_43 : BitVec 32 := 32#32
  let v61 : BitVec 32 := Scalar.remsi v60 c32_i32_43
  let c1_i32_45 : BitVec 32 := 1#32
  let v62 : BitVec 32 := Scalar.muli v61 c1_i32_45
  let v63 : BitVec 32 := Scalar.addi c0_i32_46 v62
  v63.toNat
def k0_dev10 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v64 : BitVec 32 := Scalar.addi v2 c10_i32
  let c32_i32_47 : BitVec 32 := 32#32
  let v65 : BitVec 32 := Scalar.remsi v64 c32_i32_47
  let c1_i32_49 : BitVec 32 := 1#32
  let v66 : BitVec 32 := Scalar.muli v65 c1_i32_49
  let v67 : BitVec 32 := Scalar.addi c0_i32_50 v66
  v67.toNat
def k0_dev11 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v68 : BitVec 32 := Scalar.addi v2 c11_i32
  let c32_i32_51 : BitVec 32 := 32#32
  let v69 : BitVec 32 := Scalar.remsi v68 c32_i32_51
  let c1_i32_53 : BitVec 32 := 1#32
  let v70 : BitVec 32 := Scalar.muli v69 c1_i32_53
  let v71 : BitVec 32 := Scalar.addi c0_i32_54 v70
  v71.toNat
def k0_dev12 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v72 : BitVec 32 := Scalar.addi v2 c12_i32
  let c32_i32_55 : BitVec 32 := 32#32
  let v73 : BitVec 32 := Scalar.remsi v72 c32_i32_55
  let c1_i32_57 : BitVec 32 := 1#32
  let v74 : BitVec 32 := Scalar.muli v73 c1_i32_57
  let v75 : BitVec 32 := Scalar.addi c0_i32_58 v74
  v75.toNat
def k0_dev13 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v76 : BitVec 32 := Scalar.addi v2 c13_i32
  let c32_i32_59 : BitVec 32 := 32#32
  let v77 : BitVec 32 := Scalar.remsi v76 c32_i32_59
  let c1_i32_61 : BitVec 32 := 1#32
  let v78 : BitVec 32 := Scalar.muli v77 c1_i32_61
  let v79 : BitVec 32 := Scalar.addi c0_i32_62 v78
  v79.toNat
def k0_dev14 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v80 : BitVec 32 := Scalar.addi v2 c14_i32
  let c32_i32_63 : BitVec 32 := 32#32
  let v81 : BitVec 32 := Scalar.remsi v80 c32_i32_63
  let c1_i32_65 : BitVec 32 := 1#32
  let v82 : BitVec 32 := Scalar.muli v81 c1_i32_65
  let v83 : BitVec 32 := Scalar.addi c0_i32_66 v82
  v83.toNat
def k0_dev15 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v84 : BitVec 32 := Scalar.addi v2 c15_i32
  let c32_i32_67 : BitVec 32 := 32#32
  let v85 : BitVec 32 := Scalar.remsi v84 c32_i32_67
  let c1_i32_69 : BitVec 32 := 1#32
  let v86 : BitVec 32 := Scalar.muli v85 c1_i32_69
  let v87 : BitVec 32 := Scalar.addi c0_i32_70 v86
  v87.toNat
def k0_dev16 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v88 : BitVec 32 := Scalar.addi v2 c16_i32
  let c32_i32_71 : BitVec 32 := 32#32
  let v89 : BitVec 32 := Scalar.remsi v88 c32_i32_71
  let c1_i32_73 : BitVec 32 := 1#32
  let v90 : BitVec 32 := Scalar.muli v89 c1_i32_73
  let v91 : BitVec 32 := Scalar.addi c0_i32_74 v90
  v91.toNat
def k0_dev17 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v92 : BitVec 32 := Scalar.addi v2 c17_i32
  let c32_i32_75 : BitVec 32 := 32#32
  let v93 : BitVec 32 := Scalar.remsi v92 c32_i32_75
  let c1_i32_77 : BitVec 32 := 1#32
  let v94 : BitVec 32 := Scalar.muli v93 c1_i32_77
  let v95 : BitVec 32 := Scalar.addi c0_i32_78 v94
  v95.toNat
def k0_dev18 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v96 : BitVec 32 := Scalar.addi v2 c18_i32
  let c32_i32_79 : BitVec 32 := 32#32
  let v97 : BitVec 32 := Scalar.remsi v96 c32_i32_79
  let c1_i32_81 : BitVec 32 := 1#32
  let v98 : BitVec 32 := Scalar.muli v97 c1_i32_81
  let v99 : BitVec 32 := Scalar.addi c0_i32_82 v98
  v99.toNat
def k0_dev19 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v100 : BitVec 32 := Scalar.addi v2 c19_i32
  let c32_i32_83 : BitVec 32 := 32#32
  let v101 : BitVec 32 := Scalar.remsi v100 c32_i32_83
  let c1_i32_85 : BitVec 32 := 1#32
  let v102 : BitVec 32 := Scalar.muli v101 c1_i32_85
  let v103 : BitVec 32 := Scalar.addi c0_i32_86 v102
  v103.toNat
def k0_dev20 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v104 : BitVec 32 := Scalar.addi v2 c20_i32
  let c32_i32_87 : BitVec 32 := 32#32
  let v105 : BitVec 32 := Scalar.remsi v104 c32_i32_87
  let c1_i32_89 : BitVec 32 := 1#32
  let v106 : BitVec 32 := Scalar.muli v105 c1_i32_89
  let v107 : BitVec 32 := Scalar.addi c0_i32_90 v106
  v107.toNat
def k0_dev21 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v108 : BitVec 32 := Scalar.addi v2 c21_i32
  let c32_i32_91 : BitVec 32 := 32#32
  let v109 : BitVec 32 := Scalar.remsi v108 c32_i32_91
  let c1_i32_93 : BitVec 32 := 1#32
  let v110 : BitVec 32 := Scalar.muli v109 c1_i32_93
  let v111 : BitVec 32 := Scalar.addi c0_i32_94 v110
  v111.toNat
def k0_dev22 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v112 : BitVec 32 := Scalar.addi v2 c22_i32
  let c32_i32_95 : BitVec 32 := 32#32
  let v113 : BitVec 32 := Scalar.remsi v112 c32_i32_95
  let c1_i32_97 : BitVec 32 := 1#32
  let v114 : BitVec 32 := Scalar.muli v113 c1_i32_97
  let v115 : BitVec 32 := Scalar.addi c0_i32_98 v114
  v115.toNat
def k0_dev23 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v116 : BitVec 32 := Scalar.addi v2 c23_i32
  let c32_i32_99 : BitVec 32 := 32#32
  let v117 : BitVec 32 := Scalar.remsi v116 c32_i32_99
  let c1_i32_101 : BitVec 32 := 1#32
  let v118 : BitVec 32 := Scalar.muli v117 c1_i32_101
  let v119 : BitVec 32 := Scalar.addi c0_i32_102 v118
  v119.toNat
def k0_dev24 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v120 : BitVec 32 := Scalar.addi v2 c24_i32
  let c32_i32_103 : BitVec 32 := 32#32
  let v121 : BitVec 32 := Scalar.remsi v120 c32_i32_103
  let c1_i32_105 : BitVec 32 := 1#32
  let v122 : BitVec 32 := Scalar.muli v121 c1_i32_105
  let v123 : BitVec 32 := Scalar.addi c0_i32_106 v122
  v123.toNat
def k0_dev25 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v124 : BitVec 32 := Scalar.addi v2 c25_i32
  let c32_i32_107 : BitVec 32 := 32#32
  let v125 : BitVec 32 := Scalar.remsi v124 c32_i32_107
  let c1_i32_109 : BitVec 32 := 1#32
  let v126 : BitVec 32 := Scalar.muli v125 c1_i32_109
  let v127 : BitVec 32 := Scalar.addi c0_i32_110 v126
  v127.toNat
def k0_dev26 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v128 : BitVec 32 := Scalar.addi v2 c26_i32
  let c32_i32_111 : BitVec 32 := 32#32
  let v129 : BitVec 32 := Scalar.remsi v128 c32_i32_111
  let c1_i32_113 : BitVec 32 := 1#32
  let v130 : BitVec 32 := Scalar.muli v129 c1_i32_113
  let v131 : BitVec 32 := Scalar.addi c0_i32_114 v130
  v131.toNat
def k0_dev27 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v132 : BitVec 32 := Scalar.addi v2 c27_i32
  let c32_i32_115 : BitVec 32 := 32#32
  let v133 : BitVec 32 := Scalar.remsi v132 c32_i32_115
  let c1_i32_117 : BitVec 32 := 1#32
  let v134 : BitVec 32 := Scalar.muli v133 c1_i32_117
  let v135 : BitVec 32 := Scalar.addi c0_i32_118 v134
  v135.toNat
def k0_dev28 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v136 : BitVec 32 := Scalar.addi v2 c28_i32
  let c32_i32_119 : BitVec 32 := 32#32
  let v137 : BitVec 32 := Scalar.remsi v136 c32_i32_119
  let c1_i32_121 : BitVec 32 := 1#32
  let v138 : BitVec 32 := Scalar.muli v137 c1_i32_121
  let v139 : BitVec 32 := Scalar.addi c0_i32_122 v138
  v139.toNat
def k0_dev29 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v140 : BitVec 32 := Scalar.addi v2 c29_i32
  let c32_i32_123 : BitVec 32 := 32#32
  let v141 : BitVec 32 := Scalar.remsi v140 c32_i32_123
  let c1_i32_125 : BitVec 32 := 1#32
  let v142 : BitVec 32 := Scalar.muli v141 c1_i32_125
  let v143 : BitVec 32 := Scalar.addi c0_i32_126 v142
  v143.toNat
def k0_dev30 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v144 : BitVec 32 := Scalar.addi v2 c30_i32
  let c32_i32_127 : BitVec 32 := 32#32
  let v145 : BitVec 32 := Scalar.remsi v144 c32_i32_127
  let c1_i32_129 : BitVec 32 := 1#32
  let v146 : BitVec 32 := Scalar.muli v145 c1_i32_129
  let v147 : BitVec 32 := Scalar.addi c0_i32_130 v146
  v147.toNat
def k0_dev31 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v148 : BitVec 32 := Scalar.addi v2 c31_i32
  let c32_i32_131 : BitVec 32 := 32#32
  let v149 : BitVec 32 := Scalar.remsi v148 c32_i32_131
  let c1_i32_133 : BitVec 32 := 1#32
  let v150 : BitVec 32 := Scalar.muli v149 c1_i32_133
  let v151 : BitVec 32 := Scalar.addi c0_i32_134 v150
  v151.toNat
def k0_off1 (d0 : Dev nD) (c0_i32_136 : BitVec 32) (c2_i32 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_135 : BitVec 32 := 1#32
  let v152 : BitVec 32 := Scalar.addi v20 c1_i32_135
  let v153 : BitVec 32 := Scalar.addi v152 c0_i32_136
  let c8_i32_137 : BitVec 32 := 8#32
  let v154 : BitVec 32 := Scalar.remsi v153 c8_i32_137
  let c4_i32_138 : BitVec 32 := 4#32
  let v155 : BitVec 32 := Scalar.muli v154 c4_i32_138
  let c4_i32 : BitVec 32 := 4#32
  let v3 : BitVec 32 := Scalar.remsi v2 c4_i32
  let v24 : BitVec 32 := Scalar.xori v3 c2_i32
  let v156 : BitVec 32 := Scalar.addi v155 v24
  let c32_i32_139 : BitVec 32 := 32#32
  let v157 : BitVec 32 := Scalar.muli v156 c32_i32_139
  let v158 : Index := Scalar.indexCast v157
  let c0 : Index := 0#32
  ![v158.toNat, 0]
def k0_dev32 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.xori v3 c1_i32_6
  let v25 : BitVec 32 := Scalar.addi v21 v22
  let c1_i32_184 : BitVec 32 := 1#32
  let v212 : BitVec 32 := Scalar.muli v25 c1_i32_184
  let v213 : BitVec 32 := Scalar.addi c0_i32_185 v212
  v213.toNat
def k0_dev33 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let v21 : BitVec 32 := Scalar.subi v2 v3
  let c3_i32 : BitVec 32 := 3#32
  let v23 : BitVec 32 := Scalar.subi c3_i32 v3
  let v26 : BitVec 32 := Scalar.addi v21 v23
  let c1_i32_194 : BitVec 32 := 1#32
  let v222 : BitVec 32 := Scalar.muli v26 c1_i32_194
  let v223 : BitVec 32 := Scalar.addi c0_i32_195 v222
  v223.toNat
def k0_dev34 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.xori v3 c1_i32_6
  let v25 : BitVec 32 := Scalar.addi v21 v22
  let c1_i32_251 : BitVec 32 := 1#32
  let v292 : BitVec 32 := Scalar.muli v25 c1_i32_251
  let v293 : BitVec 32 := Scalar.addi c0_i32_252 v292
  v293.toNat
def k0_dev35 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let v21 : BitVec 32 := Scalar.subi v2 v3
  let c3_i32 : BitVec 32 := 3#32
  let v23 : BitVec 32 := Scalar.subi c3_i32 v3
  let v26 : BitVec 32 := Scalar.addi v21 v23
  let c1_i32_261 : BitVec 32 := 1#32
  let v302 : BitVec 32 := Scalar.muli v26 c1_i32_261
  let v303 : BitVec 32 := Scalar.addi c0_i32_262 v302
  v303.toNat
def k0_dev36 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.xori v3 c1_i32_6
  let v25 : BitVec 32 := Scalar.addi v21 v22
  let c1_i32_337 : BitVec 32 := 1#32
  let v388 : BitVec 32 := Scalar.muli v25 c1_i32_337
  let v389 : BitVec 32 := Scalar.addi c0_i32_338 v388
  v389.toNat
def k0_off2 (d0 : Dev nD) (c0_i32_344 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_343 : BitVec 32 := 1#32
  let v398 : BitVec 32 := Scalar.addi v20 c1_i32_343
  let v399 : BitVec 32 := Scalar.addi v398 c0_i32_344
  let c8_i32_345 : BitVec 32 := 8#32
  let v400 : BitVec 32 := Scalar.remsi v399 c8_i32_345
  let c4_i32_346 : BitVec 32 := 4#32
  let v401 : BitVec 32 := Scalar.muli v400 c4_i32_346
  let c3_i32 : BitVec 32 := 3#32
  let c4_i32 : BitVec 32 := 4#32
  let v3 : BitVec 32 := Scalar.remsi v2 c4_i32
  let v23 : BitVec 32 := Scalar.subi c3_i32 v3
  let v402 : BitVec 32 := Scalar.addi v401 v23
  let c32_i32_347 : BitVec 32 := 32#32
  let v403 : BitVec 32 := Scalar.muli v402 c32_i32_347
  let v404 : Index := Scalar.indexCast v403
  let c0_348 : Index := 0#32
  ![v404.toNat, 0]
def k0_dev37 (d0 : Dev nD) : Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.xori v3 c1_i32_6
  let v25 : BitVec 32 := Scalar.addi v21 v22
  let c1_i32_462 : BitVec 32 := 1#32
  let v534 : BitVec 32 := Scalar.muli v25 c1_i32_462
  let v535 : BitVec 32 := Scalar.addi c0_i32_463 v534
  v535.toNat
def k0_dev38 (d0 : Dev nD) : Nat :=
  let c0_i32_540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let v21 : BitVec 32 := Scalar.subi v2 v3
  let c3_i32 : BitVec 32 := 3#32
  let v23 : BitVec 32 := Scalar.subi c3_i32 v3
  let v26 : BitVec 32 := Scalar.addi v21 v23
  let c1_i32_539 : BitVec 32 := 1#32
  let v620 : BitVec 32 := Scalar.muli v26 c1_i32_539
  let v621 : BitVec 32 := Scalar.addi c0_i32_540 v620
  v621.toNat
def k0_dev39 (d0 : Dev nD) : Nat :=
  let c0_i32_569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let v21 : BitVec 32 := Scalar.subi v2 v3
  let c3_i32 : BitVec 32 := 3#32
  let v23 : BitVec 32 := Scalar.subi c3_i32 v3
  let v26 : BitVec 32 := Scalar.addi v21 v23
  let c1_i32_568 : BitVec 32 := 1#32
  let v646 : BitVec 32 := Scalar.muli v26 c1_i32_568
  let v647 : BitVec 32 := Scalar.addi c0_i32_569 v646
  v647.toNat
def k0_off3 (d0 : Dev nD) (c0_i32_575 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_574 : BitVec 32 := 1#32
  let v656 : BitVec 32 := Scalar.addi v20 c1_i32_574
  let v657 : BitVec 32 := Scalar.addi v656 c0_i32_575
  let c8_i32_576 : BitVec 32 := 8#32
  let v658 : BitVec 32 := Scalar.remsi v657 c8_i32_576
  let c4_i32_577 : BitVec 32 := 4#32
  let v659 : BitVec 32 := Scalar.muli v658 c4_i32_577
  let c4_i32 : BitVec 32 := 4#32
  let v3 : BitVec 32 := Scalar.remsi v2 c4_i32
  let v660 : BitVec 32 := Scalar.addi v659 v3
  let c32_i32_578 : BitVec 32 := 32#32
  let v661 : BitVec 32 := Scalar.muli v660 c32_i32_578
  let v662 : Index := Scalar.indexCast v661
  let c0_579 : Index := 0#32
  ![v662.toNat, 0]
def k0_dev40 (d0 : Dev nD) : Nat :=
  let c0_i32_696 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_688 : BitVec 32 := 1#32
  let v802 : BitVec 32 := Scalar.addi v20 c1_i32_688
  let c0_i32_689 : BitVec 32 := 0#32
  let v803 : BitVec 32 := Scalar.addi v802 c0_i32_689
  let c8_i32_690 : BitVec 32 := 8#32
  let v804 : BitVec 32 := Scalar.remsi v803 c8_i32_690
  let c4_i32_691 : BitVec 32 := 4#32
  let v805 : BitVec 32 := Scalar.muli v804 c4_i32_691
  let c4_i32 : BitVec 32 := 4#32
  let v3 : BitVec 32 := Scalar.remsi v2 c4_i32
  let v806 : BitVec 32 := Scalar.addi v805 v3
  let c1_i32_695 : BitVec 32 := 1#32
  let v807 : BitVec 32 := Scalar.muli v806 c1_i32_695
  let v808 : BitVec 32 := Scalar.addi c0_i32_696 v807
  v808.toNat
def k0_dev41 (d0 : Dev nD) : Nat :=
  let c0_i32_709 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_701 : BitVec 32 := 1#32
  let v816 : BitVec 32 := Scalar.addi v20 c1_i32_701
  let c1_i32_702 : BitVec 32 := 1#32
  let v817 : BitVec 32 := Scalar.addi v816 c1_i32_702
  let c8_i32_703 : BitVec 32 := 8#32
  let v818 : BitVec 32 := Scalar.remsi v817 c8_i32_703
  let c4_i32_704 : BitVec 32 := 4#32
  let v819 : BitVec 32 := Scalar.muli v818 c4_i32_704
  let c4_i32 : BitVec 32 := 4#32
  let v3 : BitVec 32 := Scalar.remsi v2 c4_i32
  let v820 : BitVec 32 := Scalar.addi v819 v3
  let c1_i32_708 : BitVec 32 := 1#32
  let v821 : BitVec 32 := Scalar.muli v820 c1_i32_708
  let v822 : BitVec 32 := Scalar.addi c0_i32_709 v821
  v822.toNat
def k0_dev42 (d0 : Dev nD) : Nat :=
  let c0_i32_722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_714 : BitVec 32 := 1#32
  let v830 : BitVec 32 := Scalar.addi v20 c1_i32_714
  let c2_i32_715 : BitVec 32 := 2#32
  let v831 : BitVec 32 := Scalar.addi v830 c2_i32_715
  let c8_i32_716 : BitVec 32 := 8#32
  let v832 : BitVec 32 := Scalar.remsi v831 c8_i32_716
  let c4_i32_717 : BitVec 32 := 4#32
  let v833 : BitVec 32 := Scalar.muli v832 c4_i32_717
  let c4_i32 : BitVec 32 := 4#32
  let v3 : BitVec 32 := Scalar.remsi v2 c4_i32
  let v834 : BitVec 32 := Scalar.addi v833 v3
  let c1_i32_721 : BitVec 32 := 1#32
  let v835 : BitVec 32 := Scalar.muli v834 c1_i32_721
  let v836 : BitVec 32 := Scalar.addi c0_i32_722 v835
  v836.toNat
def k0_dev43 (d0 : Dev nD) : Nat :=
  let c0_i32_734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_726 : BitVec 32 := 1#32
  let v844 : BitVec 32 := Scalar.addi v20 c1_i32_726
  let c3_i32_727 : BitVec 32 := 3#32
  let v845 : BitVec 32 := Scalar.addi v844 c3_i32_727
  let c8_i32_728 : BitVec 32 := 8#32
  let v846 : BitVec 32 := Scalar.remsi v845 c8_i32_728
  let c4_i32_729 : BitVec 32 := 4#32
  let v847 : BitVec 32 := Scalar.muli v846 c4_i32_729
  let c4_i32 : BitVec 32 := 4#32
  let v3 : BitVec 32 := Scalar.remsi v2 c4_i32
  let v848 : BitVec 32 := Scalar.addi v847 v3
  let c1_i32_733 : BitVec 32 := 1#32
  let v849 : BitVec 32 := Scalar.muli v848 c1_i32_733
  let v850 : BitVec 32 := Scalar.addi c0_i32_734 v849
  v850.toNat
def k0_dev44 (d0 : Dev nD) : Nat :=
  let c0_i32_776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_768 : BitVec 32 := 1#32
  let v884 : BitVec 32 := Scalar.addi v20 c1_i32_768
  let c4_i32_769 : BitVec 32 := 4#32
  let v885 : BitVec 32 := Scalar.addi v884 c4_i32_769
  let c8_i32_770 : BitVec 32 := 8#32
  let v886 : BitVec 32 := Scalar.remsi v885 c8_i32_770
  let c4_i32_771 : BitVec 32 := 4#32
  let v887 : BitVec 32 := Scalar.muli v886 c4_i32_771
  let c4_i32 : BitVec 32 := 4#32
  let v3 : BitVec 32 := Scalar.remsi v2 c4_i32
  let v888 : BitVec 32 := Scalar.addi v887 v3
  let c1_i32_775 : BitVec 32 := 1#32
  let v889 : BitVec 32 := Scalar.muli v888 c1_i32_775
  let v890 : BitVec 32 := Scalar.addi c0_i32_776 v889
  v890.toNat
def k0_dev45 (d0 : Dev nD) : Nat :=
  let c0_i32_788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_780 : BitVec 32 := 1#32
  let v898 : BitVec 32 := Scalar.addi v20 c1_i32_780
  let c5_i32_781 : BitVec 32 := 5#32
  let v899 : BitVec 32 := Scalar.addi v898 c5_i32_781
  let c8_i32_782 : BitVec 32 := 8#32
  let v900 : BitVec 32 := Scalar.remsi v899 c8_i32_782
  let c4_i32_783 : BitVec 32 := 4#32
  let v901 : BitVec 32 := Scalar.muli v900 c4_i32_783
  let c4_i32 : BitVec 32 := 4#32
  let v3 : BitVec 32 := Scalar.remsi v2 c4_i32
  let v902 : BitVec 32 := Scalar.addi v901 v3
  let c1_i32_787 : BitVec 32 := 1#32
  let v903 : BitVec 32 := Scalar.muli v902 c1_i32_787
  let v904 : BitVec 32 := Scalar.addi c0_i32_788 v903
  v904.toNat
def k0_dev46 (d0 : Dev nD) : Nat :=
  let c0_i32_800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_792 : BitVec 32 := 1#32
  let v912 : BitVec 32 := Scalar.addi v20 c1_i32_792
  let c6_i32_793 : BitVec 32 := 6#32
  let v913 : BitVec 32 := Scalar.addi v912 c6_i32_793
  let c8_i32_794 : BitVec 32 := 8#32
  let v914 : BitVec 32 := Scalar.remsi v913 c8_i32_794
  let c4_i32_795 : BitVec 32 := 4#32
  let v915 : BitVec 32 := Scalar.muli v914 c4_i32_795
  let c4_i32 : BitVec 32 := 4#32
  let v3 : BitVec 32 := Scalar.remsi v2 c4_i32
  let v916 : BitVec 32 := Scalar.addi v915 v3
  let c1_i32_799 : BitVec 32 := 1#32
  let v917 : BitVec 32 := Scalar.muli v916 c1_i32_799
  let v918 : BitVec 32 := Scalar.addi c0_i32_800 v917
  v918.toNat
abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Mesh.lean ====
/-
# The mesh, the copies and the contents they carry

Thirty-two devices, eight squares of four. Device `c` is corner `c % 4` of square `c / 4`. `dv1 c` and `dv2 c` are
its two neighbours inside the square, and the corner opposite is reached through either of them; `sq u c` is the same
corner `u` squares further on. Every copy the kernel makes goes from a device to one of these.

The fifteen copies a device starts, in program order (`cp`): the two halves of the opposite corner's rows over each
of the two neighbours (0 to 3), the two halves of each neighbour's rows with what the opposite corner's detour brought
added (4 to 7), and the seven sums of a square to the other squares (8 to 14).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The mesh -/

/-- The corner across the first side of the square. -/
abbrev q1 (q : ℕ) : ℕ := q + 1 - 2 * (q % 2)
/-- The corner across the second side. -/
abbrev q2 (q : ℕ) : ℕ := 3 - q
/-- The opposite corner. -/
abbrev qd (q : ℕ) : ℕ := (q + 2) % 4

set_option backward.proofsInPublic true in
def dv1 (c : Dev nD) : Dev nD := ⟨(c.val / 4 * 4 + q1 (c.val % 4)) % 32, Nat.mod_lt _ (by decide)⟩
set_option backward.proofsInPublic true in
def dv2 (c : Dev nD) : Dev nD := ⟨(c.val / 4 * 4 + q2 (c.val % 4)) % 32, Nat.mod_lt _ (by decide)⟩
set_option backward.proofsInPublic true in
def sq (u : ℕ) (c : Dev nD) : Dev nD := ⟨((c.val / 4 + u) % 8 * 4 + c.val % 4) % 32, Nat.mod_lt _ (by decide)⟩
set_option backward.proofsInPublic true in
def rot (o : ℕ) (c : Dev nD) : Dev nD := ⟨(c.val + o) % 32, Nat.mod_lt _ (by decide)⟩

/-- The square the `p`-th piece of a device's rows is for: the one after its own, and so on round to its own. -/
def slot (c : Dev nD) (p : ℕ) : ℕ := (c.val / 4 + 1 + p) % 8

/-- A first neighbour's first neighbour is the device itself, -/
theorem dv1_dv1 (c : Dev nD) : dv1 (dv1 c) = c := by revert c; decide
/-- and so with second neighbours. -/
theorem dv2_dv2 (c : Dev nD) : dv2 (dv2 c) = c := by revert c; decide

/-- Whom each copy goes to, and whom the copy landing here came from. -/
def toD (k : Fin 15) (c : Dev nD) : Dev nD :=
  if k.val = 0 ∨ k.val = 2 ∨ k.val = 4 ∨ k.val = 5 then dv1 c
  else if k.val < 8 then dv2 c else sq (k.val - 7) c
def frD (k : Fin 15) (c : Dev nD) : Dev nD :=
  if k.val = 0 ∨ k.val = 2 ∨ k.val = 4 ∨ k.val = 5 then dv1 c
  else if k.val < 8 then dv2 c else sq (15 - k.val) c

/-- Copy `k` from `c` comes from `c` where it lands, -/
theorem fr_to (k : Fin 15) (c : Dev nD) : frD k (toD k c) = c := by revert k c; decide +kernel
/-- and the copy landing on `c` was sent to `c`. -/
theorem to_fr (k : Fin 15) (c : Dev nD) : toD k (frD k c) = c := by revert k c; decide +kernel
/-- No device copies to itself. -/
theorem to_ne (k : Fin 15) (c : Dev nD) : toD k c ≠ c := by revert k c; decide +kernel
def across (k : Fin 15) : Dev nD ≃ Dev nD := ⟨toD k, frD k, fr_to k, to_fr k⟩

/-- The device the program names for the start of copy 0, -/
theorem dev32_eq (c : Dev nD) : (⟨k0_dev32 c, k0_dev32_lt c⟩ : Dev nD) = toD 0 c := by revert c; decide +kernel
/-- of copy 1, -/
theorem dev33_eq (c : Dev nD) : (⟨k0_dev33 c, k0_dev33_lt c⟩ : Dev nD) = toD 1 c := by revert c; decide +kernel
/-- of copy 2, -/
theorem dev34_eq (c : Dev nD) : (⟨k0_dev34 c, k0_dev34_lt c⟩ : Dev nD) = toD 2 c := by revert c; decide +kernel
/-- of copy 3, -/
theorem dev35_eq (c : Dev nD) : (⟨k0_dev35 c, k0_dev35_lt c⟩ : Dev nD) = toD 3 c := by revert c; decide +kernel
/-- of copy 4, -/
theorem dev36_eq (c : Dev nD) : (⟨k0_dev36 c, k0_dev36_lt c⟩ : Dev nD) = toD 4 c := by revert c; decide +kernel
/-- of copy 5, -/
theorem dev37_eq (c : Dev nD) : (⟨k0_dev37 c, k0_dev37_lt c⟩ : Dev nD) = toD 5 c := by revert c; decide +kernel
/-- of copy 6, -/
theorem dev38_eq (c : Dev nD) : (⟨k0_dev38 c, k0_dev38_lt c⟩ : Dev nD) = toD 6 c := by revert c; decide +kernel
/-- of copy 7, -/
theorem dev39_eq (c : Dev nD) : (⟨k0_dev39 c, k0_dev39_lt c⟩ : Dev nD) = toD 7 c := by revert c; decide +kernel
/-- of copy 8, -/
theorem dev40_eq (c : Dev nD) : (⟨k0_dev40 c, k0_dev40_lt c⟩ : Dev nD) = toD 8 c := by revert c; decide +kernel
/-- of copy 9, -/
theorem dev41_eq (c : Dev nD) : (⟨k0_dev41 c, k0_dev41_lt c⟩ : Dev nD) = toD 9 c := by revert c; decide +kernel
/-- of copy 10, -/
theorem dev42_eq (c : Dev nD) : (⟨k0_dev42 c, k0_dev42_lt c⟩ : Dev nD) = toD 10 c := by revert c; decide +kernel
/-- of copy 11, -/
theorem dev43_eq (c : Dev nD) : (⟨k0_dev43 c, k0_dev43_lt c⟩ : Dev nD) = toD 11 c := by revert c; decide +kernel
/-- of copy 12, -/
theorem dev44_eq (c : Dev nD) : (⟨k0_dev44 c, k0_dev44_lt c⟩ : Dev nD) = toD 12 c := by revert c; decide +kernel
/-- of copy 13, -/
theorem dev45_eq (c : Dev nD) : (⟨k0_dev45 c, k0_dev45_lt c⟩ : Dev nD) = toD 13 c := by revert c; decide +kernel
/-- and of copy 14 is the one `toD` says. -/
theorem dev46_eq (c : Dev nD) : (⟨k0_dev46 c, k0_dev46_lt c⟩ : Dev nD) = toD 14 c := by revert c; decide +kernel

/-- Where the rows a device loads for its `p`-th piece start: the opposite corner's rows of that square, -/
theorem off1d_eq (c : Dev nD) (p : Fin 8) :
    k0_off1 c (BitVec.ofNat 32 p.val) 2#32 = ![32 * (slot c p.val * 4 + qd (c.val % 4)), 0] := by revert c p; decide +kernel
/-- the first neighbour's, -/
theorem off1_eq (c : Dev nD) (p : Fin 8) :
    k0_off1 c (BitVec.ofNat 32 p.val) 1#32 = ![32 * (slot c p.val * 4 + q1 (c.val % 4)), 0] := by revert c p; decide +kernel
/-- the second neighbour's, -/
theorem off2_eq (c : Dev nD) (p : Fin 8) :
    k0_off2 c (BitVec.ofNat 32 p.val) = ![32 * (slot c p.val * 4 + q2 (c.val % 4)), 0] := by revert c p; decide +kernel
/-- its own. -/
theorem off3_eq (c : Dev nD) (p : Fin 8) :
    k0_off3 c (BitVec.ofNat 32 p.val) = ![32 * (slot c p.val * 4 + c.val % 4), 0] := by revert c p; decide +kernel

/-! ## The buffers -/

abbrev xM : Memref sig .tc .vmem S1024x32 .f32 := Memref.whole cc0_stg0_0
abbrev wM : Memref sig .tc .vmem S32x1024 .f32 := Memref.whole cc0_stg1_0
abbrev oM : Memref sig .tc .vmem S32x1024 .f32 := Memref.whole cc0_stg2_0
abbrev drxM : Memref sig .tc .vmem S2x96x1024 .f32 := Memref.whole cc0_scratch0
abbrev dryM : Memref sig .tc .vmem S2x32x1024 .f32 := Memref.whole cc0_scratch1
abbrev mbM : Memref sig .tc .vmem S2x128x1024 .f32 := Memref.whole cc0_scratch2
abbrev mcM : Memref sig .tc .vmem S2x128x1024 .f32 := Memref.whole cc0_scratch3
abbrev wkM : Memref sig .tc .vmem S256x1024 .f32 := Memref.whole cc0_scratch4
abbrev irxM : Memref sig .tc .vmem S2x96x1024 .f32 := Memref.whole cc0_scratch5
abbrev iryM : Memref sig .tc .vmem S2x32x1024 .f32 := Memref.whole cc0_scratch6
abbrev ia1M : Memref sig .tc .vmem S2x128x1024 .f32 := Memref.whole cc0_scratch7
abbrev ia2M : Memref sig .tc .vmem S2x128x1024 .f32 := Memref.whole cc0_scratch8
abbrev ibM : Memref sig .tc .vmem S7x32x1024 .f32 := Memref.whole cc0_scratch9

/-- Half `g` of a buffer of two halves, as the copies address it. -/
abbrev h96 (b : Memref sig .tc .vmem S2x96x1024 .f32) (g : ℕ) (h : ∀ a, (![g, 0, 0] : Fin 3 → ℕ) a + S1x96x1024.size a ≤ S2x96x1024.size a) :
    Memref sig .tc .vmem S96x1024 .f32 :=
  (b.slice (Rect.unit (s := S2x96x1024) ![g, 0, 0] S1x96x1024.size h) (fun _ => rfl)).squeeze S96x1024 squeezes_S1x96x1024_S96x1024
abbrev h32 (b : Memref sig .tc .vmem S2x32x1024 .f32) (g : ℕ) (h : ∀ a, (![g, 0, 0] : Fin 3 → ℕ) a + S1x32x1024.size a ≤ S2x32x1024.size a) :
    Memref sig .tc .vmem S32x1024 .f32 :=
  (b.slice (Rect.unit (s := S2x32x1024) ![g, 0, 0] S1x32x1024.size h) (fun _ => rfl)).squeeze S32x1024 squeezes_S1x32x1024_S32x1024
abbrev h128 (b : Memref sig .tc .vmem S2x128x1024 .f32) (g : ℕ) (h : ∀ a, (![g, 0, 0] : Fin 3 → ℕ) a + S1x128x1024.size a ≤ S2x128x1024.size a) :
    Memref sig .tc .vmem S128x1024 .f32 :=
  (b.slice (Rect.unit (s := S2x128x1024) ![g, 0, 0] S1x128x1024.size h) (fun _ => rfl)).squeeze S128x1024 squeezes_S1x128x1024_S128x1024
/-- One of the seven boxes the other squares' sums land in. -/
abbrev h7 (b : Memref sig .tc .vmem S7x32x1024 .f32) (g : ℕ) (h : ∀ a, (![g, 0, 0] : Fin 3 → ℕ) a + S1x32x1024.size a ≤ S7x32x1024.size a) :
    Memref sig .tc .vmem S32x1024 .f32 :=
  (b.slice (Rect.unit (s := S7x32x1024) ![g, 0, 0] S1x32x1024.size h) (fun _ => rfl)).squeeze S32x1024 squeezes_S1x32x1024_S32x1024
/-- Thirty-two rows of the working buffer from row `r`. -/
abbrev hw (b : Memref sig .tc .vmem S256x1024 .f32) (r : ℕ) (h : ∀ a, (![r, 0] : Fin 2 → ℕ) a + S32x1024.size a ≤ S256x1024.size a) :
    Memref sig .tc .vmem S32x1024 .f32 :=
  b.slice (Rect.unit (s := S256x1024) ![r, 0] S32x1024.size h) (fun _ => rfl)

abbrev sm2 (A : DmaSems sig S2) (g : ℕ) (h : ∀ a, (![g] : Fin 1 → ℕ) a + S1.size a ≤ S2.size a) : DmaSem sig :=
  ((A.slice (Rect.unit (s := S2) ![g] S1.size h)).squeeze S_ squeezes_S1_S_).sem
abbrev sm7 (A : DmaSems sig S7) (g : ℕ) (h : ∀ a, (![g] : Fin 1 → ℕ) a + S1.size a ≤ S7.size a) : DmaSem sig :=
  ((A.slice (Rect.unit (s := S7) ![g] S1.size h)).squeeze S_ squeezes_S1_S_).sem

/-! ## The copies -/

/-- A copy: what it reads here, where it lands there, the semaphore credited here and the one credited there. -/
structure Cp where
  sh : Shape
  src : Memref sig .tc .vmem sh .f32
  dst : Memref sig .tc .vmem sh .f32
  sS : DmaSem sig
  rS : DmaSem sig

abbrev c96 (g : ℕ) (h : g < 2 := by decide) : Cp :=
  ⟨S96x1024, h96 drxM g (by intro a; fin_cases a <;> simp <;> omega), h96 irxM g (by intro a; fin_cases a <;> simp <;> omega),
    sm2 cc0_scratch10 g (by intro a; fin_cases a; simp; omega), sm2 cc0_scratch11 g (by intro a; fin_cases a; simp; omega)⟩
abbrev c32 (g : ℕ) (h : g < 2 := by decide) : Cp :=
  ⟨S32x1024, h32 dryM g (by intro a; fin_cases a <;> simp <;> omega), h32 iryM g (by intro a; fin_cases a <;> simp <;> omega),
    sm2 cc0_scratch12 g (by intro a; fin_cases a; simp; omega), sm2 cc0_scratch13 g (by intro a; fin_cases a; simp; omega)⟩
abbrev c128a (g : ℕ) (h : g < 2 := by decide) : Cp :=
  ⟨S128x1024, h128 mbM g (by intro a; fin_cases a <;> simp <;> omega), h128 ia1M g (by intro a; fin_cases a <;> simp <;> omega),
    sm2 cc0_scratch14 g (by intro a; fin_cases a; simp; omega), sm2 cc0_scratch15 g (by intro a; fin_cases a; simp; omega)⟩
abbrev c128b (g : ℕ) (h : g < 2 := by decide) : Cp :=
  ⟨S128x1024, h128 mcM g (by intro a; fin_cases a <;> simp <;> omega), h128 ia2M g (by intro a; fin_cases a <;> simp <;> omega),
    sm2 cc0_scratch16 g (by intro a; fin_cases a; simp; omega), sm2 cc0_scratch17 g (by intro a; fin_cases a; simp; omega)⟩
/-- The sum for the square `j + 1` further on: rows `32 j` of the working buffer (`r`), into box `6 - j` (`b`). -/
abbrev c7 (j r b : ℕ) (hj : j < 7 := by decide) (hr : r + 32 ≤ 256 := by decide) (hb : b < 7 := by decide) : Cp :=
  ⟨S32x1024, hw wkM r (by intro a; fin_cases a <;> simp <;> omega), h7 ibM b (by intro a; fin_cases a <;> simp <;> omega),
    sm7 cc0_scratch18 j (by intro a; fin_cases a; simp; omega), sm7 cc0_scratch19 b (by intro a; fin_cases a; simp; omega)⟩

/-- The fifteen copies in program order. -/
def cp : Fin 15 → Cp
  | 0 => c96 0 | 1 => c32 0 | 2 => c96 1 | 3 => c32 1
  | 4 => c128a 0 | 5 => c128a 1 | 6 => c128b 0 | 7 => c128b 1
  | 8 => c7 0 0 6 | 9 => c7 1 32 5 | 10 => c7 2 64 4 | 11 => c7 3 96 3 | 12 => c7 4 128 2 | 13 => c7 5 160 1 | 14 => c7 6 192 0

/-- The bytes copy `k` credits. -/
def amt (k : Fin 15) : ℕ := (cp k).dst.view.dmaCredit
/-- Every copy credits something. -/
theorem amt_pos (k : Fin 15) : 0 < amt k := View.dmaCredit_pos _ (by revert k; decide)

end Cert.KProof

end
-- ==== Proof.Contents.lean ====
/-
# The contents

What each buffer holds, as functions of the devices' blocks `xv` of the first argument and `wv` of the second, row and
column by row and column. `dn c e` is device `c`'s partial product for row block `e` of the result. The result of a
device is the sum of the thirty-two devices' partial products for its row block, in the order the kernel adds them.
-/
module

public import proofs.«01_k».proof.Proof.Mesh

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- A block of rows of the first argument times the block of the second. -/
abbrev dotBlk (a : Vec F S32x32 .f32) (w : Vec F S32x1024 .f32) : FVec F S32x1024 .f32 :=
  matmul (F := F) (φ₁ := .f32) (φ₂ := .f32) dot_S32x32_S32x1024_S32x1024_1_0_0_1_n_n none a w (constant S32x1024 .f32 0x00000000#32)

/-- Row block `e` of a device's block of the first argument. -/
def rowsX (x : Vec F S1024x32 .f32) (e : ℕ) : Vec F S32x32 .f32 :=
  fun i => x (ix2 ⟨(32 * e + (i 0).val) % 1024, Nat.mod_lt _ (by decide)⟩ (i 1))

section
variable (xv : Dev nD → Vec F S1024x32 .f32) (wv : Dev nD → Vec F S32x1024 .f32)

/-- Device `c`'s partial product for row block `e`, at row `r` of the block. -/
def dn (c : Dev nD) (e r : ℕ) (k : Fin 1024) : F .f32 :=
  dotBlk (rowsX (xv c) e) (wv c) (ix2 ⟨r % 32, Nat.mod_lt _ (by decide)⟩ k)

/-- The opposite corner's rows that go by the first neighbour, and those that go by the second; half `g` of each. -/
def drx (c : Dev nD) (g r : ℕ) (k : Fin 1024) : F .f32 := dn xv wv c (slot c (4 * g + r / 32) * 4 + qd (c.val % 4)) r k
def dry (c : Dev nD) (g r : ℕ) (k : Fin 1024) : F .f32 := dn xv wv c (slot c (4 * g + 3) * 4 + qd (c.val % 4)) r k
/-- The neighbours' rows as first computed, -/
def mb0 (c : Dev nD) (g r : ℕ) (k : Fin 1024) : F .f32 := dn xv wv c (slot c (4 * g + r / 32) * 4 + q1 (c.val % 4)) r k
def mc0 (c : Dev nD) (g r : ℕ) (k : Fin 1024) : F .f32 := dn xv wv c (slot c (4 * g + r / 32) * 4 + q2 (c.val % 4)) r k
/-- and with the detour's rows added. -/
def mb (c : Dev nD) (g r : ℕ) (k : Fin 1024) : F .f32 :=
  if 96 ≤ r then FloatOps.addf (mb0 xv wv c g r k) (dry xv wv (dv2 c) g (r - 96) k) else mb0 xv wv c g r k
def mc (c : Dev nD) (g r : ℕ) (k : Fin 1024) : F .f32 :=
  if r < 96 then FloatOps.addf (mc0 xv wv c g r k) (drx xv wv (dv1 c) g r k) else mc0 xv wv c g r k
/-- The device's own rows as first computed, and with both neighbours' sums added. -/
def w0 (c : Dev nD) (r : ℕ) (k : Fin 1024) : F .f32 := dn xv wv c (slot c (r / 32) * 4 + c.val % 4) r k
def wk (c : Dev nD) (r : ℕ) (k : Fin 1024) : F .f32 :=
  FloatOps.addf (FloatOps.addf (w0 xv wv c r k) (mb xv wv (dv1 c) (r / 128) (r % 128) k)) (mc xv wv (dv2 c) (r / 128) (r % 128) k)
/-- Box `b`: the sum of the square `b + 1` further on for this device's square. -/
def ib (c : Dev nD) (b r : ℕ) (k : Fin 1024) : F .f32 := wk xv wv (sq (b + 1) c) (32 * (6 - b) + r) k
/-- The eight squares' sums added up. -/
def tot (c : Dev nD) (r : ℕ) (k : Fin 1024) : F .f32 :=
  FloatOps.addf (FloatOps.addf (FloatOps.addf (FloatOps.addf (FloatOps.addf (FloatOps.addf (FloatOps.addf
    (wk xv wv c (224 + r) k) (ib xv wv c 6 r k)) (ib xv wv c 5 r k)) (ib xv wv c 4 r k)) (ib xv wv c 3 r k))
    (ib xv wv c 2 r k)) (ib xv wv c 1 r k)) (ib xv wv c 0 r k)
def res (c : Dev nD) (r : ℕ) (k : Fin 1024) : F .f32 :=
  FloatOps.maximumf (tot xv wv c r k) (Scalar.ofBits .f32 0x00000000#32)

/-! The same as contents of the buffers. -/

/-- A function of two numbers and a column as contents of a buffer of three axes; -/
abbrev on3 {a b : ℕ} (f : ℕ → ℕ → Fin 1024 → F .f32) : Vec F ⟨3, ![a, b, 1024]⟩ .f32 := fun i => f (i 0).val (i 1).val (i 2)
/-- of a number and a column, of a buffer of two. -/
abbrev on2 {a : ℕ} (f : ℕ → Fin 1024 → F .f32) : Vec F ⟨2, ![a, 1024]⟩ .f32 := fun i => f (i 0).val (i 1)

/-- What copy `k` reads on device `c`, -/
def srcC : (k : Fin 15) → (c : Dev nD) → Buf (Elt F) ((cp k).src.view.loc (c : Thread nD τ))
  | 0, c => on3 (drx xv wv c) | 1, c => on3 (dry xv wv c) | 2, c => on3 (drx xv wv c) | 3, c => on3 (dry xv wv c)
  | 4, c => on3 (mb xv wv c) | 5, c => on3 (mb xv wv c) | 6, c => on3 (mc xv wv c) | 7, c => on3 (mc xv wv c)
  | 8, c => on2 (wk xv wv c) | 9, c => on2 (wk xv wv c) | 10, c => on2 (wk xv wv c) | 11, c => on2 (wk xv wv c)
  | 12, c => on2 (wk xv wv c) | 13, c => on2 (wk xv wv c) | 14, c => on2 (wk xv wv c)
/-- and what the one landing on it brings. -/
def dstC : (k : Fin 15) → (c : Dev nD) → Buf (Elt F) ((cp k).dst.view.loc (c : Thread nD τ))
  | 0, c => on3 (drx xv wv (frD 0 c)) | 1, c => on3 (dry xv wv (frD 1 c)) | 2, c => on3 (drx xv wv (frD 2 c)) | 3, c => on3 (dry xv wv (frD 3 c))
  | 4, c => on3 (mb xv wv (frD 4 c)) | 5, c => on3 (mb xv wv (frD 5 c)) | 6, c => on3 (mc xv wv (frD 6 c)) | 7, c => on3 (mc xv wv (frD 7 c))
  | 8, c => on3 (ib xv wv c) | 9, c => on3 (ib xv wv c) | 10, c => on3 (ib xv wv c) | 11, c => on3 (ib xv wv c)
  | 12, c => on3 (ib xv wv c) | 13, c => on3 (ib xv wv c) | 14, c => on3 (ib xv wv c)

/-- A sum sent to another square lands as that square's box. -/
theorem land7 (c c' : Dev nD) (j r b : ℕ) (hj : j < 7) (hr : r + 32 ≤ 256) (hb : b < 7) (e1 : r = 32 * j) (e2 : b = 6 - j) (hc : sq (b + 1) c' = c) :
    (c7 j r b hj hr hb).dst.view.read (Elt F) (on3 (ib xv wv c') : Buf (Elt F) ((c7 j r b hj hr hb).dst.view.loc (c' : Thread nD τ)))
      = (c7 j r b hj hr hb).src.view.read (Elt F) (on2 (wk xv wv c) : Buf (Elt F) ((c7 j r b hj hr hb).src.view.loc (c : Thread nD τ))) := by
  subst hc
  funext x
  have he : Shape.reshapeEquiv (s := S1x32x1024) (s' := S32x1024) squeezes_S1x32x1024_S32x1024.numel_eq x = Fin.cons ⟨0, Nat.one_pos⟩ x :=
    Shape.reshapeEquiv_cons_one _ x
  show ib xv wv c' ((Rect.unit (s := S7x32x1024) ![b, 0, 0] S1x32x1024.size _).emb
        (Shape.reshapeEquiv (s := S1x32x1024) (s' := S32x1024) squeezes_S1x32x1024_S32x1024.numel_eq x) 0).val
      ((Rect.unit (s := S7x32x1024) ![b, 0, 0] S1x32x1024.size _).emb
        (Shape.reshapeEquiv (s := S1x32x1024) (s' := S32x1024) squeezes_S1x32x1024_S32x1024.numel_eq x) 1).val
      ((Rect.unit (s := S7x32x1024) ![b, 0, 0] S1x32x1024.size _).emb
        (Shape.reshapeEquiv (s := S1x32x1024) (s' := S32x1024) squeezes_S1x32x1024_S32x1024.numel_eq x) 2)
    = wk xv wv (sq (b + 1) c') ((Rect.unit (s := S256x1024) ![r, 0] S32x1024.size _).emb x 0).val
      ((Rect.unit (s := S256x1024) ![r, 0] S32x1024.size _).emb x 1)
  rw [he]
  unfold ib
  have e3 : ∀ y : Fin 32, 32 * (6 - (b + 1 * 0)) + (0 + 1 * y.val) = r + 1 * y.val := by intro y; omega
  refine (congrArg (fun n => wk xv wv (sq (b + 1) c') n _) (e3 (x 0))).trans (congrArg (wk xv wv (sq (b + 1) c') (r + 1 * (x 0).val)) (Fin.ext ?_))
  show 0 + 1 * (x 1).val = 0 + 1 * (x 1).val
  rfl

/-- What copy `k` lands is what its source holds. -/
theorem land (k : Fin 15) (c : Dev nD) :
    (cp k).dst.view.read (Elt F) (dstC xv wv k (toD k c)) = (cp k).src.view.read (Elt F) (srcC xv wv k c) := by
  fin_cases k
  · show (c96 0).dst.view.read (Elt F) (on3 (drx xv wv (frD 0 (toD 0 c)))) = _; rw [fr_to]; rfl
  · show (c32 0).dst.view.read (Elt F) (on3 (dry xv wv (frD 1 (toD 1 c)))) = _; rw [fr_to]; rfl
  · show (c96 1).dst.view.read (Elt F) (on3 (drx xv wv (frD 2 (toD 2 c)))) = _; rw [fr_to]; rfl
  · show (c32 1).dst.view.read (Elt F) (on3 (dry xv wv (frD 3 (toD 3 c)))) = _; rw [fr_to]; rfl
  · show (c128a 0).dst.view.read (Elt F) (on3 (mb xv wv (frD 4 (toD 4 c)))) = _; rw [fr_to]; rfl
  · show (c128a 1).dst.view.read (Elt F) (on3 (mb xv wv (frD 5 (toD 5 c)))) = _; rw [fr_to]; rfl
  · show (c128b 0).dst.view.read (Elt F) (on3 (mc xv wv (frD 6 (toD 6 c)))) = _; rw [fr_to]; rfl
  · show (c128b 1).dst.view.read (Elt F) (on3 (mc xv wv (frD 7 (toD 7 c)))) = _; rw [fr_to]; rfl
  · exact land7 xv wv c _ 0 0 6 (by decide) (by decide) (by decide) rfl rfl (fr_to 8 c)
  · exact land7 xv wv c _ 1 32 5 (by decide) (by decide) (by decide) rfl rfl (fr_to 9 c)
  · exact land7 xv wv c _ 2 64 4 (by decide) (by decide) (by decide) rfl rfl (fr_to 10 c)
  · exact land7 xv wv c _ 3 96 3 (by decide) (by decide) (by decide) rfl rfl (fr_to 11 c)
  · exact land7 xv wv c _ 4 128 2 (by decide) (by decide) (by decide) rfl rfl (fr_to 12 c)
  · exact land7 xv wv c _ 5 160 1 (by decide) (by decide) (by decide) rfl rfl (fr_to 13 c)
  · exact land7 xv wv c _ 6 192 0 (by decide) (by decide) (by decide) rfl rfl (fr_to 14 c)

end

end Cert.KProof

end
-- ==== Proof.Schedule.lean ====
/-
# The protocol

Each device has a barrier cell, fifteen send cells and fifteen receive cells, each used for one round.

* Barrier cell of `c`: every other device signals it once, one unit; with it device `d` hands over those of its
  landing places that `c` copies into (`barPay`). `c` waits for all thirty-one before its first copy.
* Send cell `k` of `c`: credited when copy `k` has been read; hands its source back, contents unchanged.
* Receive cell `k` of `c`: credited when the copy `k` meant for `c` has landed; hands over the landing place holding
  `dstC k c`.

Levels: staging and send cells 0, barrier cells 1, receive cell `k` at `k + 2`. A device waits for receive cell `k`
only once it has started copies 0 to `k`, and it owes nobody anything when it waits for its sends.
-/
module

public import proofs.«01_k».proof.Proof.Contents

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem

open Idealize.ShloMosaic.Rounds

variable {F : FTy → Type} [FloatOps F]

/-! ## Cells -/

abbrev UB : Type := URounds (GSem nD τ sig) (Dev nD)
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

abbrev barS : Sem sig := (SemArray.scalar (sig.barrier 0 rfl) : Sems sig S_).sem

/-- A device's cells: the barrier's, and of each copy the send's (`false`) and the receive's (`true`). -/
abbrev CI : Type := Option (Fin 15 × Bool)
def csem : CI → SemLoc sig
  | none => .reg barS
  | some (k, false) => .dma (cp k).sS
  | some (k, true) => .dma (cp k).rS
/-- The cells' semaphores are all different. -/
theorem csem_inj : Function.Injective csem := by
  have h : ∀ i j : CI, csem i = csem j → i = j := by decide +kernel
  exact fun i j => h i j
/-- Which cell a semaphore is, if any of these. -/
def idx (sm : SemLoc sig) : Option CI := open Classical in if h : ∃ i, csem i = sm then some h.choose else none
/-- So each tells its cell. -/
theorem idx_csem (i : CI) : idx (csem i) = some i := by
  unfold idx; rw [dif_pos ⟨i, rfl⟩]; exact congrArg some (csem_inj (Exists.choose_spec (p := fun j => csem j = csem i) ⟨i, rfl⟩))

abbrev cell (ci : Dev nD × CI) : GSem nD τ sig := ((ci.1 : Thread nD τ), csem ci.2)
abbrev barC (c : Dev nD) : GSem nD τ sig := cell (c, none)
abbrev sndC (k : Fin 15) (c : Dev nD) : GSem nD τ sig := cell (c, some (k, false))
abbrev rcvC (k : Fin 15) (c : Dev nD) : GSem nD τ sig := cell (c, some (k, true))

/-- All cells of all devices are different. -/
theorem cell_inj : Function.Injective cell := by
  rintro ⟨c, i⟩ ⟨d, j⟩ h
  have h1 : c = d := congrArg (fun g : GSem nD τ sig => g.1.1) h
  have h2 : i = j := csem_inj (congrArg Prod.snd h)
  rw [h1, h2]

/-! ## What the cells hand over -/

section
variable (xv : Dev nD → Vec F S1024x32 .f32) (wv : Dev nD → Vec F S32x1024 .f32)

/-- Device `c`'s place for the landing of copy `k`, at whatever contents. -/
def lndAny (k : Fin 15) (c : Dev nD) : sProp 𝕄 :=
  iprop(∃ f, (cp k).dst.view.loc (c : Thread nD τ) ↦[(cp k).dst.view.set]{fullShare} f)
/-- The same holding what is to land there. -/
def lnd (k : Fin 15) (c : Dev nD) : sProp 𝕄 := (cp k).dst.view.loc (c : Thread nD τ) ↦[(cp k).dst.view.set]{fullShare} dstC xv wv k c
/-- The source of copy `k`, holding what is to be sent. -/
def srcP (k : Fin 15) (c : Dev nD) : sProp 𝕄 := (cp k).src.view.loc (c : Thread nD τ) ↦[(cp k).src.view.set]{fullShare} srcC xv wv k c
/-- What device `d`'s signal hands device `c`: those of `d`'s landing places that `c` copies into. -/
def barPay (c d : Dev nD) : sProp 𝕄 := bigSep (Finset.univ.filter fun k : Fin 15 => toD k c = d) fun k => lndAny k d

instance lndAny_storable (k : Fin 15) (c : Dev nD) : BI.Storable (upEmb : UEmb _ 𝕄) (lndAny (F := F) k c) := by unfold lndAny; infer_instance
instance lnd_storable (k : Fin 15) (c : Dev nD) : BI.Storable (upEmb : UEmb _ 𝕄) (lnd xv wv k c) := by unfold lnd; infer_instance
instance srcP_storable (k : Fin 15) (c : Dev nD) : BI.Storable (upEmb : UEmb _ 𝕄) (srcP xv wv k c) := by unfold srcP; infer_instance
instance barPay_storable (c d : Dev nD) : BI.Storable (upEmb : UEmb _ 𝕄) (barPay (F := F) c d) := by unfold barPay; infer_instance

def dutiesI (c : Dev nD) : Option CI → Finset (Dev nD)
  | some none => Finset.univ.erase c
  | some (some _) => {(0 : Fin 32)}
  | none => ∅
def amountI : Option CI → ℕ
  | some (some (k, _)) => amt k
  | _ => 1
def payI (c d : Dev nD) : Option CI → sProp 𝕄
  | some none => barPay c d
  | some (some (k, false)) => srcP xv wv k c
  | some (some (k, true)) => lnd xv wv k c
  | none => iprop(emp)

/-- The schedule: one round, round 0. -/
def Rd : Rounds.Schedule (GSem nD τ sig) (Dev nD) 𝕄 where
  duties g r := if r = 0 then dutiesI g.1.1 (idx g.2) else ∅
  amount g _ _ := amountI (idx g.2)
  payload g _ d := payI xv wv g.1.1 d (idx g.2)
  unitless _ := False
  amount_pos g _ _ _ := by
    show 0 < amountI (idx g.2)
    rcases idx g.2 with _ | _ | ⟨k, b⟩
    · exact Nat.one_pos
    · exact Nat.one_pos
    · exact amt_pos k

instance Rd_storable (g : GSem nD τ sig) (r : ℕ) (d : Dev nD) : BI.Storable (upEmb : UEmb _ 𝕄) ((Rd xv wv).payload g r d) := by
  show BI.Storable upEmb (payI xv wv g.1.1 d (idx g.2))
  rcases idx g.2 with _ | _ | ⟨k, _ | _⟩ <;> (dsimp only [payI]; infer_instance)

/-- Who pays into a cell in round 0: what `dutiesI` says of it. -/
theorem duties_cell (c : Dev nD) (i : CI) : (Rd xv wv).duties (cell (c, i)) 0 = dutiesI c (some i) := by
  show (if 0 = 0 then dutiesI c (idx (csem i)) else ∅) = _; rw [if_pos rfl, idx_csem]
/-- Nobody pays later. -/
theorem duties_later (g : GSem nD τ sig) : ∀ r, 1 ≤ r → (Rd xv wv).duties g r = ∅ := fun r hr => if_neg (by omega)
/-- How much each pays, -/
theorem amount_cell (c d : Dev nD) (i : CI) : (Rd xv wv).amount (cell (c, i)) 0 d = amountI (some i) := by
  show amountI (idx (csem i)) = _; rw [idx_csem]
/-- and what it hands over. -/
theorem payload_cell (c d : Dev nD) (i : CI) : (Rd xv wv).payload (cell (c, i)) 0 d = payI xv wv c d (some i) := by
  show payI xv wv c d (idx (csem i)) = _; rw [idx_csem]

/-- A barrier cell gets thirty-one units, -/
theorem expect_bar (c : Dev nD) : (Rd xv wv).expect (barC c) 0 = 31 := by
  unfold Schedule.expect Schedule.amountOf
  rw [duties_cell, Finset.sum_congr rfl fun d _ => amount_cell xv wv c d none]
  show ∑ d ∈ Finset.univ.erase c, 1 = 31
  rw [Finset.sum_const, Finset.card_erase_of_mem (Finset.mem_univ _), Finset.card_univ]
  show 31 • 1 = 31
  rfl
/-- a copy's cell the copy's bytes. -/
theorem expect_dma (c : Dev nD) (k : Fin 15) (b : Bool) : (Rd xv wv).expect (cell (c, some (k, b))) 0 = amt k := by
  unfold Schedule.expect Schedule.amountOf
  rw [duties_cell, Finset.sum_congr rfl fun d _ => amount_cell xv wv c d (some (k, b))]
  exact Finset.sum_singleton _ _

/-- All a device's barrier wait collects: the places it copies into. -/
theorem rest_bar (c : Dev nD) :
    bigSep ((Rd xv wv).duties (barC c) 0 \ ∅) (fun d => (Rd xv wv).payload (barC c) 0 d) ⊢ bigSep Finset.univ fun k : Fin 15 => lndAny (F := F) k (toD k c) := by
  rw [Finset.sdiff_empty, duties_cell]
  show bigSep (Finset.univ.erase c) _ ⊢ _
  rw [bigSep_congr (Ψ := fun d => barPay c d) fun d _ => payload_cell xv wv c d none]
  have h : (Finset.univ : Finset (Fin 15)) = (Finset.univ.erase c).biUnion fun d => Finset.univ.filter fun k : Fin 15 => toD k c = d := by
    ext k
    simp only [Finset.mem_univ, Finset.mem_biUnion, Finset.mem_erase, Finset.mem_filter, true_and, true_iff]
    exact ⟨toD k c, ⟨to_ne k c, trivial⟩, rfl⟩
  rw [h]
  refine (bigSep_mono fun d _ => ?_).trans (bigSep_biUnion _ _)
  unfold barPay
  exact Entails.of_eq (bigSep_congr fun k hk => by rw [(Finset.mem_filter.mp hk).2])
/-- All a send wait collects: the source. -/
theorem rest_snd (c : Dev nD) (k : Fin 15) :
    bigSep ((Rd xv wv).duties (sndC k c) 0 \ ∅) (fun d => (Rd xv wv).payload (sndC k c) 0 d) = srcP xv wv k c := by
  rw [Finset.sdiff_empty, duties_cell]
  show bigSep {(0 : Fin 32)} _ = _
  rw [bigSep_singleton, payload_cell]; rfl
/-- All a receive wait collects: the landing place with what landed. -/
theorem rest_rcv (c : Dev nD) (k : Fin 15) :
    bigSep ((Rd xv wv).duties (rcvC k c) 0 \ ∅) (fun d => (Rd xv wv).payload (rcvC k c) 0 d) = lnd xv wv k c := by
  rw [Finset.sdiff_empty, duties_cell]
  show bigSep {(0 : Fin 32)} _ = _
  rw [bigSep_singleton, payload_cell]; rfl

end

/-! ## What is owed -/

/-- How many devices after `c` the device `e` comes. -/
def rel (c e : Dev nD) : ℕ := (e.val + 32 - c.val) % 32

/-- What `c` owes when its last `n` copies are still to start; -/
def OR (c : Dev nD) (n : ℕ) : CellTallies nD τ sig Unit :=
  ∑ k ∈ Finset.univ.filter (fun k : Fin 15 => 15 ≤ k.val + n), tallyAt (rcvC k (toD k c)) () (amt k)
/-- and when all of them and its last `n` signals are. -/
def OS (c : Dev nD) (n : ℕ) : CellTallies nD τ sig Unit :=
  OR c 15 + ∑ e ∈ Finset.univ.filter (fun e : Dev nD => 31 < rel c e + n), tallyAt (barC e) () 1

/-- With no copy left nothing is owed; -/
theorem OR_zero (c : Dev nD) : OR c 0 = 0 := by
  unfold OR
  rw [Finset.filter_false_of_mem fun k _ => by have := k.isLt; omega, Finset.sum_empty]
/-- the start of copy `k` pays its landing. -/
theorem OR_succ (c : Dev nD) (k : Fin 15) (n : ℕ) (h : k.val + n = 14) : OR c (n + 1) = OR c n + tallyAt (rcvC k (toD k c)) () (amt k) := by
  unfold OR
  have e : Finset.univ.filter (fun j : Fin 15 => 15 ≤ j.val + (n + 1)) = insert k (Finset.univ.filter (fun j : Fin 15 => 15 ≤ j.val + n)) := by
    ext j; simp only [Finset.mem_filter, Finset.mem_univ, true_and, Finset.mem_insert, Fin.ext_iff]; omega
  rw [e, Finset.sum_insert (by simp only [Finset.mem_filter]; omega), add_comm]
/-- The device the next signal goes to is the one that leaves the list of those still to signal, -/
theorem rel_step (e c n : ℕ) (he : e < 32) (hc : c < 32) (hn : n < 31) :
    31 < (e + 32 - c) % 32 + (n + 1) ↔ e = (c + (31 - n)) % 32 ∨ 31 < (e + 32 - c) % 32 + n := by omega
/-- and it is on it once. -/
theorem rel_rot (c n : ℕ) (hc : c < 32) (hn : n < 31) : ¬ 31 < ((c + (31 - n)) % 32 + 32 - c) % 32 + n := by omega
/-- The devices with `n + 1` signals left are those with `n` left and the next one; -/
theorem filter_rel (c : Dev nD) (n : ℕ) (hn : n < 31) :
    Finset.univ.filter (fun e : Dev nD => 31 < rel c e + (n + 1)) = insert (rot (31 - n) c) (Finset.univ.filter (fun e : Dev nD => 31 < rel c e + n)) := by
  ext e
  simp only [Finset.mem_filter, Finset.mem_univ, true_and, Finset.mem_insert, Fin.ext_iff]
  exact rel_step e.val c.val n e.isLt c.isLt hn
/-- the next one is not among those left after it, -/
theorem rot_notMem (c : Dev nD) (n : ℕ) (hn : n < 31) : rot (31 - n) c ∉ Finset.univ.filter (fun e : Dev nD => 31 < rel c e + n) := by
  simp only [Finset.mem_filter, Finset.mem_univ, true_and]
  exact rel_rot c.val n c.isLt hn
/-- and it is not the device itself. -/
theorem rot_ne (c : Dev nD) (n : ℕ) (hn : n < 31) : rot (31 - n) c ≠ c := by
  intro h
  have h1 : (c.val + (31 - n)) % 32 = c.val := congrArg Fin.val h
  have h2 : c.val < 32 := c.isLt
  omega
/-- With no signal left only the copies are owed; -/
theorem OS_zero (c : Dev nD) : OS c 0 = OR c 15 := by
  unfold OS
  have e : Finset.univ.filter (fun e : Dev nD => 31 < rel c e + 0) = ∅ :=
    Finset.filter_false_of_mem fun e _ => by have := Nat.mod_lt (e.val + 32 - c.val) (show 32 > 0 by decide); unfold rel; omega
  rw [e, Finset.sum_empty, add_zero]
/-- a signal pays one unit to the next device's barrier. -/
theorem OS_succ (c : Dev nD) (n : ℕ) (hn : n < 31) : OS c (n + 1) = OS c n + tallyAt (barC (rot (31 - n) c)) () 1 := by
  unfold OS
  rw [filter_rel c n hn, Finset.sum_insert (rot_notMem c n hn), add_assoc]
  congr 1; rw [add_comm]

def lvI : Option CI → ℕ
  | some none => 1
  | some (some (k, true)) => k.val + 2
  | _ => 0
def L (g : GSem nD τ sig) : Finset Unit := if g.1.2 = .tc then {()} else ∅
def lv (g : GSem nD τ sig) (_ : Unit) : ℕ := lvI (idx g.2)

/-- Only the main cores' cells have a level; -/
theorem L_of_ne (g : GSem nD τ sig) (h : g.1.2 ≠ .tc) : L g = ∅ := if_neg h
/-- theirs all have one, -/
theorem L_tc (c : Dev nD) (sm : SemLoc sig) : L ((c : Thread nD τ), sm) = {()} := if_pos rfl
/-- the one `lvI` says. -/
theorem lv_cell (c : Dev nD) (i : CI) : lv (cell (c, i)) () = lvI (some i) := by show lvI (idx (csem i)) = _; rw [idx_csem]

/-- A sum of tallies, cell by cell. -/
theorem tallies_sum_apply {I : Type} (s : Finset I) (f : I → CellTallies nD τ sig Unit) (g : GSem nD τ sig) (u : Unit) :
    (∑ i ∈ s, f i) g u = ∑ i ∈ s, f i g u := by
  rw [Finset.sum_apply, Finsupp.finset_sum_apply]

/-- A tally at one cell is nowhere else. -/
theorem tallyAt_pos {g g' : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

/-- What the copies owe is owed to receive cells, of the last `n` copies; -/
theorem OR_pos {c : Dev nD} {n : ℕ} {g : GSem nD τ sig} {u : Unit} (h : 0 < OR c n g u) : ∃ k : Fin 15, 15 ≤ k.val + n ∧ g = rcvC k (toD k c) := by
  unfold OR at h
  rw [tallies_sum_apply] at h
  obtain ⟨k, hk, hp⟩ := Finset.exists_ne_zero_of_sum_ne_zero (Nat.pos_iff_ne_zero.mp h)
  exact ⟨k, (Finset.mem_filter.mp hk).2, tallyAt_pos (Nat.pos_of_ne_zero hp)⟩
/-- with the signals, to receive cells and barrier cells. -/
theorem OS_pos {c : Dev nD} {n : ℕ} {g : GSem nD τ sig} {u : Unit} (h : 0 < OS c n g u) :
    (∃ k : Fin 15, g = rcvC k (toD k c)) ∨ ∃ e, g = barC e := by
  unfold OS at h
  rw [Pi.add_apply, Finsupp.add_apply, tallies_sum_apply] at h
  by_cases h0 : 0 < OR c 15 g u
  · obtain ⟨k, -, hk⟩ := OR_pos h0; exact .inl ⟨k, hk⟩
  · have h1 : (∑ e ∈ Finset.univ.filter (fun e : Dev nD => 31 < rel c e + n), (tallyAt (barC e) () 1 : CellTallies nD τ sig Unit) g u) ≠ 0 := by omega
    obtain ⟨e, -, hp⟩ := Finset.exists_ne_zero_of_sum_ne_zero h1
    exact .inr ⟨e, tallyAt_pos (Nat.pos_of_ne_zero hp)⟩

/-- A cell below all that is owed may be waited for. -/
theorem mayWait_below (c : Dev nD) (sm : SemLoc sig) (O : CellTallies nD τ sig Unit) (l : ℕ) (hl : lv ((c : Thread nD τ), sm) () ≤ l)
    (hO : ∀ g u, 0 < O g u → ∃ (d : Dev nD) (i : CI), g = cell (d, i) ∧ l < lvI (some i)) :
    (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by obtain ⟨d, i, rfl, -⟩ := hO g u hg; exact Finset.mem_singleton_self _)
    (fun p hp => by rw [Finset.mem_singleton.mp hp]; exact hl)
    (fun g u hg => by obtain ⟨d, i, rfl, h⟩ := hO g u hg; show l < lv (cell (d, i)) (); rw [lv_cell]; exact h)

/-- So the staging copies may be waited for, -/
theorem mayWait_stage (c : Dev nD) (q : DmaSem sig) (hq : ∀ i, csem i ≠ .dma q) (O : CellTallies nD τ sig Unit) (hO : O = OS c 31 ∨ O = 0) :
    (levAts L lv : sProp 𝕄) ⊢ MayWait (c : Thread nD τ) (.dma q) () O := by
  refine mayWait_below c _ O 0 ?_ fun g u hg => ?_
  · show lvI (idx (.dma q)) ≤ 0
    unfold idx; rw [dif_neg fun ⟨i, h⟩ => hq i h]; exact Nat.le_refl 0
  · rcases hO with rfl | rfl
    · rcases OS_pos hg with ⟨k, rfl⟩ | ⟨e, rfl⟩
      · exact ⟨_, _, rfl, Nat.succ_pos _⟩
      · exact ⟨_, _, rfl, Nat.one_pos⟩
    · exact absurd hg (Nat.lt_irrefl 0)
/-- the barrier when the signals are made, -/
theorem mayWait_bar (c : Dev nD) : (levAts L lv : sProp 𝕄) ⊢ MayWait (c : Thread nD τ) (csem none) () (OR c 15) :=
  mayWait_below c _ _ 1 (by rw [show lv ((c : Thread nD τ), csem none) () = 1 from lv_cell c none]) fun g u hg => by
    obtain ⟨k, -, rfl⟩ := OR_pos hg; exact ⟨_, _, rfl, by show 1 < k.val + 2; omega⟩
/-- the landing of copy `k` when copies 0 to `k` are started, -/
theorem mayWait_rcv (c : Dev nD) (k : Fin 15) (n : ℕ) (h : k.val + n < 15) :
    (levAts L lv : sProp 𝕄) ⊢ MayWait (c : Thread nD τ) (csem (some (k, true))) () (OR c n) :=
  mayWait_below c _ _ (k.val + 2) (by rw [show lv ((c : Thread nD τ), csem (some (k, true))) () = k.val + 2 from lv_cell c _]) fun g u hg => by
    obtain ⟨j, hj, rfl⟩ := OR_pos hg; exact ⟨_, _, rfl, by show k.val + 2 < j.val + 2; omega⟩
/-- and anything when nothing is owed. -/
theorem mayWait_none (c : Dev nD) (sm : SemLoc sig) : (levAts L lv : sProp 𝕄) ⊢ MayWait (c : Thread nD τ) sm () 0 := by
  rw [MayWait_zero]; iintro -; iempintro

end Cert.KProof

end
-- ==== Proof.Steps.lean ====
/-
# The protocol's steps

One lemma for each kind of operation of the protocol, at a symbolic device and a symbolic copy: a signal, the barrier
wait, the start of a copy, the wait for a landing, the wait for a send. Each wait that ends a cell's one round also
closes the cell, so its counter at zero is the device's again.
-/
module

public import proofs.«01_k».proof.Proof.Schedule

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem

open Idealize.ShloMosaic.Rounds

variable {F : FTy → Type} [FloatOps F]

local notation "𝕄" => MT nD τ sig Unit (Elt F) ℕ UU ℕ

attribute [local irreducible] Idealize.SL.BI.bigSep

abbrev 𝒱₀ : Variants := Variants.none

/-- The weakest precondition on device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What a device owes, whatever it has waited for so far. -/
def owe (c : Dev nD) (O : CellTallies nD τ sig Unit) : sProp 𝕄 := iprop(∃ W, owes (c : Thread nD τ) O W)

/-- The token of the signal to `e` and what it hands over, for the last `n` signals. -/
def sigs (c : Dev nD) (n : ℕ) : sProp 𝕄 :=
  bigSep (Finset.univ.filter fun e : Dev nD => 31 < rel c e + n) fun e => iprop(dutyTok ER (barC e) 0 c ∗ barPay (F := F) e c)

/-- The two tokens copy `k` is paid with. -/
def tokK (k : Fin 15) (c : Dev nD) : sProp 𝕄 := iprop(dutyTok ER (sndC k c) 0 (0 : Fin 32) ∗ dutyTok ER (rcvC k (toD k c)) 0 (0 : Fin 32))
/-- All copy `k` needs besides its source. -/
def rdy (k : Fin 15) (c : Dev nD) : sProp 𝕄 := iprop(tokK (F := F) k c ∗ lndAny (F := F) k (toD k c))
/-- What waiting for the landing of copy `k` needs. -/
def rcvK (k : Fin 15) (c : Dev nD) : sProp 𝕄 := iprop(atPos ER (rcvC k c) 0 ∅ 0 ∗ cred (tallyAt (rcvC k c) () (amt k)))
def zr (k : Fin 15) (c : Dev nD) : sProp 𝕄 := semVal (rcvC k c) 0
def zs (k : Fin 15) (c : Dev nD) : sProp 𝕄 := semVal (sndC k c) 0
def zb (c : Dev nD) : sProp 𝕄 := semVal (barC c) 0

/-- A big star over one more index. -/
theorem bigSep_ins {I : Type} [DecidableEq I] {s : Finset I} {i : I} (hi : i ∉ s) (Φ : I → sProp 𝕄) :
    bigSep (insert i s) Φ = iprop(Φ i ∗ bigSep s Φ) := bigSep_insert hi

section
variable (xv : Dev nD → Vec F S1024x32 .f32) (wv : Dev nD → Vec F S32x1024 .f32) (K : Dev nD × CI → ℕ)

/-- Every cell's invariant, that every cell has reached round 0, and the levels. -/
def recs : sProp 𝕄 :=
  iprop((bigSep Finset.univ fun ci : Dev nD × CI => cellInv ER (Rd xv wv) (K ci) (cell ci))
    ∗ (bigSep Finset.univ fun ci : Dev nD × CI => reached ER (cell ci) 0) ∗ levAts L lv)
instance recs_persistent : BI.Persistent (recs xv wv K) := by unfold recs; infer_instance

/-- Of these, one cell's invariant, -/
theorem recs_inv (ci : Dev nD × CI) : recs xv wv K ⊢ cellInv ER (Rd xv wv) (K ci) (cell ci) := by
  unfold recs; iintro ⟨H, -, -⟩
  have h : (bigSep Finset.univ fun ci : Dev nD × CI => (cellInv ER (Rd xv wv) (K ci) (cell ci) : sProp 𝕄)) ⊢ cellInv ER (Rd xv wv) (K ci) (cell ci) :=
    bigSep_elim (Finset.mem_univ ci)
  iapply h; iexact H
/-- that it has reached round 0, -/
theorem recs_reached (ci : Dev nD × CI) : recs xv wv K ⊢ reached ER (cell ci) 0 := by
  unfold recs; iintro ⟨-, H, -⟩
  have h : (bigSep Finset.univ fun ci : Dev nD × CI => (reached ER (cell ci) 0 : sProp 𝕄)) ⊢ reached ER (cell ci) 0 := bigSep_elim (Finset.mem_univ ci)
  iapply h; iexact H
/-- and the levels. -/
theorem recs_lev : recs xv wv K ⊢ levAts L lv := by
  unfold recs; iintro ⟨-, -, H⟩; iexact H

/-- The wait for the send of copy `k`: what it needs once the copy is started. -/
def sndK (k : Fin 15) (c : Dev nD) : sProp 𝕄 := iprop(atPos ER (sndC k c) 0 ∅ 0 ∗ cred (tallyAt (sndC k c) () (amt k)))

/-- A signal. -/
theorem sig_step (c n' : Dev nD) (n : ℕ) (hn : n < 31) (he : n' = rot (31 - n) c)
    {α : Type} {Q : α → sProp 𝕄} {k : PUnit → Prog (TpuEff nD τ sig (Elt F) Λ₀ .tc) α} :
    iprop(recs xv wv K ∗ owe (F := F) c (OS c (n + 1)) ∗ sigs (F := F) c (n + 1))
      ⊢ iprop((iprop(owe (F := F) c (OS c n) ∗ sigs (F := F) c n) -∗ WP c (k ⟨⟩) Q)
        -∗ WP c (.op (.semSignal (Dev.tc n' : Thread nD τ) barS 1) k) Q) := by
  subst he
  unfold owe sigs
  rw [filter_rel c n hn, bigSep_ins (rot_notMem c n hn)]
  iintro ⟨#HI, ⟨%W, HO⟩, ⟨Htok, Hpay⟩, Hrest⟩ Hk
  iapply (Rounds.wp_signal 𝒱₀ ER (Rd xv wv) (c : Thread nD τ) none (dst := (rot (31 - n) c : Thread nD τ)) (κ := K (rot (31 - n) c, none))
      (d := c) (show c ∈ (Rd xv wv).duties (barC (rot (31 - n) c)) 0 by rw [duties_cell]; exact Finset.mem_erase.mpr ⟨(rot_ne c n hn).symm, Finset.mem_univ _⟩)
      (amount_cell xv wv (rot (31 - n) c) c none) () (OS c n) (OS_succ c n hn)) $$ [HO Htok Hpay]
  · isplitr; · iapply (recs_inv xv wv K (rot (31 - n) c, none)); iexact HI
    isplitl [HO]; · iexact HO
    isplitl [Htok]; · iexact Htok
    isplitl [Hpay]
    · iapply (show barPay (rot (31 - n) c) c ⊢ (Rd xv wv).payload ((rot (31 - n) c : Thread nD τ), .reg barS) 0 c from Entails.of_eq (payload_cell xv wv (rot (31 - n) c) c none).symm)
      iexact Hpay
    iapply (recs_reached xv wv K (rot (31 - n) c, none)); iexact HI
  iintro HO
  iapply Hk
  isplitl [HO]; · iexists W; iexact HO
  iexact Hrest

/-- The barrier wait: every place this device copies into is its to write. -/
theorem bar_step (c : Dev nD) {α : Type} {Q : α → sProp 𝕄} {k : PUnit → Prog (TpuEff nD τ sig (Elt F) Λ₀ .tc) α} :
    iprop(recs xv wv K ∗ owe (F := F) c (OS c 0) ∗ atPos ER (barC c) 0 ∅ 0 ∗ cred (tallyAt (barC c) () 31))
      ⊢ iprop((iprop(owe (F := F) c (OR c 15) ∗ zb (F := F) c ∗ bigSep Finset.univ fun k : Fin 15 => lndAny (F := F) k (toD k c)) -∗ WP c (k ⟨⟩) Q)
        -∗ WP c (.op (.semWait barS 31) k) Q) := by
  unfold owe
  rw [OS_zero]
  iintro ⟨#HI, ⟨%W, HO⟩, Hat, Hcr⟩ Hk
  iapply (Rounds.wp_wait_rest_token 𝒱₀ ER (Rd xv wv) (c : Thread nD τ) none (κ := K (c, none))
      (wpE_semWait_eq 𝒱₀ (c : Thread nD τ) none Set.univ) (Set.mem_univ _) () (O := OR c 15) (W := W) (R := 0) (m := 0) (T := ∅)
      (by rw [Nat.zero_add]; exact (expect_bar xv wv c).symm)) $$ [HO Hat Hcr]
  · isplitr; · iapply (recs_inv xv wv K (c, none)); iexact HI
    isplitl [Hcr]; · iexact Hcr
    isplitl [HO]; · iexact HO
    isplitr
    · iapply ((recs_lev xv wv K).trans (mayWait_bar (F := F) c)); iexact HI
    iexact Hat
  iintro ⟨HO, Hat, -, Hpay⟩
  ihave Hp := (show bigSep ((Rd xv wv).duties ((c : Thread nD τ), .reg barS) 0 \ ∅) (fun d => (Rd xv wv).payload ((c : Thread nD τ), .reg barS) 0 d)
    ⊢ bigSep Finset.univ fun k : Fin 15 => lndAny (F := F) k (toD k c) from rest_bar xv wv c) $$ Hpay
  imod (Rounds.cell_close ER (Rd xv wv) (Set.mem_univ (K (c, none))) (fun h => h) (R := 0 + 1) (duties_later xv wv (barC c))) $$ [Hat] with Hz
  · isplitr; · iapply (recs_inv xv wv K (c, none)); iexact HI
    iexact Hat
  iapply Hk
  isplitl [HO]; · iexists _; iexact HO
  isplitl [Hz]; · unfold zb; iexact Hz
  iexact Hp

/-- Copy `k` landing on contents `fd` lands its contents. -/
theorem lnd_of (k : Fin 15) (c : Dev nD) (fd : Buf (Elt F) ((cp k).dst.view.loc (toD k c : Thread nD τ))) :
    ((cp k).dst.view.loc (toD k c : Thread nD τ) ↦[(cp k).dst.view.set]{fullShare}
        (cp k).dst.view.write (Elt F) fd ((cp k).src.view.read (Elt F) (srcC xv wv k c)) Finset.univ : sProp 𝕄)
      ⊢ lnd xv wv k (toD k c) := by
  unfold lnd
  rw [← land xv wv k c]
  rw [View.write_read_eq_piecewise, View.setOn_univ]
  exact Entails.of_eq (pointsTo_congr fun i hi => Finset.piecewise_eq_of_mem _ _ _ hi)

/-- The start of copy `k`. -/
theorem send_step (k : Fin 15) (p : Cp) (hp : cp k = p) (c n' : Dev nD) (he : n' = toD k c) (n n1 : ℕ) (hn : k.val + n = 14) (hn1 : n1 = n + 1)
    {hsc : p.dst.view.ref.isScScratch = false}
    {hsrc : p.src.view.WordExact} {hdst : p.dst.view.WordExact}
    {hsem : DmaTarget.Typed .vmem (.dma p.rS) (.remote (Dev.tc n' : Thread nD τ) p.dst (.dma p.sS) hsc)}
    {α : Type} {Q : α → sProp 𝕄} {kk : PUnit → Prog (TpuEff nD τ sig (Elt F) Λ₀ .tc) α} :
    iprop(recs xv wv K ∗ owe (F := F) c (OR c n1) ∗ rdy (F := F) k c ∗ atPos ER (sndC k c) 0 ∅ 0 ∗ srcP xv wv k c)
      ⊢ iprop((iprop(owe (F := F) c (OR c n) ∗ sndK (F := F) k c) -∗ WP c (kk ⟨⟩) Q)
        -∗ WP c (.op (.enqueueDma p.src (.remote (Dev.tc n' : Thread nD τ) p.dst (.dma p.sS) hsc) (.dma p.rS) hsrc hdst hsem) kk) Q) := by
  subst hp he hn1
  unfold owe rdy tokK lndAny srcP sndK
  iintro ⟨#HI, ⟨%W, HO⟩, ⟨⟨Ht1, Ht2⟩, ⟨%fd, Hd⟩⟩, Hat, Hs⟩ Hk
  iapply (Rounds.wp_send_pointsTo 𝒱₀ ER (Rd xv wv) (c : Thread nD τ) none (κ₁ := K (c, some (k, false))) (κ₂ := K (toD k c, some (k, true)))
    (r₁ := 0) (r₂ := 0) (d₁ := (0 : Fin 32)) (d₂ := (0 : Fin 32)) (fd := fd)
    (show _ ∈ (Rd xv wv).duties (cell (c, some (k, false))) 0 by rw [duties_cell]; exact Finset.mem_singleton_self _)
    (show _ ∈ (Rd xv wv).duties (cell (toD k c, some (k, true))) 0 by rw [duties_cell]; exact Finset.mem_singleton_self _)
    () () (amt k) rfl (amount_cell xv wv c _ (some (k, false))) (amount_cell xv wv (toD k c) _ (some (k, true))) (OR c n) (OR_succ c k n hn) (W := W)
    (show _ ⊢ (Rd xv wv).payload (cell (c, some (k, false))) 0 _ by rw [payload_cell]; exact BI.Entails.refl _)
    (show _ ⊢ (Rd xv wv).payload (cell (toD k c, some (k, true))) 0 _ by rw [payload_cell]; exact lnd_of xv wv k c fd)) $$ [HO Ht1 Ht2 Hd Hs]
  · isplitr; · iapply (recs_inv xv wv K (c, some (k, false))); iexact HI
    isplitr; · iapply (recs_inv xv wv K (toD k c, some (k, true))); iexact HI
    isplitl [Hs]; · iexact Hs
    isplitl [Hd]; · iexact Hd
    isplitl [HO]; · iexact HO
    isplitl [Ht1]; · iexact Ht1
    isplitr; · iapply (recs_reached xv wv K (c, some (k, false))); iexact HI
    isplitl [Ht2]; · iexact Ht2
    iapply (recs_reached xv wv K (toD k c, some (k, true))); iexact HI
  iintro ⟨Hcr, HO⟩
  iapply Hk
  isplitl [HO]; · iexists W; iexact HO
  isplitl [Hat]; · iexact Hat
  iexact Hcr

/-- The wait for the landing of copy `k`. -/
theorem rcv_step (k : Fin 15) (sm : DmaSem sig) (hsm : (cp k).rS = sm) (c : Dev nD) (n : ℕ) (hn : k.val + n < 15)
    {sp sp' : Space} {s s' : Shape} {e e' : EltTy} {src : Memref sig .tc sp' s' e'} {κ' : Kind} {dst : Memref sig κ' sp s e}
    {hsrc : src.view.WordExact} {hdst : dst.view.WordExact} (hamt : dst.view.dmaCredit = amt k)
    {α : Type} {Q : α → sProp 𝕄} {kk : PUnit → Prog (TpuEff nD τ sig (Elt F) Λ₀ .tc) α} :
    iprop(recs xv wv K ∗ owe (F := F) c (OR c n) ∗ rcvK (F := F) k c)
      ⊢ iprop((iprop(owe (F := F) c (OR c n) ∗ lnd xv wv k c ∗ zr (F := F) k c) -∗ WP c (kk ⟨⟩) Q)
        -∗ WP c (.op (.waitDma2 sm src dst hsrc hdst) kk) Q) := by
  subst hsm
  unfold owe rcvK zr
  rw [← hamt]
  iintro ⟨#HI, ⟨%W, HO⟩, Hat, Hcr⟩ Hk
  iapply (Rounds.wp_wait_rest_token 𝒱₀ ER (Rd xv wv) (c : Thread nD τ) none (κ := K (c, some (k, true)))
      (wpE_waitDma2_eq 𝒱₀ (c : Thread nD τ) none Set.univ) (Set.mem_univ _) () (O := OR c n) (W := W) (R := 0) (m := 0) (T := ∅)
      (by rw [Nat.zero_add, hamt]; exact (expect_dma xv wv c k true).symm)) $$ [HO Hat Hcr]
  · isplitr; · iapply (recs_inv xv wv K (c, some (k, true))); iexact HI
    isplitl [Hcr]; · iexact Hcr
    isplitl [HO]; · iexact HO
    isplitr
    · iapply ((recs_lev xv wv K).trans (mayWait_rcv (F := F) c k n hn)); iexact HI
    iexact Hat
  iintro ⟨HO, Hat, -, Hpay⟩
  ihave Hp := (show bigSep ((Rd xv wv).duties ((c : Thread nD τ), .dma (cp k).rS) 0 \ ∅) (fun d => (Rd xv wv).payload ((c : Thread nD τ), .dma (cp k).rS) 0 d)
    ⊢ lnd xv wv k c from Entails.of_eq (rest_rcv xv wv c k)) $$ Hpay
  imod (Rounds.cell_close ER (Rd xv wv) (Set.mem_univ (K (c, some (k, true)))) (fun h => h) (R := 0 + 1) (duties_later xv wv (rcvC k c))) $$ [Hat] with Hz
  · isplitr; · iapply (recs_inv xv wv K (c, some (k, true))); iexact HI
    iexact Hat
  iapply Hk
  isplitl [HO]; · iexists _; iexact HO
  isplitl [Hp]; · iexact Hp
  iexact Hz

/-- The wait for the send of copy `k`, nothing owed. -/
theorem snd_step (k : Fin 15) (sm : DmaSem sig) (hsm : (cp k).sS = sm) (c : Dev nD)
    {sp sp' : Space} {s s' : Shape} {e e' : EltTy} {src : Memref sig .tc sp' s' e'} {κ' : Kind} {dst : Memref sig κ' sp s e}
    {hsrc : src.view.WordExact} {hdst : dst.view.WordExact} (hamt : dst.view.dmaCredit = amt k)
    {α : Type} {Q : α → sProp 𝕄} {kk : PUnit → Prog (TpuEff nD τ sig (Elt F) Λ₀ .tc) α} :
    iprop(recs xv wv K ∗ owe (F := F) c 0 ∗ sndK (F := F) k c)
      ⊢ iprop((iprop(owe (F := F) c 0 ∗ srcP xv wv k c ∗ zs (F := F) k c) -∗ WP c (kk ⟨⟩) Q)
        -∗ WP c (.op (.waitDma2 sm src dst hsrc hdst) kk) Q) := by
  subst hsm
  unfold owe sndK zs
  rw [← hamt]
  iintro ⟨#HI, ⟨%W, HO⟩, Hat, Hcr⟩ Hk
  iapply (Rounds.wp_wait_rest_token 𝒱₀ ER (Rd xv wv) (c : Thread nD τ) none (κ := K (c, some (k, false)))
      (wpE_waitDma2_eq 𝒱₀ (c : Thread nD τ) none Set.univ) (Set.mem_univ _) () (O := 0) (W := W) (R := 0) (m := 0) (T := ∅)
      (by rw [Nat.zero_add, hamt]; exact (expect_dma xv wv c k false).symm)) $$ [HO Hat Hcr]
  · isplitr; · iapply (recs_inv xv wv K (c, some (k, false))); iexact HI
    isplitl [Hcr]; · iexact Hcr
    isplitl [HO]; · iexact HO
    isplitr
    · iapply ((recs_lev xv wv K).trans (mayWait_none (F := F) c (csem (some (k, false))))); iexact HI
    iexact Hat
  iintro ⟨HO, Hat, -, Hpay⟩
  ihave Hp := (show bigSep ((Rd xv wv).duties ((c : Thread nD τ), .dma (cp k).sS) 0 \ ∅) (fun d => (Rd xv wv).payload ((c : Thread nD τ), .dma (cp k).sS) 0 d)
    ⊢ srcP xv wv k c from Entails.of_eq (rest_snd xv wv c k)) $$ Hpay
  imod (Rounds.cell_close ER (Rd xv wv) (Set.mem_univ (K (c, some (k, false)))) (fun h => h) (R := 0 + 1) (duties_later xv wv (sndC k c))) $$ [Hat] with Hz
  · isplitr; · iapply (recs_inv xv wv K (c, some (k, false))); iexact HI
    iexact Hat
  iapply Hk
  isplitl [HO]; · iexists _; iexact HO
  isplitl [Hp]; · iexact Hp
  iexact Hz

end

end Cert.KProof

end
-- ==== Proof.Bufs.lean ====
/-
# The buffers

What a part of a buffer holds, as far as the program has written it (`AG`), and one lemma for each kind of access to it:
loads and stores, and the four operations of a block of the product. Also the parts a buffer is cut into and put
together from.
-/
module

public import proofs.«01_k».proof.Proof.Steps
public import Idealize.ShloMosaic.Lib.Ring

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ UU ℕ

attribute [local irreducible] Idealize.SL.BI.bigSep

/-- The elements `S` of a buffer, at whatever contents. -/
def any {s : Shape} (m : Memref sig .tc .vmem s .f32) (c : Dev nD) (S : Finset s.Idx) : sProp 𝕄 :=
  iprop(∃ f, m.view.loc (c : Thread nD τ) ↦[S.map m.view.emb]{fullShare} f)

/-- The elements `S` of a buffer, holding `G` where `P`. -/
def AG {s : Shape} (m : Memref sig .tc .vmem s .f32) (c : Dev nD) (S : Finset s.Idx) (P : s.Idx → Prop) (G : s.Idx → F .f32) : sProp 𝕄 :=
  iprop(∃ f, ⌜∀ i ∈ S, P i → m.view.read (Elt F) f i = G i⌝ ∗ (m.view.loc (c : Thread nD τ) ↦[S.map m.view.emb]{fullShare} f))

/-- What a part holds may be forgotten. -/
theorem ag_any {s : Shape} (m : Memref sig .tc .vmem s .f32) (c : Dev nD) (S : Finset s.Idx) (P : s.Idx → Prop) (G : s.Idx → F .f32) :
    AG m c S P G ⊢ any (F := F) m c S := by
  unfold AG any
  iintro ⟨%f, -, H⟩; iexists f; iexact H

/-- Where nothing is claimed, any contents do. -/
theorem any_ag {s : Shape} (m : Memref sig .tc .vmem s .f32) (c : Dev nD) (S : Finset s.Idx) (P : s.Idx → Prop) (G : s.Idx → F .f32)
    (h : ∀ i ∈ S, ¬ P i) : any (F := F) m c S ⊢ AG m c S P G := by
  unfold AG any
  iintro ⟨%f, H⟩; iexists f
  isplitr
  · ipureintro; exact fun i hi hP => absurd hP (h i hi)
  iexact H

/-- A load reads what is known where it is known; -/
theorem ag_load {s : Shape} (m : Memref sig .tc .vmem s .f32) (c : Dev nD) (S : Finset s.Idx) (P : s.Idx → Prop) (G : s.Idx → F .f32)
    (r : Rect s) (hS : ∀ j, r.emb j ∈ S) {hl : m.view.LoadsAt r.toLoadRect} {α : Type} {Q : α → sProp 𝕄}
    {k : (r.shape.Idx → Elt F .f32) → Prog (TpuEff nD τ sig (Elt F) Λ₀ .tc) α} :
    AG m c S P G ⊢ iprop((∀ v, iprop(⌜∀ j, P (r.emb j) → v j = G (r.emb j)⌝ ∗ AG m c S P G) -∗ WP c (k v) Q)
      -∗ WP c (.op (.load m r.toLoadRect hl) k) Q) := by
  unfold AG
  iintro ⟨%f, %hf, H⟩ Hk
  iapply (wp_load_rect 𝒱₀ (c : Thread nD τ) none Set.univ (m := m) (r := r) (S := S.map m.view.emb) (q := fullShare) (f := f)
    (by
      rw [View.set_slice]
      refine Finset.map_subset_map.mpr fun i hi => ?_
      rw [← Rect.map_emb_univ] at hi
      obtain ⟨j, -, rfl⟩ := Finset.mem_map.mp hi
      exact hS j)) $$ H
  iintro H
  iapply Hk
  isplitr
  · ipureintro; exact fun j hj => hf _ (hS j) hj
  iexists f
  isplitr
  · ipureintro; exact hf
  iexact H

/-- a store makes its rectangle known and leaves the rest. -/
theorem ag_store {s : Shape} (m : Memref sig .tc .vmem s .f32) (c : Dev nD) (S : Finset s.Idx) (P P' : s.Idx → Prop) (G G' : s.Idx → F .f32)
    (r : Rect s) (w : r.shape.Idx → Elt F .f32) (hS : ∀ j, r.emb j ∈ S) (hw : ∀ j, w j = G' (r.emb j))
    (hP : ∀ i ∈ S, P' i → i ∉ r.set → P i ∧ G i = G' i)
    {hx : (m.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    AG m c S P G ⊢ iprop((AG m c S P' G' -∗ WP c (k ⟨⟩) Q) -∗ WP c (.op (.store m r w Finset.univ hx hm) k) Q) := by
  unfold AG
  iintro ⟨%f, %hf, H⟩ Hk
  iapply (wp_store 𝒱₀ (c : Thread nD τ) none Set.univ (m := m) (r := r) (w := w) (Mk := Finset.univ) (S := S.map m.view.emb) (f := f)
    (by
      rw [View.setOn_univ, View.set_slice]
      refine Finset.map_subset_map.mpr fun i hi => ?_
      rw [← Rect.map_emb_univ] at hi
      obtain ⟨j, -, rfl⟩ := Finset.mem_map.mp hi
      exact hS j)) $$ H
  iintro H
  iapply Hk
  iexists (m.access r).write (Elt F) f w Finset.univ
  isplitr
  swap
  · iexact H
  ipureintro
  intro i hi hPi
  by_cases him : i ∈ r.set
  · rw [← Rect.map_emb_univ] at him
    obtain ⟨j, -, rfl⟩ := Finset.mem_map.mp him
    exact (View.read_slice_write_emb (v := m.view) r f w (Finset.mem_univ j)).trans (hw j)
  · refine (View.read_slice_write_of_not_mem (v := m.view) r f w Finset.univ (by rw [Rect.map_emb_univ]; exact him)).trans ?_
    obtain ⟨h1, h2⟩ := hP i hi hPi him
    rw [← h2]; exact hf i hi h1

/-- Contents known everywhere on `S`, as one points-to; and back. -/
theorem ag_out {s : Shape} (m : Memref sig .tc .vmem s .f32) (c : Dev nD) (S : Finset s.Idx) (P : s.Idx → Prop)
    (G : Buf (Elt F) (m.view.loc (c : Thread nD τ))) (h : ∀ i ∈ S, P i) :
    AG m c S P (m.view.read (Elt F) G) ⊢ (m.view.loc (c : Thread nD τ) ↦[S.map m.view.emb]{fullShare} G : sProp 𝕄) := by
  unfold AG
  iintro ⟨%f, %hf, H⟩
  have e : ∀ i ∈ S.map m.view.emb, f i = G i := fun i hi => by
    obtain ⟨j, hj, rfl⟩ := Finset.mem_map.mp hi
    have e := hf j hj (h j hj)
    rw [View.read_apply, View.read_apply] at e
    exact (cast_inj _).mp e
  iapply (Entails.of_eq (pointsTo_congr (q := fullShare) e))
  iexact H
/-- A points-to with contents `G` is the part known to hold `G`. -/
theorem ag_in {s : Shape} (m : Memref sig .tc .vmem s .f32) (c : Dev nD) (S : Finset s.Idx) (P : s.Idx → Prop)
    (G : Buf (Elt F) (m.view.loc (c : Thread nD τ))) :
    (m.view.loc (c : Thread nD τ) ↦[S.map m.view.emb]{fullShare} G : sProp 𝕄) ⊢ AG m c S P (m.view.read (Elt F) G) := by
  unfold AG
  iintro H
  iexists G
  isplitr
  · ipureintro; exact fun _ _ _ => rfl
  iexact H

/-! ## Parts -/

/-- Slab `g` of three axes. -/
def slab {a h : ℕ} (g : ℕ) : Finset (⟨3, ![a, h, 1024]⟩ : Shape).Idx := Finset.univ.filter fun i => (i 0).val = g
/-- `n` rows from `lo` of two axes. -/
def rows {h : ℕ} (lo n : ℕ) : Finset (⟨2, ![h, 1024]⟩ : Shape).Idx := Finset.univ.filter fun i => lo ≤ (i 0).val ∧ (i 0).val < lo + n

/-- The elements of a slab, -/
theorem mem_slab {a h g : ℕ} (i : (⟨3, ![a, h, 1024]⟩ : Shape).Idx) : i ∈ slab g ↔ (i 0).val = g := by unfold slab; simp
/-- of a band of rows, -/
theorem mem_rows {h lo n : ℕ} (i : (⟨2, ![h, 1024]⟩ : Shape).Idx) : i ∈ rows lo n ↔ lo ≤ (i 0).val ∧ (i 0).val < lo + n := by unfold rows; simp

/-- of some rows of a slab as the program addresses them, -/
theorem mem_box {a h g lo n : ℕ} (inb : ∀ x, (![g, lo, 0] : Fin 3 → ℕ) x + (![1, n, 1024] : Fin 3 → ℕ) x ≤ (![a, h, 1024] : Fin 3 → ℕ) x)
    (i : (⟨3, ![a, h, 1024]⟩ : Shape).Idx) :
    i ∈ (Rect.unit (s := ⟨3, ![a, h, 1024]⟩) ![g, lo, 0] ![1, n, 1024] inb).set ↔ (i 0).val = g ∧ lo ≤ (i 1).val ∧ (i 1).val < lo + n := by
  rw [Rect.mem_set_unit]
  have h2 : (i 2).val < 1024 := (i 2).isLt
  constructor
  · intro H
    have H0 : g ≤ (i 0).val ∧ (i 0).val < g + 1 := H 0
    have H1 : lo ≤ (i 1).val ∧ (i 1).val < lo + n := H 1
    exact ⟨by omega, H1⟩
  · rintro ⟨H0, H1⟩ x
    fin_cases x
    · show g ≤ (i 0).val ∧ (i 0).val < g + 1; omega
    · exact H1
    · show 0 ≤ (i 2).val ∧ (i 2).val < 0 + 1024; omega

/-- and of some rows. -/
theorem mem_band {h lo n : ℕ} (inb : ∀ x, (![lo, 0] : Fin 2 → ℕ) x + (![n, 1024] : Fin 2 → ℕ) x ≤ (![h, 1024] : Fin 2 → ℕ) x)
    (i : (⟨2, ![h, 1024]⟩ : Shape).Idx) :
    i ∈ (Rect.unit (s := ⟨2, ![h, 1024]⟩) ![lo, 0] ![n, 1024] inb).set ↔ lo ≤ (i 0).val ∧ (i 0).val < lo + n := by
  rw [Rect.mem_set_unit]
  have h2 : (i 1).val < 1024 := (i 1).isLt
  constructor
  · intro H; exact H 0
  · intro H1 x
    fin_cases x
    · exact H1
    · show 0 ≤ (i 1).val ∧ (i 1).val < 0 + 1024; omega

/-- A half or box as the copies address it is a slab, -/
theorem set_slab {a h : ℕ} (m : Memref sig .tc .vmem ⟨3, ![a, h, 1024]⟩ .f32) (g : ℕ)
    (inb : ∀ x, (![g, 0, 0] : Fin 3 → ℕ) x + (![1, h, 1024] : Fin 3 → ℕ) x ≤ (![a, h, 1024] : Fin 3 → ℕ) x)
    (hr : ∀ x, (Rect.unit (s := ⟨3, ![a, h, 1024]⟩) ![g, 0, 0] ![1, h, 1024] inb).stride x = 1) {s' : Shape}
    (hs : (Rect.unit (s := ⟨3, ![a, h, 1024]⟩) ![g, 0, 0] ![1, h, 1024] inb).shape.Squeezes s') :
    ((m.slice (Rect.unit (s := ⟨3, ![a, h, 1024]⟩) ![g, 0, 0] ![1, h, 1024] inb) hr).squeeze s' hs).view.set = (slab g).map m.view.emb := by
  refine (View.set_reshape _ _).trans ((View.set_slice _ _).trans (congrArg (Finset.map m.view.emb) (Finset.ext fun i => ?_)))
  rw [mem_box, mem_slab]
  have h1 : (i 1).val < h := (i 1).isLt
  omega
/-- and a slice of rows is a band of rows. -/
theorem set_rows {h : ℕ} (m : Memref sig .tc .vmem ⟨2, ![h, 1024]⟩ .f32) (lo n : ℕ)
    (inb : ∀ x, (![lo, 0] : Fin 2 → ℕ) x + (![n, 1024] : Fin 2 → ℕ) x ≤ (![h, 1024] : Fin 2 → ℕ) x)
    (hr : ∀ x, (Rect.unit (s := ⟨2, ![h, 1024]⟩) ![lo, 0] ![n, 1024] inb).stride x = 1) :
    (m.slice (Rect.unit (s := ⟨2, ![h, 1024]⟩) ![lo, 0] ![n, 1024] inb) hr).view.set = (rows lo n).map m.view.emb := by
  refine (View.set_slice _ _).trans (congrArg (Finset.map m.view.emb) (Finset.ext fun i => ?_))
  rw [mem_band, mem_rows]

/-- A buffer of three axes is its slabs, -/
theorem slab_split {a h : ℕ} (m : Memref sig .tc .vmem ⟨3, ![a, h, 1024]⟩ .f32) (c : Dev nD) :
    any (F := F) m c Finset.univ ⊢ bigSep Finset.univ fun g : Fin a => any (F := F) m c (slab g.val) := by
  unfold any
  iintro ⟨%f, H⟩
  ihave H2 := (Entails.of_eq (Ring.pointsTo_sub_blocks (Ix := Unit) (Name := ℕ) (U := UU) (Lvl := ℕ) (q := fullShare) (fun g : Fin a => (slab g.val).map m.view.emb)
    (fun g g' hg => by
      rw [Finset.disjoint_map, Finset.disjoint_left]
      intro i hi hi'
      rw [mem_slab] at hi hi'
      exact hg (Fin.ext (hi.symm.trans hi'))) (Finset.univ.map m.view.emb) (by
      ext i
      simp only [Finset.mem_biUnion, Finset.mem_map, Finset.mem_univ, true_and]
      exact ⟨fun ⟨_, x, _, e⟩ => ⟨x, e⟩, fun ⟨x, e⟩ => ⟨x 0, x, (mem_slab x).mpr rfl, e⟩⟩) f)) $$ H
  have hm : (bigSep Finset.univ fun g : Fin a => (m.view.loc (c : Thread nD τ) ↦[(slab g.val).map m.view.emb]{fullShare} f : sProp 𝕄))
      ⊢ bigSep Finset.univ fun g : Fin a => iprop(∃ f, m.view.loc (c : Thread nD τ) ↦[(slab g.val).map m.view.emb]{fullShare} f) :=
    bigSep_mono fun g _ => show (m.view.loc (c : Thread nD τ) ↦[(slab g.val).map m.view.emb]{fullShare} f : sProp 𝕄)
      ⊢ iprop(∃ f, m.view.loc (c : Thread nD τ) ↦[(slab g.val).map m.view.emb]{fullShare} f) from by iintro H; iexists f; iexact H
  iapply hm; iexact H2

/-- and its slabs are the buffer. -/
theorem slab_join {a h : ℕ} (m : Memref sig .tc .vmem ⟨3, ![a, h, 1024]⟩ .f32) (c : Dev nD) (f₀ : Buf (Elt F) (m.view.loc (c : Thread nD τ))) :
    (bigSep Finset.univ fun g : Fin a => any (F := F) m c (slab g.val)) ⊢ any (F := F) m c Finset.univ := by
  unfold any
  have hj := Ring.pointsTo_sub_blocks_join_exists (ℓ := m.view.loc (c : Thread nD τ)) (Val := Elt F) (Ix := Unit) (Name := ℕ) (U := UU) (Lvl := ℕ) (q := fullShare) (fun g : Fin a => (slab g.val).map m.view.emb)
    (fun g g' hg => by
      rw [Finset.disjoint_map, Finset.disjoint_left]
      intro i hi hi'
      rw [mem_slab] at hi hi'
      exact hg (Fin.ext (hi.symm.trans hi'))) (Finset.univ.map m.view.emb) (by
      ext i
      simp only [Finset.mem_biUnion, Finset.mem_map, Finset.mem_univ, true_and]
      exact ⟨fun ⟨_, x, _, e⟩ => ⟨x, e⟩, fun ⟨x, e⟩ => ⟨x 0, x, (mem_slab x).mpr rfl, e⟩⟩) f₀
  exact hj

/-- A band of rows is its first rows and its others, -/
theorem rows_add {h : ℕ} (lo n n' : ℕ) : (rows lo (n + n') : Finset (⟨2, ![h, 1024]⟩ : Shape).Idx) = rows lo n ∪ rows (lo + n) n' := by
  ext i; rw [Finset.mem_union, mem_rows, mem_rows, mem_rows]; omega
/-- which have nothing in common; -/
theorem rows_disj {h : ℕ} (lo n n' : ℕ) : Disjoint (rows lo n : Finset (⟨2, ![h, 1024]⟩ : Shape).Idx) (rows (lo + n) n') := by
  rw [Finset.disjoint_left]; intro i hi hi'; rw [mem_rows] at hi hi'; omega

/-- so its points-to can be cut, with the contents, -/
theorem band_split {h : ℕ} (m : Memref sig .tc .vmem ⟨2, ![h, 1024]⟩ .f32) (c : Dev nD) (lo n n' : ℕ) (f : Buf (Elt F) (m.view.loc (c : Thread nD τ))) :
    (m.view.loc (c : Thread nD τ) ↦[(rows lo (n + n')).map m.view.emb]{fullShare} f : sProp 𝕄)
      ⊢ iprop((m.view.loc (c : Thread nD τ) ↦[(rows lo n).map m.view.emb]{fullShare} f) ∗ (m.view.loc (c : Thread nD τ) ↦[(rows (lo + n) n').map m.view.emb]{fullShare} f)) := by
  rw [rows_add, Finset.map_union]
  exact (pointsTo_union (by rw [Finset.disjoint_map]; exact rows_disj lo n n')).1
/-- and at whatever contents, -/
theorem rows_split {h : ℕ} (m : Memref sig .tc .vmem ⟨2, ![h, 1024]⟩ .f32) (c : Dev nD) (lo n n' : ℕ) :
    any (F := F) m c (rows lo (n + n')) ⊢ iprop(any (F := F) m c (rows lo n) ∗ any (F := F) m c (rows (lo + n) n')) := by
  unfold any
  iintro ⟨%f, H⟩
  ihave H2 := (band_split m c lo n n' f) $$ H
  icases H2 with ⟨H1, H2⟩
  isplitl [H1]
  · iexists f; iexact H1
  iexists f; iexact H2
/-- and put together again. -/
theorem rows_join {h : ℕ} (m : Memref sig .tc .vmem ⟨2, ![h, 1024]⟩ .f32) (c : Dev nD) (lo n n' : ℕ) :
    iprop(any (F := F) m c (rows lo n) ∗ any (F := F) m c (rows (lo + n) n')) ⊢ any (F := F) m c (rows lo (n + n')) := by
  unfold any
  rw [rows_add, Finset.map_union]
  iintro ⟨⟨%f, H⟩, ⟨%g, H'⟩⟩
  iexists _
  iapply (pointsTo_join (q := fullShare) (f := f) (g := g) (by rw [Finset.disjoint_map]; exact rows_disj (h := h) lo n n'))
  isplitl [H]; · iexact H
  iexact H'

/-! ## Halves and bands with their first rows known -/

/-- Slab `g`, its rows below `N` holding `G`. -/
abbrev A3 {a h : ℕ} (m : Memref sig .tc .vmem ⟨3, ![a, h, 1024]⟩ .f32) (c : Dev nD) (g N : ℕ) (G : ℕ → ℕ → Fin 1024 → F .f32) : sProp 𝕄 :=
  AG m c (slab g) (fun i => (i 1).val < N) (on3 G)
/-- Rows `lo` to `lo + n`, those below `N` holding `G`. -/
abbrev A2 {h : ℕ} (m : Memref sig .tc .vmem ⟨2, ![h, 1024]⟩ .f32) (c : Dev nD) (lo n N : ℕ) (G : ℕ → Fin 1024 → F .f32) : sProp 𝕄 :=
  AG m c (rows lo n) (fun i => (i 0).val < N) (on2 G)

/-- A load of rows of a slab: it reads `G` in the rows below `N`. -/
theorem ld3 {a h : ℕ} (m : Memref sig .tc .vmem ⟨3, ![a, h, 1024]⟩ .f32) (c : Dev nD) (g N lo n : ℕ) (G : ℕ → ℕ → Fin 1024 → F .f32)
    {inb : ∀ x, (![g, lo, 0] : Fin 3 → ℕ) x + (![1, n, 1024] : Fin 3 → ℕ) x ≤ (![a, h, 1024] : Fin 3 → ℕ) x}
    {hl : m.view.LoadsAt (Rect.unit (s := ⟨3, ![a, h, 1024]⟩) ![g, lo, 0] ![1, n, 1024] inb).toLoadRect} {α : Type} {Q : α → sProp 𝕄}
    {k : Vec F ⟨3, ![1, n, 1024]⟩ .f32 → Prog (TpuEff nD τ sig (Elt F) Λ₀ .tc) α} :
    A3 m c g N G ⊢ iprop((∀ v : Vec F ⟨3, ![1, n, 1024]⟩ .f32, iprop(⌜∀ j, lo + (j 1).val < N → v j = G g (lo + (j 1).val) (j 2)⌝ ∗ A3 m c g N G) -∗ WP c (k v) Q)
      -∗ WP c (.op (.load m (Rect.unit (s := ⟨3, ![a, h, 1024]⟩) ![g, lo, 0] ![1, n, 1024] inb).toLoadRect hl) k) Q) := by
  iintro H Hk
  iapply (ag_load m c (slab g) (fun i => (i 1).val < N) (on3 G) (Rect.unit (s := ⟨3, ![a, h, 1024]⟩) ![g, lo, 0] ![1, n, 1024] inb)
    (fun j => by
      rw [mem_slab]
      have h0 : (j 0).val < 1 := (j 0).isLt
      show g + 1 * (j 0).val = g; omega)) $$ H
  iintro %v ⟨%hv, H⟩
  iapply Hk
  isplitr
  · ipureintro
    intro j hj
    have h0 : (j 0).val < 1 := (j 0).isLt
    have e := hv j (by show lo + 1 * (j 1).val < N; omega)
    refine e.trans ?_
    show G (g + 1 * (j 0).val) (lo + 1 * (j 1).val) ((Rect.unit (s := ⟨3, ![a, h, 1024]⟩) ![g, lo, 0] ![1, n, 1024] inb).emb j 2) = G g (lo + (j 1).val) (j 2)
    have e2 : (Rect.unit (s := ⟨3, ![a, h, 1024]⟩) ![g, lo, 0] ![1, n, 1024] inb).emb j 2 = j 2 := Fin.ext (by
      show 0 + 1 * (j 2).val = (j 2).val; omega)
    rw [e2, show g + 1 * (j 0).val = g by omega, Nat.one_mul]
  iexact H

/-- A store of rows of a slab: afterwards the rows below `N'` hold `G'`. -/
theorem st3 {a h : ℕ} (m : Memref sig .tc .vmem ⟨3, ![a, h, 1024]⟩ .f32) (c : Dev nD) (g N N' lo n : ℕ) (G G' : ℕ → ℕ → Fin 1024 → F .f32)
    {inb : ∀ x, (![g, lo, 0] : Fin 3 → ℕ) x + (![1, n, 1024] : Fin 3 → ℕ) x ≤ (![a, h, 1024] : Fin 3 → ℕ) x}
    (w : Vec F ⟨3, ![1, n, 1024]⟩ .f32) (hw : ∀ j, w j = G' g (lo + (j 1).val) (j 2))
    (hP : ∀ r, r < N' → (r < lo ∨ lo + n ≤ r) → r < N ∧ ∀ k, G g r k = G' g r k)
    {hx : (m.access (Rect.unit (s := ⟨3, ![a, h, 1024]⟩) ![g, lo, 0] ![1, n, 1024] inb)).Stores Finset.univ}
    {hm : (Finset.univ : Finset (Rect.unit (s := ⟨3, ![a, h, 1024]⟩) ![g, lo, 0] ![1, n, 1024] inb).shape.Idx) = Finset.univ ∨ ∀ a', (Rect.unit (s := ⟨3, ![a, h, 1024]⟩) ![g, lo, 0] ![1, n, 1024] inb).stride a' = 1}
    {α : Type} {Q : α → sProp 𝕄} {k : PUnit → Prog (TpuEff nD τ sig (Elt F) Λ₀ .tc) α} :
    A3 m c g N G ⊢ iprop((A3 m c g N' G' -∗ WP c (k ⟨⟩) Q)
      -∗ WP c (.op (.store m (Rect.unit (s := ⟨3, ![a, h, 1024]⟩) ![g, lo, 0] ![1, n, 1024] inb) w Finset.univ hx hm) k) Q) := by
  refine ag_store m c (slab g) (fun i => (i 1).val < N) (fun i => (i 1).val < N') (on3 G) (on3 G') (Rect.unit (s := ⟨3, ![a, h, 1024]⟩) ![g, lo, 0] ![1, n, 1024] inb) w
    (fun j => by
      rw [mem_slab]
      have h0 : (j 0).val < 1 := (j 0).isLt
      show g + 1 * (j 0).val = g; omega) (fun j => ?_) (fun i hi hi' hn => ?_)
  · have h0 : (j 0).val < 1 := (j 0).isLt
    refine (hw j).trans ?_
    show G' g (lo + (j 1).val) (j 2) = G' (g + 1 * (j 0).val) (lo + 1 * (j 1).val) ((Rect.unit (s := ⟨3, ![a, h, 1024]⟩) ![g, lo, 0] ![1, n, 1024] inb).emb j 2)
    have e2 : (Rect.unit (s := ⟨3, ![a, h, 1024]⟩) ![g, lo, 0] ![1, n, 1024] inb).emb j 2 = j 2 := Fin.ext (by
      show 0 + 1 * (j 2).val = (j 2).val; omega)
    rw [e2, show g + 1 * (j 0).val = g by omega, Nat.one_mul]
  · rw [mem_slab] at hi
    rw [mem_box] at hn
    obtain ⟨h1, h2⟩ := hP (i 1).val hi' (by omega)
    refine ⟨h1, ?_⟩
    show G (i 0).val (i 1).val (i 2) = G' (i 0).val (i 1).val (i 2)
    rw [hi]; exact h2 _

/-- A load of rows of a band: it reads `G` in the rows below `N`. -/
theorem ld2 {h : ℕ} (m : Memref sig .tc .vmem ⟨2, ![h, 1024]⟩ .f32) (c : Dev nD) (lo0 n0 N lo n : ℕ) (G : ℕ → Fin 1024 → F .f32)
    (hlo : lo0 ≤ lo ∧ lo + n ≤ lo0 + n0)
    {inb : ∀ x, (![lo, 0] : Fin 2 → ℕ) x + (![n, 1024] : Fin 2 → ℕ) x ≤ (![h, 1024] : Fin 2 → ℕ) x}
    {hl : m.view.LoadsAt (Rect.unit (s := ⟨2, ![h, 1024]⟩) ![lo, 0] ![n, 1024] inb).toLoadRect} {α : Type} {Q : α → sProp 𝕄}
    {k : Vec F ⟨2, ![n, 1024]⟩ .f32 → Prog (TpuEff nD τ sig (Elt F) Λ₀ .tc) α} :
    A2 m c lo0 n0 N G ⊢ iprop((∀ v : Vec F ⟨2, ![n, 1024]⟩ .f32, iprop(⌜∀ j, lo + (j 0).val < N → v j = G (lo + (j 0).val) (j 1)⌝ ∗ A2 m c lo0 n0 N G) -∗ WP c (k v) Q)
      -∗ WP c (.op (.load m (Rect.unit (s := ⟨2, ![h, 1024]⟩) ![lo, 0] ![n, 1024] inb).toLoadRect hl) k) Q) := by
  iintro H Hk
  iapply (ag_load m c (rows lo0 n0) (fun i => (i 0).val < N) (on2 G) (Rect.unit (s := ⟨2, ![h, 1024]⟩) ![lo, 0] ![n, 1024] inb)
    (fun j => by
      rw [mem_rows]
      have h0 : (j 0).val < n := (j 0).isLt
      show lo0 ≤ lo + 1 * (j 0).val ∧ lo + 1 * (j 0).val < lo0 + n0; omega)) $$ H
  iintro %v ⟨%hv, H⟩
  iapply Hk
  isplitr
  · ipureintro
    intro j hj
    have e := hv j (by show lo + 1 * (j 0).val < N; omega)
    refine e.trans ?_
    show G (lo + 1 * (j 0).val) ((Rect.unit (s := ⟨2, ![h, 1024]⟩) ![lo, 0] ![n, 1024] inb).emb j 1) = G (lo + (j 0).val) (j 1)
    have e2 : (Rect.unit (s := ⟨2, ![h, 1024]⟩) ![lo, 0] ![n, 1024] inb).emb j 1 = j 1 := Fin.ext (by
      show 0 + 1 * (j 1).val = (j 1).val; omega)
    rw [e2, Nat.one_mul]
  iexact H

/-- A store of rows of a band: afterwards the rows below `N'` hold `G'`. -/
theorem st2 {h : ℕ} (m : Memref sig .tc .vmem ⟨2, ![h, 1024]⟩ .f32) (c : Dev nD) (lo0 n0 N N' lo n : ℕ) (G G' : ℕ → Fin 1024 → F .f32)
    (hlo : lo0 ≤ lo ∧ lo + n ≤ lo0 + n0)
    {inb : ∀ x, (![lo, 0] : Fin 2 → ℕ) x + (![n, 1024] : Fin 2 → ℕ) x ≤ (![h, 1024] : Fin 2 → ℕ) x}
    (w : Vec F ⟨2, ![n, 1024]⟩ .f32) (hw : ∀ j, w j = G' (lo + (j 0).val) (j 1))
    (hP : ∀ r, lo0 ≤ r → r < lo0 + n0 → r < N' → (r < lo ∨ lo + n ≤ r) → r < N ∧ ∀ k, G r k = G' r k)
    {hx : (m.access (Rect.unit (s := ⟨2, ![h, 1024]⟩) ![lo, 0] ![n, 1024] inb)).Stores Finset.univ}
    {hm : (Finset.univ : Finset (Rect.unit (s := ⟨2, ![h, 1024]⟩) ![lo, 0] ![n, 1024] inb).shape.Idx) = Finset.univ ∨ ∀ a', (Rect.unit (s := ⟨2, ![h, 1024]⟩) ![lo, 0] ![n, 1024] inb).stride a' = 1}
    {α : Type} {Q : α → sProp 𝕄} {k : PUnit → Prog (TpuEff nD τ sig (Elt F) Λ₀ .tc) α} :
    A2 m c lo0 n0 N G ⊢ iprop((A2 m c lo0 n0 N' G' -∗ WP c (k ⟨⟩) Q)
      -∗ WP c (.op (.store m (Rect.unit (s := ⟨2, ![h, 1024]⟩) ![lo, 0] ![n, 1024] inb) w Finset.univ hx hm) k) Q) := by
  refine ag_store m c (rows lo0 n0) (fun i => (i 0).val < N) (fun i => (i 0).val < N') (on2 G) (on2 G') (Rect.unit (s := ⟨2, ![h, 1024]⟩) ![lo, 0] ![n, 1024] inb) w
    (fun j => by
      rw [mem_rows]
      have h0 : (j 0).val < n := (j 0).isLt
      show lo0 ≤ lo + 1 * (j 0).val ∧ lo + 1 * (j 0).val < lo0 + n0; omega) (fun j => ?_) (fun i hi hi' hn => ?_)
  · refine (hw j).trans ?_
    show G' (lo + (j 0).val) (j 1) = G' (lo + 1 * (j 0).val) ((Rect.unit (s := ⟨2, ![h, 1024]⟩) ![lo, 0] ![n, 1024] inb).emb j 1)
    have e2 : (Rect.unit (s := ⟨2, ![h, 1024]⟩) ![lo, 0] ![n, 1024] inb).emb j 1 = j 1 := Fin.ext (by
      show 0 + 1 * (j 1).val = (j 1).val; omega)
    rw [e2, Nat.one_mul]
  · rw [mem_rows] at hi
    rw [mem_band] at hn
    obtain ⟨h1, h2⟩ := hP (i 0).val hi.1 hi.2 hi' (by omega)
    exact ⟨h1, h2 _⟩

/-! ## The arguments' blocks, and a block of the product -/

/-- The two arguments' blocks, staged. -/
def xw (x : Vec F S1024x32 .f32) (w : Vec F S32x1024 .f32) (c : Dev nD) : sProp 𝕄 :=
  iprop((xM.view.loc (c : Thread nD τ) ↦{fullShare} (x : Buf (Elt F) (xM.view.loc (c : Thread nD τ))))
    ∗ (wM.view.loc (c : Thread nD τ) ↦{fullShare} (w : Buf (Elt F) (wM.view.loc (c : Thread nD τ)))))

/-- A load of row block `e` of the first argument's block, -/
theorem ld_x (x : Vec F S1024x32 .f32) (w : Vec F S32x1024 .f32) (c : Dev nD) (e : ℕ) (off : Fin 2 → ℕ) (ho : off = ![32 * e, 0])
    {inb : ∀ a, off a + S32x32.size a ≤ S1024x32.size a} {hl : xM.view.LoadsAt (Rect.unit (s := S1024x32) off S32x32.size inb).toLoadRect} {α : Type} {Q : α → sProp 𝕄}
    {k : Vec F S32x32 .f32 → Prog (TpuEff nD τ sig (Elt F) Λ₀ .tc) α} :
    xw x w c ⊢ iprop((xw x w c -∗ WP c (k (rowsX x e)) Q) -∗ WP c (.op (.load xM (Rect.unit (s := S1024x32) off S32x32.size inb).toLoadRect hl) k) Q) := by
  subst ho
  unfold xw
  have hi : 32 * e + 32 ≤ 1024 := inb 0
  have hr : (xM.access (Rect.unit (s := S1024x32) ![32 * e, 0] S32x32.size inb)).read (Elt F) x = rowsX x e := by
    funext j
    have hj : (j 0).val < 32 := (j 0).isLt
    show x ((Rect.unit (s := S1024x32) ![32 * e, 0] S32x32.size inb).emb j) = x (ix2 ⟨(32 * e + (j 0).val) % 1024, _⟩ (j 1))
    congr 1
    funext a
    refine Fin.ext ?_
    fin_cases a
    · show 32 * e + 1 * (j 0).val = (32 * e + (j 0).val) % 1024
      omega
    · show 0 + 1 * (j 1).val = (j 1).val
      omega
  iintro ⟨Hx, Hw⟩ Hk
  iapply (wp_load_rect 𝒱₀ (c : Thread nD τ) none Set.univ (m := xM) (r := Rect.unit (s := S1024x32) ![32 * e, 0] S32x32.size inb) (S := Finset.univ)
    (q := fullShare) (f := x) (Finset.subset_univ _)) $$ Hx
  rw [hr]
  iintro Hx
  iapply Hk
  isplitl [Hx]; · iexact Hx
  iexact Hw

/-- and of the second argument's block. -/
theorem ld_w (x : Vec F S1024x32 .f32) (w : Vec F S32x1024 .f32) (c : Dev nD)
    {inb : ∀ a, (![0, 0] : Fin 2 → ℕ) a + S32x1024.size a ≤ S32x1024.size a} {hl : wM.view.LoadsAt (Rect.unit (s := S32x1024) ![0, 0] S32x1024.size inb).toLoadRect} {α : Type} {Q : α → sProp 𝕄}
    {k : Vec F S32x1024 .f32 → Prog (TpuEff nD τ sig (Elt F) Λ₀ .tc) α} :
    xw x w c ⊢ iprop((xw x w c -∗ WP c (k w) Q) -∗ WP c (.op (.load wM (Rect.unit (s := S32x1024) ![0, 0] S32x1024.size inb).toLoadRect hl) k) Q) := by
  unfold xw
  have hr : (wM.access (Rect.unit (s := S32x1024) ![0, 0] S32x1024.size inb)).read (Elt F) w = w :=
    Memref.read_access_unit_zero (Elt F) cc0_stg1_0 (by funext a; fin_cases a <;> rfl) inb w
  iintro ⟨Hx, Hw⟩ Hk
  iapply (wp_load_rect 𝒱₀ (c : Thread nD τ) none Set.univ (m := wM) (r := Rect.unit (s := S32x1024) ![0, 0] S32x1024.size inb) (S := Finset.univ)
    (q := fullShare) (f := w) (Finset.subset_univ _)) $$ Hw
  rw [hr]
  iintro Hw
  iapply Hk
  isplitl [Hx]; · iexact Hx
  iexact Hw

end Cert.KProof

end
-- ==== Proof.Ops.lean ====
/-
# The blocks' values

The values the kernel stores, element by element; the four operations that compute one block of the product and store
it; and the copies' sources and landing places as halves, boxes and bands of their buffers.
-/
module

public import proofs.«01_k».proof.Proof.Bufs
public import Idealize.ShloMosaic.Lib.Pipeline.Value

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ UU ℕ

attribute [local irreducible] Idealize.SL.BI.bigSep

/-! ## Values -/

/-- A block of the product as the kernel stores it in a half, -/
abbrev dot3 (a : Vec F S32x32 .f32) (w : Vec F S32x1024 .f32) : FVec F S1x32x1024 .f32 :=
  shapeCast S1x32x1024 (dotBlk (F := F) (shapeCast S32x32 a shapeCasts_S32x32_S32x32) (shapeCast S32x1024 w shapeCasts_S32x1024_S32x1024)) shapeCasts_S32x1024_S1x32x1024
/-- and in the working buffer. -/
abbrev dotw (a : Vec F S32x32 .f32) (w : Vec F S32x1024 .f32) : FVec F S32x1024 .f32 :=
  shapeCast S32x1024 (dotBlk (F := F) (shapeCast S32x32 a shapeCasts_S32x32_S32x32) (shapeCast S32x1024 w shapeCasts_S32x1024_S32x1024)) shapeCasts_S32x1024_S32x1024

/-- A half's rows read without the leading axis, -/
theorem cast_drop {n : ℕ} (v : Vec F ⟨3, ![1, n, 1024]⟩ .f32) (h : (⟨3, ![1, n, 1024]⟩ : Shape).ShapeCasts ⟨2, ![n, 1024]⟩) (j : (⟨2, ![n, 1024]⟩ : Shape).Idx) :
    shapeCast ⟨2, ![n, 1024]⟩ v h j = v (ix3 0 (j 0) (j 1)) := by
  refine (shapeCast_dropUnit_apply ![n, 1024] v h j).trans (congrArg v ?_)
  funext x; fin_cases x <;> rfl
/-- and put back with it. -/
theorem cast_add {n : ℕ} (v : Vec F ⟨2, ![n, 1024]⟩ .f32) (h : (⟨2, ![n, 1024]⟩ : Shape).ShapeCasts ⟨3, ![1, n, 1024]⟩) (j : (⟨3, ![1, n, 1024]⟩ : Shape).Idx) :
    shapeCast ⟨3, ![1, n, 1024]⟩ v h j = v (ix2 (j 1) (j 2)) := by
  refine (shapeCast_addUnit_apply ![n, 1024] v h j).trans (congrArg v ?_)
  funext x; fin_cases x <;> rfl

/-- An index of a half with its leading axis spelled out. -/
theorem ix3_eta {n : ℕ} (j : (⟨3, ![1, n, 1024]⟩ : Shape).Idx) : ix3 (0 : Fin 1) (j 1) (j 2) = j := by
  funext x; fin_cases x
  · exact Fin.ext (by have h : (j 0).val < 1 := (j 0).isLt; show 0 = (j 0).val; omega)
  · rfl
  · rfl

/-- The block of the product stored in a half, element by element; -/
theorem dot3_apply (a : Vec F S32x32 .f32) (w : Vec F S32x1024 .f32) (j : S1x32x1024.Idx) : dot3 a w j = dotBlk a w (ix2 (j 1) (j 2)) := by
  refine (cast_add _ _ j).trans ?_
  rw [shapeCast_self a, shapeCast_self w]
/-- stored in the working buffer it is the product itself. -/
theorem dotw_eq (a : Vec F S32x32 .f32) (w : Vec F S32x1024 .f32) : dotw a w = dotBlk a w := by
  unfold dotw; rw [shapeCast_self a, shapeCast_self w, shapeCast_self]

section
variable (xv : Dev nD → Vec F S1024x32 .f32) (wv : Dev nD → Vec F S32x1024 .f32)

/-- A block of the product holds a device's partial products for its row block. -/
theorem dn_at (c : Dev nD) (e N : ℕ) (hN : N % 32 = 0) (r : Fin 32) (k : Fin 1024) :
    dotBlk (rowsX (xv c) e) (wv c) (ix2 r k) = dn xv wv c e (N + r.val) k := by
  unfold dn
  congr 2
  exact Fin.ext (by show r.val = (N + r.val) % 32; omega)

/-- Piece `p` of the opposite corner's rows that go by the first neighbour, -/
theorem drx_row (c : Dev nD) (g j p : ℕ) (hp : p = 4 * g + j) (r : ℕ) (k : Fin 1024) (h1 : 32 * j ≤ r) (h2 : r < 32 * j + 32) :
    drx xv wv c g r k = dn xv wv c (slot c p * 4 + qd (c.val % 4)) r k := by
  unfold drx; rw [show 4 * g + r / 32 = p by omega]
/-- that go by the second, -/
theorem dry_row (c : Dev nD) (g p : ℕ) (hp : p = 4 * g + 3) (r : ℕ) (k : Fin 1024) :
    dry xv wv c g r k = dn xv wv c (slot c p * 4 + qd (c.val % 4)) r k := by
  unfold dry; rw [← hp]
/-- of the first neighbour's rows, -/
theorem mb0_row (c : Dev nD) (g j p : ℕ) (hp : p = 4 * g + j) (r : ℕ) (k : Fin 1024) (h1 : 32 * j ≤ r) (h2 : r < 32 * j + 32) :
    mb0 xv wv c g r k = dn xv wv c (slot c p * 4 + q1 (c.val % 4)) r k := by
  unfold mb0; rw [show 4 * g + r / 32 = p by omega]
/-- of the second neighbour's, -/
theorem mc0_row (c : Dev nD) (g j p : ℕ) (hp : p = 4 * g + j) (r : ℕ) (k : Fin 1024) (h1 : 32 * j ≤ r) (h2 : r < 32 * j + 32) :
    mc0 xv wv c g r k = dn xv wv c (slot c p * 4 + q2 (c.val % 4)) r k := by
  unfold mc0; rw [show 4 * g + r / 32 = p by omega]
/-- and of the device's own: the partial products for that piece's row block. -/
theorem w0_row (c : Dev nD) (p : ℕ) (r : ℕ) (k : Fin 1024) (h1 : 32 * p ≤ r) (h2 : r < 32 * p + 32) :
    w0 xv wv c r k = dn xv wv c (slot c p * 4 + c.val % 4) r k := by
  unfold w0; rw [show r / 32 = p by omega]

/-! ## One block of the product -/

/-- Load rows of the first argument and the second, and store their product's rows in a half. -/
theorem dot3_step (c : Dev nD) {a h : ℕ} (m : Memref sig .tc .vmem ⟨3, ![a, h, 1024]⟩ .f32) (g N e : ℕ) (G : ℕ → ℕ → Fin 1024 → F .f32)
    (off : Fin 2 → ℕ) (ho : off = ![32 * e, 0]) (hN : N % 32 = 0) (N' : ℕ) (hN' : N' = N + 32) (hG : ∀ r k, N ≤ r → r < N + 32 → G g r k = dn xv wv c e r k)
    (f : Vec F S32x32 .f32 → Vec F S32x1024 .f32 → FVec F S1x32x1024 .f32) (hf : ∀ v v', f v v' = dot3 v v')
    {inx : ∀ a, off a + S32x32.size a ≤ S1024x32.size a} {hlx : xM.view.LoadsAt (Rect.unit (s := S1024x32) off S32x32.size inx).toLoadRect}
    {inw : ∀ a, (![0, 0] : Fin 2 → ℕ) a + S32x1024.size a ≤ S32x1024.size a} {hlw : wM.view.LoadsAt (Rect.unit (s := S32x1024) ![0, 0] S32x1024.size inw).toLoadRect}
    {inb : ∀ x, (![g, N, 0] : Fin 3 → ℕ) x + (![1, 32, 1024] : Fin 3 → ℕ) x ≤ (![a, h, 1024] : Fin 3 → ℕ) x}
    {hl : m.view.LoadsAt (Rect.unit (s := ⟨3, ![a, h, 1024]⟩) ![g, N, 0] ![1, 32, 1024] inb).toLoadRect}
    {hx : (m.access (Rect.unit (s := ⟨3, ![a, h, 1024]⟩) ![g, N, 0] ![1, 32, 1024] inb)).Stores Finset.univ}
    {hm : (Finset.univ : Finset (Rect.unit (s := ⟨3, ![a, h, 1024]⟩) ![g, N, 0] ![1, 32, 1024] inb).shape.Idx) = Finset.univ ∨ ∀ a', (Rect.unit (s := ⟨3, ![a, h, 1024]⟩) ![g, N, 0] ![1, 32, 1024] inb).stride a' = 1}
    {α : Type} {Q : α → sProp 𝕄} {k : PUnit → Prog (TpuEff nD τ sig (Elt F) Λ₀ .tc) α} :
    iprop(xw (xv c) (wv c) c ∗ A3 m c g N G) ⊢ iprop((iprop(xw (xv c) (wv c) c ∗ A3 m c g N' G) -∗ WP c (k ⟨⟩) Q)
      -∗ WP c (.op (.load xM (Rect.unit (s := S1024x32) off S32x32.size inx).toLoadRect hlx) fun v =>
          .op (.load wM (Rect.unit (s := S32x1024) ![0, 0] S32x1024.size inw).toLoadRect hlw) fun v' =>
          .op (.load m (Rect.unit (s := ⟨3, ![a, h, 1024]⟩) ![g, N, 0] ![1, 32, 1024] inb).toLoadRect hl) fun _ =>
          .op (.store m (Rect.unit (s := ⟨3, ![a, h, 1024]⟩) ![g, N, 0] ![1, 32, 1024] inb) (f v v') Finset.univ hx hm) k) Q) := by
  subst hN'
  iintro ⟨Hx, H⟩ Hk
  iapply (ld_x (xv c) (wv c) c e off ho) $$ Hx; iintro Hx
  iapply (ld_w (xv c) (wv c) c) $$ Hx; iintro Hx
  iapply (ld3 m c g N N 32 G) $$ H; iintro %v ⟨-, H⟩
  iapply (st3 m c g N (N + 32) N 32 G G _
    (fun j => by
      have hj : (j 1).val < 32 := (j 1).isLt
      refine (congrFun (hf _ _) j).trans (Eq.trans ?_ (hG (N + (j 1).val) (j 2) (by omega) (by omega)).symm)
      exact (dot3_apply _ _ j).trans (dn_at xv wv c e N hN (j 1) (j 2)))
    (fun r hr ho => ⟨by omega, fun _ => rfl⟩)) $$ H
  iintro H
  iapply Hk
  isplitl [Hx]; · iexact Hx
  iexact H

/-- The same in the working buffer. -/
theorem dotw_step (c : Dev nD) {h : ℕ} (m : Memref sig .tc .vmem ⟨2, ![h, 1024]⟩ .f32) (lo0 n0 N e : ℕ) (G : ℕ → Fin 1024 → F .f32)
    (off : Fin 2 → ℕ) (ho : off = ![32 * e, 0]) (hlo : lo0 ≤ N ∧ N + 32 ≤ lo0 + n0) (hN : N % 32 = 0) (N' : ℕ) (hN' : N' = N + 32) (hG : ∀ r k, N ≤ r → r < N + 32 → G r k = dn xv wv c e r k)
    (f : Vec F S32x32 .f32 → Vec F S32x1024 .f32 → FVec F S32x1024 .f32) (hf : ∀ v v', f v v' = dotw v v')
    {inx : ∀ a, off a + S32x32.size a ≤ S1024x32.size a} {hlx : xM.view.LoadsAt (Rect.unit (s := S1024x32) off S32x32.size inx).toLoadRect}
    {inw : ∀ a, (![0, 0] : Fin 2 → ℕ) a + S32x1024.size a ≤ S32x1024.size a} {hlw : wM.view.LoadsAt (Rect.unit (s := S32x1024) ![0, 0] S32x1024.size inw).toLoadRect}
    {inb : ∀ x, (![N, 0] : Fin 2 → ℕ) x + (![32, 1024] : Fin 2 → ℕ) x ≤ (![h, 1024] : Fin 2 → ℕ) x}
    {hl : m.view.LoadsAt (Rect.unit (s := ⟨2, ![h, 1024]⟩) ![N, 0] ![32, 1024] inb).toLoadRect}
    {hx : (m.access (Rect.unit (s := ⟨2, ![h, 1024]⟩) ![N, 0] ![32, 1024] inb)).Stores Finset.univ}
    {hm : (Finset.univ : Finset (Rect.unit (s := ⟨2, ![h, 1024]⟩) ![N, 0] ![32, 1024] inb).shape.Idx) = Finset.univ ∨ ∀ a', (Rect.unit (s := ⟨2, ![h, 1024]⟩) ![N, 0] ![32, 1024] inb).stride a' = 1}
    {α : Type} {Q : α → sProp 𝕄} {k : PUnit → Prog (TpuEff nD τ sig (Elt F) Λ₀ .tc) α} :
    iprop(xw (xv c) (wv c) c ∗ A2 m c lo0 n0 N G) ⊢ iprop((iprop(xw (xv c) (wv c) c ∗ A2 m c lo0 n0 N' G) -∗ WP c (k ⟨⟩) Q)
      -∗ WP c (.op (.load xM (Rect.unit (s := S1024x32) off S32x32.size inx).toLoadRect hlx) fun v =>
          .op (.load wM (Rect.unit (s := S32x1024) ![0, 0] S32x1024.size inw).toLoadRect hlw) fun v' =>
          .op (.load m (Rect.unit (s := ⟨2, ![h, 1024]⟩) ![N, 0] ![32, 1024] inb).toLoadRect hl) fun _ =>
          .op (.store m (Rect.unit (s := ⟨2, ![h, 1024]⟩) ![N, 0] ![32, 1024] inb) (f v v') Finset.univ hx hm) k) Q) := by
  subst hN'
  iintro ⟨Hx, H⟩ Hk
  iapply (ld_x (xv c) (wv c) c e off ho) $$ Hx; iintro Hx
  iapply (ld_w (xv c) (wv c) c) $$ Hx; iintro Hx
  iapply (ld2 m c lo0 n0 N N 32 G hlo) $$ H; iintro %v ⟨-, H⟩
  iapply (st2 m c lo0 n0 N (N + 32) N 32 G G hlo _
    (fun j => by
      have hj : (j 0).val < 32 := (j 0).isLt
      refine (congrFun (hf _ _) j).trans (Eq.trans ?_ (hG (N + (j 0).val) (j 1) (by omega) (by omega)).symm)
      rw [dotw_eq]
      refine Eq.trans (congrArg _ ?_) (dn_at xv wv c e N hN (j 0) (j 1))
      funext x; fin_cases x <;> rfl)
    (fun r _ _ hr ho => ⟨by omega, fun _ => rfl⟩)) $$ H
  iintro H
  iapply Hk
  isplitl [Hx]; · iexact Hx
  iexact H

/-! ## Sources and landing places -/

/-- A half known whole is its points-to as the copies address it; -/
theorem out3 (c : Dev nD) {a h : ℕ} (m : Memref sig .tc .vmem ⟨3, ![a, h, 1024]⟩ .f32) (g : ℕ) (G : Buf (Elt F) (m.view.loc (c : Thread nD τ))) (G' : ℕ → ℕ → Fin 1024 → F .f32)
    (hG : m.view.read (Elt F) G = on3 G') (S : Finset (Idx (m.view.loc (c : Thread nD τ)))) (hS : S = (slab g).map m.view.emb) :
    A3 m c g h G' ⊢ (m.view.loc (c : Thread nD τ) ↦[S]{fullShare} G : sProp 𝕄) := by
  subst hS
  have e := ag_out m c (slab g) (fun i => (i 1).val < h) G (fun i _ => (i 1).isLt)
  rw [hG] at e
  exact e
/-- and back. -/
theorem in3 (c : Dev nD) {a h : ℕ} (m : Memref sig .tc .vmem ⟨3, ![a, h, 1024]⟩ .f32) (g : ℕ) (G : Buf (Elt F) (m.view.loc (c : Thread nD τ))) (G' : ℕ → ℕ → Fin 1024 → F .f32)
    (hG : m.view.read (Elt F) G = on3 G') (S : Finset (Idx (m.view.loc (c : Thread nD τ)))) (hS : S = (slab g).map m.view.emb) :
    (m.view.loc (c : Thread nD τ) ↦[S]{fullShare} G : sProp 𝕄) ⊢ A3 m c g h G' := by
  subst hS
  have e := ag_in m c (slab g) (fun i => (i 1).val < h) G
  rw [hG] at e
  exact e

/-- A slab lies within its buffer, -/
theorem box_le (g a h : ℕ) (hg : g < a) : ∀ x, (![g, 0, 0] : Fin 3 → ℕ) x + (![1, h, 1024] : Fin 3 → ℕ) x ≤ (![a, h, 1024] : Fin 3 → ℕ) x := by
  intro x; fin_cases x <;> simp; omega
/-- and a band of rows within its. -/
theorem band_le (lo n h : ℕ) (hg : lo + n ≤ h) : ∀ x, (![lo, 0] : Fin 2 → ℕ) x + (![n, 1024] : Fin 2 → ℕ) x ≤ (![h, 1024] : Fin 2 → ℕ) x := by
  intro x; fin_cases x <;> simp; omega
/-- A half of ninety-six rows as the copies address it is a slab, -/
theorem set96 (m : Memref sig .tc .vmem S2x96x1024 .f32) (g : ℕ) (hg : g < 2) : (h96 m g (box_le g 2 96 hg)).view.set = (slab g).map m.view.emb :=
  set_slab m g (box_le g 2 96 hg) (fun _ => rfl) squeezes_S1x96x1024_S96x1024
/-- so is one of thirty-two, -/
theorem set32 (m : Memref sig .tc .vmem S2x32x1024 .f32) (g : ℕ) (hg : g < 2) : (h32 m g (box_le g 2 32 hg)).view.set = (slab g).map m.view.emb :=
  set_slab m g (box_le g 2 32 hg) (fun _ => rfl) squeezes_S1x32x1024_S32x1024
/-- one of a hundred and twenty-eight, -/
theorem set128 (m : Memref sig .tc .vmem S2x128x1024 .f32) (g : ℕ) (hg : g < 2) : (h128 m g (box_le g 2 128 hg)).view.set = (slab g).map m.view.emb :=
  set_slab m g (box_le g 2 128 hg) (fun _ => rfl) squeezes_S1x128x1024_S128x1024
/-- and a box; -/
theorem set7 (m : Memref sig .tc .vmem S7x32x1024 .f32) (g : ℕ) (hg : g < 7) : (h7 m g (box_le g 7 32 hg)).view.set = (slab g).map m.view.emb :=
  set_slab m g (box_le g 7 32 hg) (fun _ => rfl) squeezes_S1x32x1024_S32x1024
/-- a piece of the working buffer is a band of rows. -/
theorem setw (m : Memref sig .tc .vmem S256x1024 .f32) (r : ℕ) (hr : r + 32 ≤ 256) : (hw m r (band_le r 32 256 hr)).view.set = (rows r 32).map m.view.emb :=
  set_rows m r 32 (band_le r 32 256 hr) (fun _ => rfl)

/-- The source of copy 0: the first half of the opposite corner's rows for the first neighbour, all known. -/
theorem src0 (c : Dev nD) : A3 drxM c 0 96 (drx xv wv c) ⊢ srcP xv wv 0 c := out3 c drxM 0 (on3 (drx xv wv c)) _ rfl _ (by have h := set96 drxM 0 (by decide); exact h)
/-- The source of copy 1: the first half of those for the second neighbour. -/
theorem src1 (c : Dev nD) : A3 dryM c 0 32 (dry xv wv c) ⊢ srcP xv wv 1 c := out3 c dryM 0 (on3 (dry xv wv c)) _ rfl _ (by have h := set32 dryM 0 (by decide); exact h)
/-- The source of copy 2: the second half of the opposite corner's rows for the first neighbour. -/
theorem src2 (c : Dev nD) : A3 drxM c 1 96 (drx xv wv c) ⊢ srcP xv wv 2 c := out3 c drxM 1 (on3 (drx xv wv c)) _ rfl _ (by have h := set96 drxM 1 (by decide); exact h)
/-- The source of copy 3: the second half of those for the second neighbour. -/
theorem src3 (c : Dev nD) : A3 dryM c 1 32 (dry xv wv c) ⊢ srcP xv wv 3 c := out3 c dryM 1 (on3 (dry xv wv c)) _ rfl _ (by have h := set32 dryM 1 (by decide); exact h)
/-- The source of copy 4: the first half of the first neighbour's rows, the detour's added. -/
theorem src4 (c : Dev nD) : A3 mbM c 0 128 (mb xv wv c) ⊢ srcP xv wv 4 c := out3 c mbM 0 (on3 (mb xv wv c)) _ rfl _ (by have h := set128 mbM 0 (by decide); exact h)
/-- The source of copy 5: the second half of them. -/
theorem src5 (c : Dev nD) : A3 mbM c 1 128 (mb xv wv c) ⊢ srcP xv wv 5 c := out3 c mbM 1 (on3 (mb xv wv c)) _ rfl _ (by have h := set128 mbM 1 (by decide); exact h)
/-- The source of copy 6: the first half of the second neighbour's rows, the detour's added. -/
theorem src6 (c : Dev nD) : A3 mcM c 0 128 (mc xv wv c) ⊢ srcP xv wv 6 c := out3 c mcM 0 (on3 (mc xv wv c)) _ rfl _ (by have h := set128 mcM 0 (by decide); exact h)
/-- The source of copy 7: the second half of them. -/
theorem src7 (c : Dev nD) : A3 mcM c 1 128 (mc xv wv c) ⊢ srcP xv wv 7 c := out3 c mcM 1 (on3 (mc xv wv c)) _ rfl _ (by have h := set128 mcM 1 (by decide); exact h)

/-- What copy 0 lands: the first neighbour's rows for the detour, first half. -/
theorem lnd0 (c : Dev nD) : lnd xv wv 0 c ⊢ A3 irxM c 0 96 (drx xv wv (dv1 c)) := in3 c irxM 0 (on3 (drx xv wv (dv1 c))) _ rfl _ (by have h := set96 irxM 0 (by decide); exact h)
/-- What copy 1 lands: the second neighbour's rows for the detour, first half. -/
theorem lnd1 (c : Dev nD) : lnd xv wv 1 c ⊢ A3 iryM c 0 32 (dry xv wv (dv2 c)) := in3 c iryM 0 (on3 (dry xv wv (dv2 c))) _ rfl _ (by have h := set32 iryM 0 (by decide); exact h)
/-- What copy 2 lands: the first neighbour's rows for the detour, second half. -/
theorem lnd2 (c : Dev nD) : lnd xv wv 2 c ⊢ A3 irxM c 1 96 (drx xv wv (dv1 c)) := in3 c irxM 1 (on3 (drx xv wv (dv1 c))) _ rfl _ (by have h := set96 irxM 1 (by decide); exact h)
/-- What copy 3 lands: the second neighbour's rows for the detour, second half. -/
theorem lnd3 (c : Dev nD) : lnd xv wv 3 c ⊢ A3 iryM c 1 32 (dry xv wv (dv2 c)) := in3 c iryM 1 (on3 (dry xv wv (dv2 c))) _ rfl _ (by have h := set32 iryM 1 (by decide); exact h)
/-- What copy 4 lands: the first neighbour's sums, first half. -/
theorem lnd4 (c : Dev nD) : lnd xv wv 4 c ⊢ A3 ia1M c 0 128 (mb xv wv (dv1 c)) := in3 c ia1M 0 (on3 (mb xv wv (dv1 c))) _ rfl _ (by have h := set128 ia1M 0 (by decide); exact h)
/-- What copy 5 lands: the first neighbour's sums, second half. -/
theorem lnd5 (c : Dev nD) : lnd xv wv 5 c ⊢ A3 ia1M c 1 128 (mb xv wv (dv1 c)) := in3 c ia1M 1 (on3 (mb xv wv (dv1 c))) _ rfl _ (by have h := set128 ia1M 1 (by decide); exact h)
/-- What copy 6 lands: the second neighbour's sums, first half. -/
theorem lnd6 (c : Dev nD) : lnd xv wv 6 c ⊢ A3 ia2M c 0 128 (mc xv wv (dv2 c)) := in3 c ia2M 0 (on3 (mc xv wv (dv2 c))) _ rfl _ (by have h := set128 ia2M 0 (by decide); exact h)
/-- What copy 7 lands: the second neighbour's sums, second half. -/
theorem lnd7 (c : Dev nD) : lnd xv wv 7 c ⊢ A3 ia2M c 1 128 (mc xv wv (dv2 c)) := in3 c ia2M 1 (on3 (mc xv wv (dv2 c))) _ rfl _ (by have h := set128 ia2M 1 (by decide); exact h)
/-- What copy 8 lands: box 6, the sum of the square seven further on. -/
theorem lnd8 (c : Dev nD) : lnd xv wv 8 c ⊢ A3 ibM c 6 32 (ib xv wv c) := in3 c ibM 6 (on3 (ib xv wv c)) _ rfl _ (by have h := set7 ibM 6 (by decide); exact h)
/-- What copy 9 lands: box 5. -/
theorem lnd9 (c : Dev nD) : lnd xv wv 9 c ⊢ A3 ibM c 5 32 (ib xv wv c) := in3 c ibM 5 (on3 (ib xv wv c)) _ rfl _ (by have h := set7 ibM 5 (by decide); exact h)
/-- What copy 10 lands: box 4. -/
theorem lnd10 (c : Dev nD) : lnd xv wv 10 c ⊢ A3 ibM c 4 32 (ib xv wv c) := in3 c ibM 4 (on3 (ib xv wv c)) _ rfl _ (by have h := set7 ibM 4 (by decide); exact h)
/-- What copy 11 lands: box 3. -/
theorem lnd11 (c : Dev nD) : lnd xv wv 11 c ⊢ A3 ibM c 3 32 (ib xv wv c) := in3 c ibM 3 (on3 (ib xv wv c)) _ rfl _ (by have h := set7 ibM 3 (by decide); exact h)
/-- What copy 12 lands: box 2. -/
theorem lnd12 (c : Dev nD) : lnd xv wv 12 c ⊢ A3 ibM c 2 32 (ib xv wv c) := in3 c ibM 2 (on3 (ib xv wv c)) _ rfl _ (by have h := set7 ibM 2 (by decide); exact h)
/-- What copy 13 lands: box 1. -/
theorem lnd13 (c : Dev nD) : lnd xv wv 13 c ⊢ A3 ibM c 1 32 (ib xv wv c) := in3 c ibM 1 (on3 (ib xv wv c)) _ rfl _ (by have h := set7 ibM 1 (by decide); exact h)
/-- What copy 14 lands: box 0, the sum of the next square. -/
theorem lnd14 (c : Dev nD) : lnd xv wv 14 c ⊢ A3 ibM c 0 32 (ib xv wv c) := in3 c ibM 0 (on3 (ib xv wv c)) _ rfl _ (by have h := set7 ibM 0 (by decide); exact h)

/-- The first half of the working buffer, its sums known, is four copies' sources; -/
theorem srcLo (c : Dev nD) : A2 wkM c 0 128 128 (wk xv wv c) ⊢ iprop(srcP xv wv 8 c ∗ srcP xv wv 9 c ∗ srcP xv wv 10 c ∗ srcP xv wv 11 c) := by
  have e0 : A2 wkM c 0 128 128 (wk xv wv c) ⊢ (wkM.view.loc (c : Thread nD τ) ↦[(rows 0 (32 + 96)).map wkM.view.emb]{fullShare} (on2 (wk xv wv c) : Buf (Elt F) (wkM.view.loc (c : Thread nD τ))) : sProp 𝕄) :=
    ag_out wkM c (rows 0 128) (fun i => (i 0).val < 128) (on2 (wk xv wv c)) (fun i hi => by have := (mem_rows i).mp hi; omega)
  have e8 : srcP xv wv 8 c = (wkM.view.loc (c : Thread nD τ) ↦[(rows 0 32).map wkM.view.emb]{fullShare} (on2 (wk xv wv c) : Buf (Elt F) (wkM.view.loc (c : Thread nD τ))) : sProp 𝕄) :=
    congrArg (fun S => (wkM.view.loc (c : Thread nD τ) ↦[S]{fullShare} (on2 (wk xv wv c) : Buf (Elt F) (wkM.view.loc (c : Thread nD τ))) : sProp 𝕄)) (by have h := setw wkM 0 (by decide); exact h)
  have e9 : srcP xv wv 9 c = (wkM.view.loc (c : Thread nD τ) ↦[(rows 32 32).map wkM.view.emb]{fullShare} (on2 (wk xv wv c) : Buf (Elt F) (wkM.view.loc (c : Thread nD τ))) : sProp 𝕄) :=
    congrArg (fun S => (wkM.view.loc (c : Thread nD τ) ↦[S]{fullShare} (on2 (wk xv wv c) : Buf (Elt F) (wkM.view.loc (c : Thread nD τ))) : sProp 𝕄)) (by have h := setw wkM 32 (by decide); exact h)
  have e10 : srcP xv wv 10 c = (wkM.view.loc (c : Thread nD τ) ↦[(rows 64 32).map wkM.view.emb]{fullShare} (on2 (wk xv wv c) : Buf (Elt F) (wkM.view.loc (c : Thread nD τ))) : sProp 𝕄) :=
    congrArg (fun S => (wkM.view.loc (c : Thread nD τ) ↦[S]{fullShare} (on2 (wk xv wv c) : Buf (Elt F) (wkM.view.loc (c : Thread nD τ))) : sProp 𝕄)) (by have h := setw wkM 64 (by decide); exact h)
  have e11 : srcP xv wv 11 c = (wkM.view.loc (c : Thread nD τ) ↦[(rows 96 32).map wkM.view.emb]{fullShare} (on2 (wk xv wv c) : Buf (Elt F) (wkM.view.loc (c : Thread nD τ))) : sProp 𝕄) :=
    congrArg (fun S => (wkM.view.loc (c : Thread nD τ) ↦[S]{fullShare} (on2 (wk xv wv c) : Buf (Elt F) (wkM.view.loc (c : Thread nD τ))) : sProp 𝕄)) (by have h := setw wkM 96 (by decide); exact h)
  rw [e8, e9, e10, e11]
  refine e0.trans ((band_split wkM c 0 32 96 _).trans ?_)
  refine sep_mono_right ((band_split wkM c 32 32 64 _).trans ?_)
  refine sep_mono_right (band_split wkM c 64 32 32 _)
/-- the second half is three more and the device's own rows. -/
theorem srcHi (c : Dev nD) : A2 wkM c 128 128 256 (wk xv wv c) ⊢ iprop(srcP xv wv 12 c ∗ srcP xv wv 13 c ∗ srcP xv wv 14 c ∗ A2 wkM c 224 32 256 (wk xv wv c)) := by
  have e0 : A2 wkM c 128 128 256 (wk xv wv c) ⊢ (wkM.view.loc (c : Thread nD τ) ↦[(rows 128 (32 + 96)).map wkM.view.emb]{fullShare} (on2 (wk xv wv c) : Buf (Elt F) (wkM.view.loc (c : Thread nD τ))) : sProp 𝕄) :=
    ag_out wkM c (rows 128 128) (fun i => (i 0).val < 256) (on2 (wk xv wv c)) (fun i hi => by have := (mem_rows i).mp hi; omega)
  have e8 : srcP xv wv 12 c = (wkM.view.loc (c : Thread nD τ) ↦[(rows 128 32).map wkM.view.emb]{fullShare} (on2 (wk xv wv c) : Buf (Elt F) (wkM.view.loc (c : Thread nD τ))) : sProp 𝕄) :=
    congrArg (fun S => (wkM.view.loc (c : Thread nD τ) ↦[S]{fullShare} (on2 (wk xv wv c) : Buf (Elt F) (wkM.view.loc (c : Thread nD τ))) : sProp 𝕄)) (by have h := setw wkM 128 (by decide); exact h)
  have e9 : srcP xv wv 13 c = (wkM.view.loc (c : Thread nD τ) ↦[(rows 160 32).map wkM.view.emb]{fullShare} (on2 (wk xv wv c) : Buf (Elt F) (wkM.view.loc (c : Thread nD τ))) : sProp 𝕄) :=
    congrArg (fun S => (wkM.view.loc (c : Thread nD τ) ↦[S]{fullShare} (on2 (wk xv wv c) : Buf (Elt F) (wkM.view.loc (c : Thread nD τ))) : sProp 𝕄)) (by have h := setw wkM 160 (by decide); exact h)
  have e10 : srcP xv wv 14 c = (wkM.view.loc (c : Thread nD τ) ↦[(rows 192 32).map wkM.view.emb]{fullShare} (on2 (wk xv wv c) : Buf (Elt F) (wkM.view.loc (c : Thread nD τ))) : sProp 𝕄) :=
    congrArg (fun S => (wkM.view.loc (c : Thread nD τ) ↦[S]{fullShare} (on2 (wk xv wv c) : Buf (Elt F) (wkM.view.loc (c : Thread nD τ))) : sProp 𝕄)) (by have h := setw wkM 192 (by decide); exact h)
  rw [e8, e9, e10]
  refine e0.trans ((band_split wkM c 128 32 96 _).trans ?_)
  refine sep_mono_right ((band_split wkM c 160 32 64 _).trans ?_)
  refine sep_mono_right ((band_split wkM c 192 32 32 _).trans ?_)
  exact sep_mono_right (ag_in wkM c (rows 224 32) (fun i => (i 0).val < 256) (on2 (wk xv wv c)))

end

end Cert.KProof

end
-- ==== Proof.Parts1.lean ====
/-
# The body, part by part: the barrier and the first exchange

The body is cut into parts; each gets one lemma, at a symbolic device, saying what the part takes and what it leaves
to the rest of the body. Each part names only the buffers and cells it touches.
-/
module

public import proofs.«01_k».proof.Proof.Ops

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] Idealize.SL.BI.bigSep

/-- A part of the body at this kernel's buffers and semaphores. -/
abbrev on.{u} {β : Type u} (f : (arg0 : Memref sig .tc .vmem S1024x32 .f32) → (harg0 : arg0.IsWhole) → (arg1 : Memref sig .tc .vmem S32x1024 .f32) → (harg1 :
    arg1.IsWhole) → (arg2 : Memref sig .tc .vmem S32x1024 .f32) → (harg2 : arg2.IsWhole) → (arg3 : Memref sig .tc .vmem S2x96x1024
    .f32) → (harg3 : arg3.IsWhole) → (arg4 : Memref sig .tc .vmem S2x32x1024 .f32) → (harg4 : arg4.IsWhole) → (arg5 : Memref sig .tc
    .vmem S2x128x1024 .f32) → (harg5 : arg5.IsWhole) → (arg6 : Memref sig .tc .vmem S2x128x1024 .f32) → (harg6 : arg6.IsWhole) → (arg7
    : Memref sig .tc .vmem S256x1024 .f32) → (harg7 : arg7.IsWhole) → (arg8 : Memref sig .tc .vmem S2x96x1024 .f32) → (harg8 :
    arg8.IsWhole) → (arg9 : Memref sig .tc .vmem S2x32x1024 .f32) → (harg9 : arg9.IsWhole) → (arg10 : Memref sig .tc .vmem S2x128x1024
    .f32) → (harg10 : arg10.IsWhole) → (arg11 : Memref sig .tc .vmem S2x128x1024 .f32) → (harg11 : arg11.IsWhole) → (arg12 : Memref
    sig .tc .vmem S7x32x1024 .f32) → (harg12 : arg12.IsWhole) → (arg13 : DmaSems sig S2) → (arg14 : DmaSems sig S2) → (arg15 : DmaSems
    sig S2) → (arg16 : DmaSems sig S2) → (arg17 : DmaSems sig S2) → (arg18 : DmaSems sig S2) → (arg19 : DmaSems sig S2) → (arg20 :
    DmaSems sig S2) → (arg21 : DmaSems sig S7) → (arg22 : DmaSems sig S7) → β) : β :=
  f xM (Memref.isWhole_whole _) wM (Memref.isWhole_whole _) oM (Memref.isWhole_whole _) drxM (Memref.isWhole_whole _) dryM
    (Memref.isWhole_whole _) mbM (Memref.isWhole_whole _) mcM (Memref.isWhole_whole _) wkM (Memref.isWhole_whole _) irxM
    (Memref.isWhole_whole _) iryM (Memref.isWhole_whole _) ia1M (Memref.isWhole_whole _) ia2M (Memref.isWhole_whole _) ibM
    (Memref.isWhole_whole _) cc0_scratch10 cc0_scratch11 cc0_scratch12 cc0_scratch13 cc0_scratch14 cc0_scratch15 cc0_scratch16
    cc0_scratch17 cc0_scratch18 cc0_scratch19

/-- What is left of the program after a part. -/
abbrev Rest (F : FTy → Type) [FloatOps F] (β α : Type) := β → Prog (TpuEff nD τ sig (Elt F) Λ₀ .tc) α

section
variable (xv : Dev nD → Vec F S1024x32 .f32) (wv : Dev nD → Vec F S32x1024 .f32) (K : Dev nD × CI → ℕ)

/-- All copy `k` needs besides its source, with its send cell's place in its one round. -/
abbrev RS (k : Fin 15) (c : Dev nD) : sProp 𝕄 := iprop(rdy (F := F) k c ∗ atPos ER (sndC k c) 0 ∅ 0)

/-- The start of copy `k`, with what it needs in one piece. -/
theorem send_at (k : Fin 15) (p : Cp) (hp : cp k = p) (c n' : Dev nD) (he : n' = toD k c) (n n1 : ℕ) (hn : k.val + n = 14) (hn1 : n1 = n + 1)
    {hsc : p.dst.view.ref.isScScratch = false}
    {hsrc : p.src.view.WordExact} {hdst : p.dst.view.WordExact}
    {hsem : DmaTarget.Typed .vmem (.dma p.rS) (.remote (Dev.tc n' : Thread nD τ) p.dst (.dma p.sS) hsc)}
    {α : Type} {Q : α → sProp 𝕄} {kk : PUnit → Prog (TpuEff nD τ sig (Elt F) Λ₀ .tc) α} :
    iprop(recs xv wv K ∗ owe (F := F) c (OR c n1) ∗ RS (F := F) k c ∗ srcP xv wv k c)
      ⊢ iprop((iprop(owe (F := F) c (OR c n) ∗ sndK (F := F) k c) -∗ WP c (kk ⟨⟩) Q)
        -∗ WP c (.op (.enqueueDma p.src (.remote (Dev.tc n' : Thread nD τ) p.dst (.dma p.sS) hsc) (.dma p.rS) hsrc hdst hsem) kk) Q) := by
  refine (show iprop(recs xv wv K ∗ owe (F := F) c (OR c n1) ∗ RS (F := F) k c ∗ srcP xv wv k c)
    ⊢ iprop(recs xv wv K ∗ owe (F := F) c (OR c n1) ∗ rdy (F := F) k c ∗ atPos ER (sndC k c) 0 ∅ 0 ∗ srcP xv wv k c) from ?_).trans
    (send_step xv wv K k p hp c n' he n n1 hn hn1)
  show iprop(recs xv wv K ∗ owe (F := F) c (OR c n1) ∗ RS (F := F) k c ∗ srcP xv wv k c)
    ⊢ iprop(recs xv wv K ∗ owe (F := F) c (OR c n1) ∗ rdy (F := F) k c ∗ atPos ER (sndC k c) 0 ∅ 0 ∗ srcP xv wv k c)
  iintro ⟨HI, O, ⟨R, A⟩, S⟩
  isplitl [HI]; · iexact HI
  isplitl [O]; · iexact O
  isplitl [R]; · iexact R
  isplitl [A]; · iexact A
  iexact S

/-- A load within the known rows of a half. -/
theorem ld3u {a h : ℕ} (m : Memref sig .tc .vmem ⟨3, ![a, h, 1024]⟩ .f32) (c : Dev nD) (g N lo n : ℕ) (G : ℕ → ℕ → Fin 1024 → F .f32) (hN : lo + n ≤ N)
    {inb : ∀ x, (![g, lo, 0] : Fin 3 → ℕ) x + (![1, n, 1024] : Fin 3 → ℕ) x ≤ (![a, h, 1024] : Fin 3 → ℕ) x}
    {hl : m.view.LoadsAt (Rect.unit (s := ⟨3, ![a, h, 1024]⟩) ![g, lo, 0] ![1, n, 1024] inb).toLoadRect} {α : Type} {Q : α → sProp 𝕄}
    {k : Vec F ⟨3, ![1, n, 1024]⟩ .f32 → Prog (TpuEff nD τ sig (Elt F) Λ₀ .tc) α} :
    A3 m c g N G ⊢ iprop((∀ v : Vec F ⟨3, ![1, n, 1024]⟩ .f32, iprop(⌜∀ j, v j = G g (lo + (j 1).val) (j 2)⌝ ∗ A3 m c g N G) -∗ WP c (k v) Q)
      -∗ WP c (.op (.load m (Rect.unit (s := ⟨3, ![a, h, 1024]⟩) ![g, lo, 0] ![1, n, 1024] inb).toLoadRect hl) k) Q) := by
  iintro H Hk
  iapply (ld3 m c g N lo n G) $$ H
  iintro %v ⟨%hv, H⟩
  iapply Hk
  isplitr
  · ipureintro; intro j; exact hv j (by have hj : (j 1).val < n := (j 1).isLt; omega)
  iexact H

/-! ## Values of the merged halves -/

/-- Two halves' rows added, without the leading axis and back. -/
theorem add3_apply {n : ℕ} (v v' : Vec F ⟨3, ![1, n, 1024]⟩ .f32) (h h' : (⟨3, ![1, n, 1024]⟩ : Shape).ShapeCasts ⟨2, ![n, 1024]⟩)
    (h'' : (⟨2, ![n, 1024]⟩ : Shape).ShapeCasts ⟨3, ![1, n, 1024]⟩) (j : (⟨3, ![1, n, 1024]⟩ : Shape).Idx) :
    shapeCast ⟨3, ![1, n, 1024]⟩ (addf (F := F) (φ := .f32) (shapeCast ⟨2, ![n, 1024]⟩ v h) (shapeCast ⟨2, ![n, 1024]⟩ v' h')) h'' j = FloatOps.addf (F := F) (φ := .f32) (v j) (v' j) := by
  refine (cast_add _ _ j).trans ?_
  have e1 : shapeCast ⟨2, ![n, 1024]⟩ v h (ix2 (j 1) (j 2)) = v j := (cast_drop v h _).trans (congrArg v (ix3_eta j))
  have e2 : shapeCast ⟨2, ![n, 1024]⟩ v' h' (ix2 (j 1) (j 2)) = v' j := (cast_drop v' h' _).trans (congrArg v' (ix3_eta j))
  show FloatOps.addf (F := F) (φ := .f32) (shapeCast ⟨2, ![n, 1024]⟩ v h (ix2 (j 1) (j 2))) (shapeCast ⟨2, ![n, 1024]⟩ v' h' (ix2 (j 1) (j 2))) = _
  rw [e1, e2]

/-- The detour's rows added to the first neighbour's: the last thirty-two rows of a half. -/
theorem mb_val (c : Dev nD) (g : ℕ) (v v' w : Vec F S1x32x1024 .f32) (hv : ∀ j, v j = mb0 xv wv c g (96 + (j 1).val) (j 2))
    (hv' : ∀ j, v' j = dry xv wv (dv2 c) g (0 + (j 1).val) (j 2)) (hw : ∀ j, w j = FloatOps.addf (F := F) (φ := .f32) (v j) (v' j)) (j : S1x32x1024.Idx) :
    w j = mb xv wv c g (96 + (j 1).val) (j 2) := by
  rw [hw, hv, hv']
  unfold mb
  rw [if_pos (by omega), show 96 + (j 1).val - 96 = 0 + (j 1).val by omega]
/-- The detour's rows added to the second neighbour's: the first ninety-six rows of a half. -/
theorem mc_val (c : Dev nD) (g : ℕ) (v v' w : Vec F S1x96x1024 .f32) (hv : ∀ j, v j = mc0 xv wv c g (0 + (j 1).val) (j 2))
    (hv' : ∀ j, v' j = drx xv wv (dv1 c) g (0 + (j 1).val) (j 2)) (hw : ∀ j, w j = FloatOps.addf (F := F) (φ := .f32) (v j) (v' j)) (j : S1x96x1024.Idx) :
    w j = mc xv wv c g (0 + (j 1).val) (j 2) := by
  have hj : (j 1).val < 96 := (j 1).isLt
  rw [hw, hv, hv']
  unfold mc
  rw [if_pos (by omega)]

/-- The store that merges the detour's rows into a half. -/
theorem st_mb (c : Dev nD) (g : ℕ) (w : Vec F S1x32x1024 .f32) (hw : ∀ j, w j = mb xv wv c g (96 + (j 1).val) (j 2))
    {inb : ∀ x, (![g, 96, 0] : Fin 3 → ℕ) x + S1x32x1024.size x ≤ S2x128x1024.size x}
    {hx : (mbM.access (Rect.unit (s := S2x128x1024) ![g, 96, 0] S1x32x1024.size inb)).Stores Finset.univ}
    {hm : (Finset.univ : Finset (Rect.unit (s := S2x128x1024) ![g, 96, 0] S1x32x1024.size inb).shape.Idx) = Finset.univ ∨ ∀ a', (Rect.unit (s := S2x128x1024) ![g, 96, 0] S1x32x1024.size inb).stride a' = 1}
    {α : Type} {Q : α → sProp 𝕄} {k : PUnit → Prog (TpuEff nD τ sig (Elt F) Λ₀ .tc) α} :
    A3 mbM c g 128 (mb0 xv wv c) ⊢ iprop((A3 mbM c g 128 (mb xv wv c) -∗ WP c (k ⟨⟩) Q)
      -∗ WP c (.op (.store mbM (Rect.unit (s := S2x128x1024) ![g, 96, 0] S1x32x1024.size inb) w Finset.univ hx hm) k) Q) :=
  st3 mbM c g 128 128 96 32 (mb0 xv wv c) (mb xv wv c) w hw (fun r hr h => ⟨hr, fun k => by unfold mb; rw [if_neg (by omega)]⟩)
/-- The store that merges them into the other half. -/
theorem st_mc (c : Dev nD) (g : ℕ) (w : Vec F S1x96x1024 .f32) (hw : ∀ j, w j = mc xv wv c g (0 + (j 1).val) (j 2))
    {inb : ∀ x, (![g, 0, 0] : Fin 3 → ℕ) x + S1x96x1024.size x ≤ S2x128x1024.size x}
    {hx : (mcM.access (Rect.unit (s := S2x128x1024) ![g, 0, 0] S1x96x1024.size inb)).Stores Finset.univ}
    {hm : (Finset.univ : Finset (Rect.unit (s := S2x128x1024) ![g, 0, 0] S1x96x1024.size inb).shape.Idx) = Finset.univ ∨ ∀ a', (Rect.unit (s := S2x128x1024) ![g, 0, 0] S1x96x1024.size inb).stride a' = 1}
    {α : Type} {Q : α → sProp 𝕄} {k : PUnit → Prog (TpuEff nD τ sig (Elt F) Λ₀ .tc) α} :
    A3 mcM c g 128 (mc0 xv wv c) ⊢ iprop((A3 mcM c g 128 (mc xv wv c) -∗ WP c (k ⟨⟩) Q)
      -∗ WP c (.op (.store mcM (Rect.unit (s := S2x128x1024) ![g, 0, 0] S1x96x1024.size inb) w Finset.univ hx hm) k) Q) :=
  st3 mcM c g 128 128 0 96 (mc0 xv wv c) (mc xv wv c) w hw (fun r hr h => ⟨hr, fun k => by unfold mc; rw [if_neg (by omega)]⟩)

variable (c : Dev nD)

/-- The signals still to make, and what is owed meanwhile. -/
abbrev SG (n : ℕ) : sProp 𝕄 := iprop(owe (F := F) c (OS c n) ∗ sigs (F := F) c n)

/-- Part 1 makes the first signal. -/
theorem part1 {α : Type} {Q : α → sProp 𝕄} {k : Rest F _ α} :
    iprop(recs xv wv K ∗ SG (F := F) c 31)
      ⊢ iprop((∀ v2 v3 v20 v22 v23 v24 v25 v26 v34 z, SG (F := F) c 30 -∗
            WP c (k ⟨c, v2, v3, v20, v22, v23, v24, v25, v26, SemArray.scalar (sig.barrier 0 rfl), v34, z⟩) Q)
        -∗ WP c (on (k0_part1 (F := F)) >>= k) Q) := by
  rw [k0_part1_eq_skeleton]; unfold k0_part1_skel
  simp only [semSignalWord, semWaitWord, Prog.lift, Prog.bind_op, Prog.bind_ret, Prog.pure_eq_ret, wp_deviceId]
  iintro ⟨#HI, HO, HS⟩ Hk
  iapply (sig_step xv wv K c _ 30 (by decide) (Fin.ext (k0_dev1_eq c))) $$ [HO HS]
  · isplitr; · iexact HI
    isplitl [HO]; · iexact HO
    iexact HS
  iintro H
  iapply Hk $$ %_ %_ %_ %_ %_ %_ %_ %_ %_ %_ H

/-- Six signals in a row. -/
theorem sig6_step (n d1 d2 d3 d4 d5 d6 : ℕ) (hn : n + 6 ≤ 31) {l1 : d1 < 32} {l2 : d2 < 32} {l3 : d3 < 32} {l4 : d4 < 32} {l5 : d5 < 32} {l6 : d6 < 32}
    (h1 : d1 = (c.val + (31 - (n + 5))) % 32) (h2 : d2 = (c.val + (31 - (n + 4))) % 32) (h3 : d3 = (c.val + (31 - (n + 3))) % 32)
    (h4 : d4 = (c.val + (31 - (n + 2))) % 32) (h5 : d5 = (c.val + (31 - (n + 1))) % 32) (h6 : d6 = (c.val + (31 - n)) % 32)
    {α : Type} {Q : α → sProp 𝕄} {k : PUnit → Prog (TpuEff nD τ sig (Elt F) Λ₀ .tc) α} :
    iprop(recs xv wv K ∗ SG (F := F) c (n + 6))
      ⊢ iprop((SG (F := F) c n -∗ WP c (k ⟨⟩) Q)
        -∗ WP c (.op (.semSignal (Dev.tc (⟨d1, l1⟩ : Dev nD)) barS 1) fun _ => .op (.semSignal (Dev.tc (⟨d2, l2⟩ : Dev nD)) barS 1) fun _ =>
          .op (.semSignal (Dev.tc (⟨d3, l3⟩ : Dev nD)) barS 1) fun _ => .op (.semSignal (Dev.tc (⟨d4, l4⟩ : Dev nD)) barS 1) fun _ =>
          .op (.semSignal (Dev.tc (⟨d5, l5⟩ : Dev nD)) barS 1) fun _ => .op (.semSignal (Dev.tc (⟨d6, l6⟩ : Dev nD)) barS 1) k) Q) := by
  iintro ⟨#HI, H⟩ Hk
  iapply (sig_step xv wv K c _ (n + 5) (by omega) (Fin.ext h1)) $$ [H]
  · isplitr; · iexact HI
    iexact H
  iintro H
  iapply (sig_step xv wv K c _ (n + 4) (by omega) (Fin.ext h2)) $$ [H]
  · isplitr; · iexact HI
    iexact H
  iintro H
  iapply (sig_step xv wv K c _ (n + 3) (by omega) (Fin.ext h3)) $$ [H]
  · isplitr; · iexact HI
    iexact H
  iintro H
  iapply (sig_step xv wv K c _ (n + 2) (by omega) (Fin.ext h4)) $$ [H]
  · isplitr; · iexact HI
    iexact H
  iintro H
  iapply (sig_step xv wv K c _ (n + 1) (by omega) (Fin.ext h5)) $$ [H]
  · isplitr; · iexact HI
    iexact H
  iintro H
  iapply (sig_step xv wv K c _ n (by omega) (Fin.ext h6)) $$ [H]
  · isplitr; · iexact HI
    iexact H
  iintro H
  iapply Hk $$ H

/-- Part 2 makes six signals, -/
theorem part2 {α : Type} {Q : α → sProp 𝕄} {k : Rest F _ α} (v2 v34 z : BitVec 32) :
    iprop(recs xv wv K ∗ SG (F := F) c 30)
      ⊢ iprop((∀ a b, SG (F := F) c 24 -∗ WP c (k ⟨a, b⟩) Q)
        -∗ WP c (on (k0_part2 (F := F)) c v2 (SemArray.scalar (sig.barrier 0 rfl)) v34 z >>= k) Q) := by
  rw [k0_part2_eq_skeleton]; unfold k0_part2_skel
  simp only [semSignalWord, semWaitWord, Prog.lift, Prog.bind_op, Prog.bind_ret, Prog.pure_eq_ret]
  iintro H Hk
  iapply (sig6_step xv wv K c 24 _ _ _ _ _ _ (by decide) (k0_dev2_eq c) (k0_dev3_eq c) (k0_dev4_eq c) (k0_dev5_eq c) (k0_dev6_eq c) (k0_dev7_eq c)) $$ H
  iintro H
  iapply Hk $$ %_ %_ H

/-- part 3 six more, -/
theorem part3 {α : Type} {Q : α → sProp 𝕄} {k : Rest F _ α} (v2 v34 z : BitVec 32) :
    iprop(recs xv wv K ∗ SG (F := F) c 24)
      ⊢ iprop((∀ a b, SG (F := F) c 18 -∗ WP c (k ⟨a, b⟩) Q)
        -∗ WP c (on (k0_part3 (F := F)) c v2 (SemArray.scalar (sig.barrier 0 rfl)) v34 z >>= k) Q) := by
  rw [k0_part3_eq_skeleton]; unfold k0_part3_skel
  simp only [semSignalWord, semWaitWord, Prog.lift, Prog.bind_op, Prog.bind_ret, Prog.pure_eq_ret]
  iintro H Hk
  iapply (sig6_step xv wv K c 18 _ _ _ _ _ _ (by decide) (k0_dev8_eq c) (k0_dev9_eq c) (k0_dev10_eq c) (k0_dev11_eq c) (k0_dev12_eq c) (k0_dev13_eq c)) $$ H
  iintro H
  iapply Hk $$ %_ %_ H

/-- part 4 six more, -/
theorem part4 {α : Type} {Q : α → sProp 𝕄} {k : Rest F _ α} (v2 v34 z : BitVec 32) :
    iprop(recs xv wv K ∗ SG (F := F) c 18)
      ⊢ iprop((∀ a b, SG (F := F) c 12 -∗ WP c (k ⟨a, b⟩) Q)
        -∗ WP c (on (k0_part4 (F := F)) c v2 (SemArray.scalar (sig.barrier 0 rfl)) v34 z >>= k) Q) := by
  rw [k0_part4_eq_skeleton]; unfold k0_part4_skel
  simp only [semSignalWord, semWaitWord, Prog.lift, Prog.bind_op, Prog.bind_ret, Prog.pure_eq_ret]
  iintro H Hk
  iapply (sig6_step xv wv K c 12 _ _ _ _ _ _ (by decide) (k0_dev14_eq c) (k0_dev15_eq c) (k0_dev16_eq c) (k0_dev17_eq c) (k0_dev18_eq c) (k0_dev19_eq c)) $$ H
  iintro H
  iapply Hk $$ %_ %_ H

/-- part 5 six more, -/
theorem part5 {α : Type} {Q : α → sProp 𝕄} {k : Rest F _ α} (v2 v34 z : BitVec 32) :
    iprop(recs xv wv K ∗ SG (F := F) c 12)
      ⊢ iprop((∀ a b, SG (F := F) c 6 -∗ WP c (k ⟨a, b⟩) Q)
        -∗ WP c (on (k0_part5 (F := F)) c v2 (SemArray.scalar (sig.barrier 0 rfl)) v34 z >>= k) Q) := by
  rw [k0_part5_eq_skeleton]; unfold k0_part5_skel
  simp only [semSignalWord, semWaitWord, Prog.lift, Prog.bind_op, Prog.bind_ret, Prog.pure_eq_ret]
  iintro H Hk
  iapply (sig6_step xv wv K c 6 _ _ _ _ _ _ (by decide) (k0_dev20_eq c) (k0_dev21_eq c) (k0_dev22_eq c) (k0_dev23_eq c) (k0_dev24_eq c) (k0_dev25_eq c)) $$ H
  iintro H
  iapply Hk $$ %_ %_ H

/-- and part 6 the last six. -/
theorem part6 {α : Type} {Q : α → sProp 𝕄} {k : Rest F _ α} (v2 v20 v34 z : BitVec 32) :
    iprop(recs xv wv K ∗ SG (F := F) c 6)
      ⊢ iprop((∀ a, SG (F := F) c 0 -∗ WP c (k a) Q)
        -∗ WP c (on (k0_part6 (F := F)) c v2 v20 (SemArray.scalar (sig.barrier 0 rfl)) v34 z >>= k) Q) := by
  rw [k0_part6_eq_skeleton]; unfold k0_part6_skel
  simp only [semSignalWord, semWaitWord, Prog.lift, Prog.bind_op, Prog.bind_ret, Prog.pure_eq_ret]
  iintro H Hk
  iapply (sig6_step xv wv K c 0 _ _ _ _ _ _ (by decide) (k0_dev26_eq c) (k0_dev27_eq c) (k0_dev28_eq c) (k0_dev29_eq c) (k0_dev30_eq c) (k0_dev31_eq c)) $$ H
  iintro H
  iapply Hk $$ %_ H

/-- Part 7 computes the first two pieces of the opposite corner's rows for the first neighbour, half 0. -/
theorem part7 {α : Type} {Q : α → sProp 𝕄} {k : Rest F _ α} (v20 v24 v155 : BitVec 32) :
    iprop(xw (xv c) (wv c) c ∗ A3 drxM c 0 0 (drx xv wv c))
      ⊢ iprop((iprop(xw (xv c) (wv c) c ∗ A3 drxM c 0 64 (drx xv wv c)) -∗ WP c (k ⟨⟩) Q)
        -∗ WP c (on (k0_part7 (F := F)) c v20 v24 v155 >>= k) Q) := by
  rw [k0_part7_eq_skeleton]; unfold k0_part7_skel
  simp only [semSignalWord, semWaitWord, Prog.lift, Prog.bind_op, Prog.bind_ret, Prog.pure_eq_ret]
  iintro H Hk
  iapply (dot3_step xv wv c drxM 0 0 _ (drx xv wv c) _ (off1d_eq c 0) rfl 32 rfl (fun r k => drx_row xv wv c 0 0 0 rfl r k) _ (fun _ _ => rfl)) $$ H
  iintro H
  iapply (dot3_step xv wv c drxM 0 32 _ (drx xv wv c) _ (off1d_eq c 1) rfl 64 rfl (fun r k => drx_row xv wv c 0 1 1 rfl r k) _ (fun _ _ => rfl)) $$ H
  iintro H
  iapply Hk $$ H

/-- Part 8 computes the third, and those for the second neighbour, and waits at the barrier. -/
theorem part8 {α : Type} {Q : α → sProp 𝕄} {k : Rest F _ α} (v20 v24 v25 : BitVec 32) :
    iprop(recs xv wv K ∗ owe (F := F) c (OS c 0) ∗ atPos ER (barC c) 0 ∅ 0 ∗ cred (tallyAt (barC c) () 31) ∗ xw (xv c) (wv c) c ∗ A3 drxM c 0 64 (drx xv wv c) ∗ A3 dryM c 0 0 (dry xv wv c))
      ⊢ iprop((iprop(owe (F := F) c (OR c 15) ∗ zb (F := F) c ∗ (bigSep Finset.univ fun k : Fin 15 => lndAny (F := F) k (toD k c)) ∗ xw (xv c) (wv c) c ∗ A3 drxM c 0 96 (drx xv wv c) ∗ A3 dryM c 0 32 (dry xv wv c)) -∗ WP c (k ⟨⟩) Q)
        -∗ WP c (on (k0_part8 (F := F)) c v20 v24 v25 (SemArray.scalar (sig.barrier 0 rfl)) >>= k) Q) := by
  rw [k0_part8_eq_skeleton]; unfold k0_part8_skel
  simp only [semSignalWord, semWaitWord, Prog.lift, Prog.bind_op, Prog.bind_ret, Prog.pure_eq_ret]
  iintro ⟨#HI, O, Bp, Bc, X, D, E⟩ Hk
  iapply (dot3_step xv wv c drxM 0 64 _ (drx xv wv c) _ (off1d_eq c 2) rfl 96 rfl (fun r k => drx_row xv wv c 0 2 2 rfl r k) _ (fun _ _ => rfl)) $$ [X D]
  · isplitl [X]; · iexact X
    iexact D
  iintro ⟨X, D⟩
  iapply (dot3_step xv wv c dryM 0 0 _ (dry xv wv c) _ (off1d_eq c 3) rfl 32 rfl (fun r k => fun _ _ => dry_row xv wv c 0 3 rfl r k) _ (fun _ _ => rfl)) $$ [X E]
  · isplitl [X]; · iexact X
    iexact E
  iintro ⟨X, E⟩
  iapply (bar_step xv wv K c) $$ [O Bp Bc]
  · isplitr; · iexact HI
    isplitl [O]; · iexact O
    isplitl [Bp]; · iexact Bp
    iexact Bc
  iintro ⟨O, Zb, L⟩
  iapply Hk
  isplitl [O]; · iexact O
  isplitl [Zb]; · iexact Zb
  isplitl [L]; · iexact L
  isplitl [X]; · iexact X
  isplitl [D]; · iexact D
  iexact E

/-- Part 9 starts copies 0 and 1, and computes the first piece of half 1. -/
theorem part9 {α : Type} {Q : α → sProp 𝕄} {k : Rest F _ α} (v20 v24 v26 : BitVec 32) :
    iprop(recs xv wv K ∗ owe (F := F) c (OR c 15) ∗ RS (F := F) 0 c ∗ RS (F := F) 1 c ∗ A3 drxM c 0 96 (drx xv wv c) ∗ A3 dryM c 0 32 (dry xv wv c) ∗ xw (xv c) (wv c) c ∗ A3 drxM c 1 0 (drx xv wv c))
      ⊢ iprop((∀ a b, iprop(owe (F := F) c (OR c 13) ∗ sndK (F := F) 0 c ∗ sndK (F := F) 1 c ∗ xw (xv c) (wv c) c ∗ A3 drxM c 1 32 (drx xv wv c)) -∗ WP c (k ⟨a, b⟩) Q)
        -∗ WP c (on (k0_part9 (F := F)) c v20 v24 v26 >>= k) Q) := by
  rw [k0_part9_eq_skeleton]; unfold k0_part9_skel
  simp only [semSignalWord, semWaitWord, Prog.lift, Prog.bind_op, Prog.bind_ret, Prog.pure_eq_ret]
  iintro ⟨#HI, O, R0, R1, D0, E0, X, D⟩ Hk
  ihave D0 := (src0 xv wv c) $$ D0
  iapply (send_at xv wv K 0 (c96 0) rfl c _ (dev32_eq c) 14 15 rfl rfl) $$ [O R0 D0]
  · isplitr; · iexact HI
    isplitl [O]; · iexact O
    isplitl [R0]; · iexact R0
    iexact D0
  iintro ⟨O, S0⟩
  ihave E0 := (src1 xv wv c) $$ E0
  iapply (send_at xv wv K 1 (c32 0) rfl c _ (dev33_eq c) 13 14 rfl rfl) $$ [O R1 E0]
  · isplitr; · iexact HI
    isplitl [O]; · iexact O
    isplitl [R1]; · iexact R1
    iexact E0
  iintro ⟨O, S1⟩
  iapply (dot3_step xv wv c drxM 1 0 _ (drx xv wv c) _ (off1d_eq c 4) rfl 32 rfl (fun r k => drx_row xv wv c 1 0 4 rfl r k) _ (fun _ _ => rfl)) $$ [X D]
  · isplitl [X]; · iexact X
    iexact D
  iintro ⟨X, D⟩
  iapply Hk $$ %_ %_
  isplitl [O]; · iexact O
  isplitl [S0]; · iexact S0
  isplitl [S1]; · iexact S1
  isplitl [X]; · iexact X
  iexact D

/-- Part 10 computes its other two pieces. -/
theorem part10 {α : Type} {Q : α → sProp 𝕄} {k : Rest F _ α} (v20 v24 v247 z : BitVec 32) :
    iprop(xw (xv c) (wv c) c ∗ A3 drxM c 1 32 (drx xv wv c))
      ⊢ iprop((∀ a b, iprop(xw (xv c) (wv c) c ∗ A3 drxM c 1 96 (drx xv wv c)) -∗ WP c (k ⟨a, b⟩) Q)
        -∗ WP c (on (k0_part10 (F := F)) c v20 v24 v247 z >>= k) Q) := by
  rw [k0_part10_eq_skeleton]; unfold k0_part10_skel
  simp only [semSignalWord, semWaitWord, Prog.lift, Prog.bind_op, Prog.bind_ret, Prog.pure_eq_ret]
  iintro ⟨X, D⟩ Hk
  iapply (dot3_step xv wv c drxM 1 32 _ (drx xv wv c) _ (off1d_eq c 5) rfl 64 rfl (fun r k => drx_row xv wv c 1 1 5 rfl r k) _ (fun _ _ => rfl)) $$ [X D]
  · isplitl [X]; · iexact X
    iexact D
  iintro ⟨X, D⟩
  iapply (dot3_step xv wv c drxM 1 64 _ (drx xv wv c) _ (off1d_eq c 6) rfl 96 rfl (fun r k => drx_row xv wv c 1 2 6 rfl r k) _ (fun _ _ => rfl)) $$ [X D]
  · isplitl [X]; · iexact X
    iexact D
  iintro ⟨X, D⟩
  iapply Hk $$ %_ %_
  isplitl [X]; · iexact X
  iexact D

/-- Part 11 starts copy 2, and computes the rows of half 1 for the second neighbour. -/
theorem part11 {α : Type} {Q : α → sProp 𝕄} {k : Rest F _ α} (v24 v25 v26 v279 z : BitVec 32) :
    iprop(recs xv wv K ∗ owe (F := F) c (OR c 13) ∗ RS (F := F) 2 c ∗ A3 drxM c 1 96 (drx xv wv c) ∗ xw (xv c) (wv c) c ∗ A3 dryM c 1 0 (dry xv wv c))
      ⊢ iprop((iprop(owe (F := F) c (OR c 12) ∗ sndK (F := F) 2 c ∗ xw (xv c) (wv c) c ∗ A3 dryM c 1 32 (dry xv wv c)) -∗ WP c (k ⟨⟩) Q)
        -∗ WP c (on (k0_part11 (F := F)) c v24 v25 v26 v279 z >>= k) Q) := by
  rw [k0_part11_eq_skeleton]; unfold k0_part11_skel
  simp only [semSignalWord, semWaitWord, Prog.lift, Prog.bind_op, Prog.bind_ret, Prog.pure_eq_ret]
  iintro ⟨#HI, O, R2, D, X, E⟩ Hk
  iapply (dot3_step xv wv c dryM 1 0 _ (dry xv wv c) _ (off1d_eq c 7) rfl 32 rfl (fun r k => fun _ _ => dry_row xv wv c 1 7 rfl r k) _ (fun _ _ => rfl)) $$ [X E]
  · isplitl [X]; · iexact X
    iexact E
  iintro ⟨X, E⟩
  ihave D := (src2 xv wv c) $$ D
  iapply (send_at xv wv K 2 (c96 1) rfl c _ (dev34_eq c) 12 13 rfl rfl) $$ [O R2 D]
  · isplitr; · iexact HI
    isplitl [O]; · iexact O
    isplitl [R2]; · iexact R2
    iexact D
  iintro ⟨O, S2⟩
  iapply Hk
  isplitl [O]; · iexact O
  isplitl [S2]; · iexact S2
  isplitl [X]; · iexact X
  iexact E

/-- Part 12 starts copy 3, and computes the first two pieces of the first neighbour's rows, half 0. -/
theorem part12 {α : Type} {Q : α → sProp 𝕄} {k : Rest F _ α} (v20 v22 : BitVec 32) :
    iprop(recs xv wv K ∗ owe (F := F) c (OR c 12) ∗ RS (F := F) 3 c ∗ A3 dryM c 1 32 (dry xv wv c) ∗ xw (xv c) (wv c) c ∗ A3 mbM c 0 0 (mb0 xv wv c))
      ⊢ iprop((∀ a, iprop(owe (F := F) c (OR c 11) ∗ sndK (F := F) 3 c ∗ xw (xv c) (wv c) c ∗ A3 mbM c 0 64 (mb0 xv wv c)) -∗ WP c (k a) Q)
        -∗ WP c (on (k0_part12 (F := F)) c v20 v22 >>= k) Q) := by
  rw [k0_part12_eq_skeleton]; unfold k0_part12_skel
  simp only [semSignalWord, semWaitWord, Prog.lift, Prog.bind_op, Prog.bind_ret, Prog.pure_eq_ret]
  iintro ⟨#HI, O, R3, E, X, D⟩ Hk
  ihave E := (src3 xv wv c) $$ E
  iapply (send_at xv wv K 3 (c32 1) rfl c _ (dev35_eq c) 11 12 rfl rfl) $$ [O R3 E]
  · isplitr; · iexact HI
    isplitl [O]; · iexact O
    isplitl [R3]; · iexact R3
    iexact E
  iintro ⟨O, S3⟩
  iapply (dot3_step xv wv c mbM 0 0 _ (mb0 xv wv c) _ (off1_eq c 0) rfl 32 rfl (fun r k => mb0_row xv wv c 0 0 0 rfl r k) _ (fun _ _ => rfl)) $$ [X D]
  · isplitl [X]; · iexact X
    iexact D
  iintro ⟨X, D⟩
  iapply (dot3_step xv wv c mbM 0 32 _ (mb0 xv wv c) _ (off1_eq c 1) rfl 64 rfl (fun r k => mb0_row xv wv c 0 1 1 rfl r k) _ (fun _ _ => rfl)) $$ [X D]
  · isplitl [X]; · iexact X
    iexact D
  iintro ⟨X, D⟩
  iapply Hk $$ %_
  isplitl [O]; · iexact O
  isplitl [S3]; · iexact S3
  isplitl [X]; · iexact X
  iexact D

/-- Part 13 computes the other two. -/
theorem part13 {α : Type} {Q : α → sProp 𝕄} {k : Rest F _ α} (v20 v22 z : BitVec 32) :
    iprop(xw (xv c) (wv c) c ∗ A3 mbM c 0 64 (mb0 xv wv c))
      ⊢ iprop((∀ a, iprop(xw (xv c) (wv c) c ∗ A3 mbM c 0 128 (mb0 xv wv c)) -∗ WP c (k a) Q)
        -∗ WP c (on (k0_part13 (F := F)) c v20 v22 z >>= k) Q) := by
  rw [k0_part13_eq_skeleton]; unfold k0_part13_skel
  simp only [semSignalWord, semWaitWord, Prog.lift, Prog.bind_op, Prog.bind_ret, Prog.pure_eq_ret]
  iintro ⟨X, D⟩ Hk
  iapply (dot3_step xv wv c mbM 0 64 _ (mb0 xv wv c) _ (off1_eq c 2) rfl 96 rfl (fun r k => mb0_row xv wv c 0 2 2 rfl r k) _ (fun _ _ => rfl)) $$ [X D]
  · isplitl [X]; · iexact X
    iexact D
  iintro ⟨X, D⟩
  iapply (dot3_step xv wv c mbM 0 96 _ (mb0 xv wv c) _ (off1_eq c 3) rfl 128 rfl (fun r k => mb0_row xv wv c 0 3 3 rfl r k) _ (fun _ _ => rfl)) $$ [X D]
  · isplitl [X]; · iexact X
    iexact D
  iintro ⟨X, D⟩
  iapply Hk $$ %_
  isplitl [X]; · iexact X
  iexact D

/-- Part 14 waits for the landing of copy 1, adds what it brought, and starts copy 4. -/
theorem part14 {α : Type} {Q : α → sProp 𝕄} {k : Rest F _ α} (v20 v25 v26 z : BitVec 32) :
    iprop(recs xv wv K ∗ owe (F := F) c (OR c 11) ∗ rcvK (F := F) 1 c ∗ RS (F := F) 4 c ∗ A3 mbM c 0 128 (mb0 xv wv c))
      ⊢ iprop((∀ a b, iprop(owe (F := F) c (OR c 10) ∗ zr (F := F) 1 c ∗ A3 iryM c 0 32 (dry xv wv (dv2 c)) ∗ sndK (F := F) 4 c) -∗ WP c (k ⟨a, b⟩) Q)
        -∗ WP c (on (k0_part14 (F := F)) c v20 v25 v26 z >>= k) Q) := by
  rw [k0_part14_eq_skeleton]; unfold k0_part14_skel
  simp only [semSignalWord, semWaitWord, Prog.lift, Prog.bind_op, Prog.bind_ret, Prog.pure_eq_ret]
  iintro ⟨#HI, O, C1, R4, D⟩ Hk
  iapply (rcv_step xv wv K 1 _ rfl c 11 (by decide) rfl) $$ [O C1]
  · isplitr; · iexact HI
    isplitl [O]; · iexact O
    iexact C1
  iintro ⟨O, I, Z1⟩
  ihave I := (lnd1 xv wv c) $$ I
  iapply (ld3u mbM c 0 128 96 32 (mb0 xv wv c) (by decide)) $$ D
  iintro %v ⟨%hv, D⟩
  iapply (ld3u iryM c 0 32 0 32 (dry xv wv (dv2 c)) (by decide)) $$ I
  iintro %w ⟨%hw, I⟩
  iapply (ld3u mbM c 0 128 96 32 (mb0 xv wv c) (by decide)) $$ D
  iintro %u ⟨%hu, D⟩
  iapply (st_mb xv wv c 0 _ (mb_val xv wv c 0 v w _ hv hw (add3_apply v w _ _ _))) $$ D
  iintro D
  ihave D := (src4 xv wv c) $$ D
  iapply (send_at xv wv K 4 (c128a 0) rfl c _ (dev36_eq c) 10 11 rfl rfl) $$ [O R4 D]
  · isplitr; · iexact HI
    isplitl [O]; · iexact O
    isplitl [R4]; · iexact R4
    iexact D
  iintro ⟨O, S4⟩
  iapply Hk $$ %_ %_
  isplitl [O]; · iexact O
  isplitl [Z1]; · iexact Z1
  isplitl [I]; · iexact I
  iexact S4

/-- Part 15 computes the first two pieces of the second neighbour's rows, half 0. -/
theorem part15 {α : Type} {Q : α → sProp 𝕄} {k : Rest F _ α} (v20 v23 v400 z : BitVec 32) :
    iprop(xw (xv c) (wv c) c ∗ A3 mcM c 0 0 (mc0 xv wv c))
      ⊢ iprop((∀ a, iprop(xw (xv c) (wv c) c ∗ A3 mcM c 0 64 (mc0 xv wv c)) -∗ WP c (k a) Q)
        -∗ WP c (on (k0_part15 (F := F)) c v20 v23 v400 z >>= k) Q) := by
  rw [k0_part15_eq_skeleton]; unfold k0_part15_skel
  simp only [semSignalWord, semWaitWord, Prog.lift, Prog.bind_op, Prog.bind_ret, Prog.pure_eq_ret]
  iintro ⟨X, D⟩ Hk
  iapply (dot3_step xv wv c mcM 0 0 _ (mc0 xv wv c) _ (off2_eq c 0) rfl 32 rfl (fun r k => mc0_row xv wv c 0 0 0 rfl r k) _ (fun _ _ => rfl)) $$ [X D]
  · isplitl [X]; · iexact X
    iexact D
  iintro ⟨X, D⟩
  iapply (dot3_step xv wv c mcM 0 32 _ (mc0 xv wv c) _ (off2_eq c 1) rfl 64 rfl (fun r k => mc0_row xv wv c 0 1 1 rfl r k) _ (fun _ _ => rfl)) $$ [X D]
  · isplitl [X]; · iexact X
    iexact D
  iintro ⟨X, D⟩
  iapply Hk $$ %_
  isplitl [X]; · iexact X
  iexact D

end
end Cert.KProof
-- ==== Proof.Parts2.lean ====
/-
# The body, part by part: the halves' products and the detour's rows

The rest of the first exchange: the second halves' blocks, the rows that came by the detour added to the neighbours'
rows, those sent on, and the device's own rows computed while they travel.
-/
module

public import proofs.«01_k».proof.Proof.Parts1

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] Idealize.SL.BI.bigSep

section
variable (xv : Dev nD → Vec F S1024x32 .f32) (wv : Dev nD → Vec F S32x1024 .f32) (K : Dev nD × CI → ℕ) (c : Dev nD)

/-- The store of a block of the product whose factors were read in the part before: in a half, -/
theorem dsto3_step {a h : ℕ} (m : Memref sig .tc .vmem ⟨3, ![a, h, 1024]⟩ .f32) (g N e : ℕ) (G : ℕ → ℕ → Fin 1024 → F .f32)
    (hN : N % 32 = 0) (N' : ℕ) (hN' : N' = N + 32) (hG : ∀ r k, N ≤ r → r < N + 32 → G g r k = dn xv wv c e r k)
    (w : FVec F S1x32x1024 .f32) (hw : w = dot3 (rowsX (xv c) e) (wv c))
    {inb : ∀ x, (![g, N, 0] : Fin 3 → ℕ) x + (![1, 32, 1024] : Fin 3 → ℕ) x ≤ (![a, h, 1024] : Fin 3 → ℕ) x}
    {hx : (m.access (Rect.unit (s := ⟨3, ![a, h, 1024]⟩) ![g, N, 0] ![1, 32, 1024] inb)).Stores Finset.univ}
    {hm : (Finset.univ : Finset (Rect.unit (s := ⟨3, ![a, h, 1024]⟩) ![g, N, 0] ![1, 32, 1024] inb).shape.Idx) = Finset.univ ∨ ∀ a', (Rect.unit (s := ⟨3, ![a, h, 1024]⟩) ![g, N, 0] ![1, 32, 1024] inb).stride a' = 1}
    {α : Type} {Q : α → sProp 𝕄} {k : PUnit → Prog (TpuEff nD τ sig (Elt F) Λ₀ .tc) α} :
    A3 m c g N G ⊢ iprop((A3 m c g N' G -∗ WP c (k ⟨⟩) Q)
      -∗ WP c (.op (.store m (Rect.unit (s := ⟨3, ![a, h, 1024]⟩) ![g, N, 0] ![1, 32, 1024] inb) w Finset.univ hx hm) k) Q) := by
  subst hN' hw
  exact st3 m c g N (N + 32) N 32 G G _
    (fun j => by
      have hj : (j 1).val < 32 := (j 1).isLt
      refine Eq.trans ?_ (hG (N + (j 1).val) (j 2) (by omega) (by omega)).symm
      exact (dot3_apply _ _ j).trans (dn_at xv wv c e N hN (j 1) (j 2)))
    (fun r hr ho => ⟨by omega, fun _ => rfl⟩)
/-- and in the working buffer. -/
theorem dstow_step (lo0 n0 N e : ℕ) (G : ℕ → Fin 1024 → F .f32) (hlo : lo0 ≤ N ∧ N + 32 ≤ lo0 + n0)
    (hN : N % 32 = 0) (N' : ℕ) (hN' : N' = N + 32) (hG : ∀ r k, N ≤ r → r < N + 32 → G r k = dn xv wv c e r k)
    (w : FVec F S32x1024 .f32) (hw : w = dotw (rowsX (xv c) e) (wv c))
    {inb : ∀ x, (![N, 0] : Fin 2 → ℕ) x + (![32, 1024] : Fin 2 → ℕ) x ≤ (![256, 1024] : Fin 2 → ℕ) x}
    {hx : (wkM.access (Rect.unit (s := ⟨2, ![256, 1024]⟩) ![N, 0] ![32, 1024] inb)).Stores Finset.univ}
    {hm : (Finset.univ : Finset (Rect.unit (s := ⟨2, ![256, 1024]⟩) ![N, 0] ![32, 1024] inb).shape.Idx) = Finset.univ ∨ ∀ a', (Rect.unit (s := ⟨2, ![256, 1024]⟩) ![N, 0] ![32, 1024] inb).stride a' = 1}
    {α : Type} {Q : α → sProp 𝕄} {k : PUnit → Prog (TpuEff nD τ sig (Elt F) Λ₀ .tc) α} :
    A2 wkM c lo0 n0 N G ⊢ iprop((A2 wkM c lo0 n0 N' G -∗ WP c (k ⟨⟩) Q)
      -∗ WP c (.op (.store wkM (Rect.unit (s := ⟨2, ![256, 1024]⟩) ![N, 0] ![32, 1024] inb) w Finset.univ hx hm) k) Q) := by
  subst hN' hw
  exact st2 wkM c lo0 n0 N (N + 32) N 32 G G hlo _
    (fun j => by
      have hj : (j 0).val < 32 := (j 0).isLt
      refine Eq.trans ?_ (hG (N + (j 0).val) (j 1) (by omega) (by omega)).symm
      rw [dotw_eq]
      refine Eq.trans (congrArg _ ?_) (dn_at xv wv c e N hN (j 0) (j 1))
      funext x; fin_cases x <;> rfl)
    (fun r _ _ hr ho => ⟨by omega, fun _ => rfl⟩)

/-- Part 16 computes the other two pieces of the second neighbour's rows, half 0, and reads the next block's rows. -/
theorem part16 {α : Type} {Q : α → sProp 𝕄} {k : Rest F _ α} (v20 v22 v23 v433 : BitVec 32) :
    iprop(xw (xv c) (wv c) c ∗ A3 mcM c 0 64 (mc0 xv wv c))
      ⊢ iprop((iprop(xw (xv c) (wv c) c ∗ A3 mcM c 0 128 (mc0 xv wv c)) -∗ WP c (k (k0_pay18 (rowsX (xv c) (slot c 4 * 4 + q1 (c.val % 4))))) Q)
        -∗ WP c (on (k0_part16 (F := F)) c v20 v22 v23 v433 >>= k) Q) := by
  rw [k0_part16_eq_skeleton]; unfold k0_part16_skel
  simp only [semSignalWord, semWaitWord, Prog.lift, Prog.bind_op, Prog.bind_ret, Prog.pure_eq_ret]
  iintro ⟨X, D⟩ Hk
  iapply (dot3_step xv wv c mcM 0 64 _ (mc0 xv wv c) _ (off2_eq c 2) rfl 96 rfl (fun r k => mc0_row xv wv c 0 2 2 rfl r k) _ (fun _ _ => rfl)) $$ [X D]
  · isplitl [X]; · iexact X
    iexact D
  iintro ⟨X, D⟩
  iapply (dot3_step xv wv c mcM 0 96 _ (mc0 xv wv c) _ (off2_eq c 3) rfl 128 rfl (fun r k => mc0_row xv wv c 0 3 3 rfl r k) _ (fun _ _ => rfl)) $$ [X D]
  · isplitl [X]; · iexact X
    iexact D
  iintro ⟨X, D⟩
  iapply (ld_x (xv c) (wv c) c _ _ (off1_eq c 4)) $$ X
  iintro X
  iapply Hk
  isplitl [X]; · iexact X
  iexact D

/-- Part 17 computes the first two pieces of the first neighbour's rows, half 1, and reads the third's factors. -/
theorem part17 {α : Type} {Q : α → sProp 𝕄} {k : Rest F _ α} (v20 v22 : BitVec 32) :
    iprop(xw (xv c) (wv c) c ∗ A3 mbM c 1 0 (mb0 xv wv c))
      ⊢ iprop((iprop(xw (xv c) (wv c) c ∗ A3 mbM c 1 64 (mb0 xv wv c)) -∗ WP c (k ⟨k0_pay21 (rowsX (xv c) (slot c 6 * 4 + q1 (c.val % 4))), k0_pay22 (wv c)⟩) Q)
        -∗ WP c (on (k0_part17 (F := F)) c v20 v22 (k0_pay18 (rowsX (xv c) (slot c 4 * 4 + q1 (c.val % 4)))) >>= k) Q) := by
  rw [k0_part17_eq_skeleton]; unfold k0_part17_skel
  simp only [semSignalWord, semWaitWord, Prog.lift, Prog.bind_op, Prog.bind_ret, Prog.pure_eq_ret]
  iintro ⟨X, D⟩ Hk
  iapply (ld_w (xv c) (wv c) c) $$ X
  iintro X
  iapply (ld3 mbM c 1 0 0 32 (mb0 xv wv c)) $$ D
  iintro %_ ⟨-, D⟩
  iapply (dsto3_step xv wv c mbM 1 0 _ (mb0 xv wv c) rfl 32 rfl (fun r k => mb0_row xv wv c 1 0 4 rfl r k) _ rfl) $$ D
  iintro D
  iapply (dot3_step xv wv c mbM 1 32 _ (mb0 xv wv c) _ (off1_eq c 5) rfl 64 rfl (fun r k => mb0_row xv wv c 1 1 5 rfl r k) _ (fun _ _ => rfl)) $$ [X D]
  · isplitl [X]; · iexact X
    iexact D
  iintro ⟨X, D⟩
  iapply (ld_x (xv c) (wv c) c _ _ (off1_eq c 6)) $$ X
  iintro X
  iapply (ld_w (xv c) (wv c) c) $$ X
  iintro X
  iapply Hk
  isplitl [X]; · iexact X
  iexact D

/-- Part 18 computes the other two, waits for the landing of copy 3, and reads the rows it is to be added to. -/
theorem part18 {α : Type} {Q : α → sProp 𝕄} {k : Rest F _ α} (v20 v22 v26 : BitVec 32) :
    iprop(recs xv wv K ∗ xw (xv c) (wv c) c ∗ A3 mbM c 1 64 (mb0 xv wv c) ∗ owe (F := F) c (OR c 10) ∗ rcvK (F := F) 3 c)
      ⊢ iprop((∀ v : Vec F S1x32x1024 .f32, iprop(⌜∀ j, v j = mb0 xv wv c 1 (96 + (j 1).val) (j 2)⌝ ∗ xw (xv c) (wv c) c ∗ A3 mbM c 1 128 (mb0 xv wv c) ∗ owe (F := F) c (OR c 10) ∗ zr (F := F) 3 c ∗ A3 iryM c 1 32 (dry xv wv (dv2 c))) -∗ WP c (k v) Q)
        -∗ WP c (on (k0_part18 (F := F)) c v20 v22 v26 (k0_pay21 (rowsX (xv c) (slot c 6 * 4 + q1 (c.val % 4)))) (k0_pay22 (wv c)) >>= k) Q) := by
  rw [k0_part18_eq_skeleton]; unfold k0_part18_skel
  simp only [semSignalWord, semWaitWord, Prog.lift, Prog.bind_op, Prog.bind_ret, Prog.pure_eq_ret]
  iintro ⟨#HI, X, D, O, C3⟩ Hk
  iapply (ld3 mbM c 1 64 64 32 (mb0 xv wv c)) $$ D
  iintro %_ ⟨-, D⟩
  iapply (dsto3_step xv wv c mbM 1 64 _ (mb0 xv wv c) rfl 96 rfl (fun r k => mb0_row xv wv c 1 2 6 rfl r k) _ rfl) $$ D
  iintro D
  iapply (dot3_step xv wv c mbM 1 96 _ (mb0 xv wv c) _ (off1_eq c 7) rfl 128 rfl (fun r k => mb0_row xv wv c 1 3 7 rfl r k) _ (fun _ _ => rfl)) $$ [X D]
  · isplitl [X]; · iexact X
    iexact D
  iintro ⟨X, D⟩
  iapply (rcv_step xv wv K 3 _ rfl c 10 (by decide) rfl) $$ [O C3]
  · isplitr; · iexact HI
    isplitl [O]; · iexact O
    iexact C3
  iintro ⟨O, I, Z3⟩
  ihave I := (lnd3 xv wv c) $$ I
  iapply (ld3u mbM c 1 128 96 32 (mb0 xv wv c) (by decide)) $$ D
  iintro %v ⟨%hv, D⟩
  iapply Hk $$ %_
  isplitr; · ipureintro; exact hv
  isplitl [X]; · iexact X
  isplitl [D]; · iexact D
  isplitl [O]; · iexact O
  isplitl [Z3]; · iexact Z3
  iexact I

/-- Part 19 adds what copy 3 brought, starts copy 5, and multiplies the next block. -/
theorem part19 {α : Type} {Q : α → sProp 𝕄} {k : Rest F _ α} (v20 v23 v25 : BitVec 32) (v : Vec F S1x32x1024 .f32) (hv : ∀ j, v j = mb0 xv wv c 1 (96 + (j 1).val) (j 2)) :
    iprop(recs xv wv K ∗ A3 mbM c 1 128 (mb0 xv wv c) ∗ A3 iryM c 1 32 (dry xv wv (dv2 c)) ∗ owe (F := F) c (OR c 10) ∗ RS (F := F) 5 c ∗ xw (xv c) (wv c) c ∗ A3 mcM c 1 0 (mc0 xv wv c))
      ⊢ iprop((∀ u, iprop(A3 iryM c 1 32 (dry xv wv (dv2 c)) ∗ owe (F := F) c (OR c 9) ∗ sndK (F := F) 5 c ∗ xw (xv c) (wv c) c ∗ A3 mcM c 1 0 (mc0 xv wv c)) -∗ WP c (k ⟨k0_pay26 (rowsX (xv c) (slot c 4 * 4 + q2 (c.val % 4))) (wv c), u⟩) Q)
        -∗ WP c (on (k0_part19 (F := F)) c v20 v23 v25 v >>= k) Q) := by
  rw [k0_part19_eq_skeleton]; unfold k0_part19_skel
  simp only [semSignalWord, semWaitWord, Prog.lift, Prog.bind_op, Prog.bind_ret, Prog.pure_eq_ret]
  iintro ⟨#HI, D, I, O, R5, X, E⟩ Hk
  iapply (ld3u iryM c 1 32 0 32 (dry xv wv (dv2 c)) (by decide)) $$ I
  iintro %w ⟨%hw, I⟩
  iapply (ld3u mbM c 1 128 96 32 (mb0 xv wv c) (by decide)) $$ D
  iintro %u ⟨%hu, D⟩
  iapply (st_mb xv wv c 1 _ (mb_val xv wv c 1 v w _ hv hw (add3_apply v w _ _ _))) $$ D
  iintro D
  ihave D := (src5 xv wv c) $$ D
  iapply (send_at xv wv K 5 (c128a 1) rfl c _ (dev37_eq c) 9 10 rfl rfl) $$ [O R5 D]
  · isplitr; · iexact HI
    isplitl [O]; · iexact O
    isplitl [R5]; · iexact R5
    iexact D
  iintro ⟨O, S5⟩
  iapply (ld_x (xv c) (wv c) c _ _ (off2_eq c 4)) $$ X
  iintro X
  iapply (ld_w (xv c) (wv c) c) $$ X
  iintro X
  iapply (ld3 mcM c 1 0 0 32 (mc0 xv wv c)) $$ E
  iintro %_ ⟨-, E⟩
  iapply Hk $$ %_
  isplitl [I]; · iexact I
  isplitl [O]; · iexact O
  isplitl [S5]; · iexact S5
  isplitl [X]; · iexact X
  iexact E

/-- Part 20 stores it and computes two more pieces: the first three of the second neighbour's rows, half 1. -/
theorem part20 {α : Type} {Q : α → sProp 𝕄} {k : Rest F _ α} (v20 v23 : BitVec 32) (u : Vec F S1x32x1024 .f32) :
    iprop(xw (xv c) (wv c) c ∗ A3 mcM c 1 0 (mc0 xv wv c))
      ⊢ iprop((∀ a, iprop(xw (xv c) (wv c) c ∗ A3 mcM c 1 96 (mc0 xv wv c)) -∗ WP c (k a) Q)
        -∗ WP c (on (k0_part20 (F := F)) c v20 v23 (k0_pay26 (rowsX (xv c) (slot c 4 * 4 + q2 (c.val % 4))) (wv c)) u >>= k) Q) := by
  rw [k0_part20_eq_skeleton]; unfold k0_part20_skel
  simp only [semSignalWord, semWaitWord, Prog.lift, Prog.bind_op, Prog.bind_ret, Prog.pure_eq_ret]
  iintro ⟨X, D⟩ Hk
  iapply (dsto3_step xv wv c mcM 1 0 _ (mc0 xv wv c) rfl 32 rfl (fun r k => mc0_row xv wv c 1 0 4 rfl r k) _ rfl) $$ D
  iintro D
  iapply (dot3_step xv wv c mcM 1 32 _ (mc0 xv wv c) _ (off2_eq c 5) rfl 64 rfl (fun r k => mc0_row xv wv c 1 1 5 rfl r k) _ (fun _ _ => rfl)) $$ [X D]
  · isplitl [X]; · iexact X
    iexact D
  iintro ⟨X, D⟩
  iapply (dot3_step xv wv c mcM 1 64 _ (mc0 xv wv c) _ (off2_eq c 6) rfl 96 rfl (fun r k => mc0_row xv wv c 1 2 6 rfl r k) _ (fun _ _ => rfl)) $$ [X D]
  · isplitl [X]; · iexact X
    iexact D
  iintro ⟨X, D⟩
  iapply Hk $$ %_
  isplitl [X]; · iexact X
  iexact D

/-- Part 21 computes the fourth, waits for the landing of copy 0, and adds what it brought to half 0. -/
theorem part21 {α : Type} {Q : α → sProp 𝕄} {k : Rest F _ α} (v20 v23 v25 z : BitVec 32) :
    iprop(recs xv wv K ∗ xw (xv c) (wv c) c ∗ A3 mcM c 1 96 (mc0 xv wv c) ∗ owe (F := F) c (OR c 9) ∗ rcvK (F := F) 0 c ∗ A3 mcM c 0 128 (mc0 xv wv c))
      ⊢ iprop((∀ v : FVec F S96x1024 .f32, iprop(⌜∀ j, k0_pay32 v j = mc xv wv c 0 (0 + (j 1).val) (j 2)⌝ ∗ xw (xv c) (wv c) c ∗ A3 mcM c 1 128 (mc0 xv wv c) ∗ owe (F := F) c (OR c 9) ∗ zr (F := F) 0 c ∗ A3 mcM c 0 128 (mc0 xv wv c) ∗ A3 irxM c 0 96 (drx xv wv (dv1 c))) -∗ WP c (k v) Q)
        -∗ WP c (on (k0_part21 (F := F)) c v20 v23 v25 z >>= k) Q) := by
  rw [k0_part21_eq_skeleton]; unfold k0_part21_skel
  simp only [semSignalWord, semWaitWord, Prog.lift, Prog.bind_op, Prog.bind_ret, Prog.pure_eq_ret]
  iintro ⟨#HI, X, D, O, C0, E⟩ Hk
  iapply (dot3_step xv wv c mcM 1 96 _ (mc0 xv wv c) _ (off2_eq c 7) rfl 128 rfl (fun r k => mc0_row xv wv c 1 3 7 rfl r k) _ (fun _ _ => rfl)) $$ [X D]
  · isplitl [X]; · iexact X
    iexact D
  iintro ⟨X, D⟩
  iapply (rcv_step xv wv K 0 _ rfl c 9 (by decide) rfl) $$ [O C0]
  · isplitr; · iexact HI
    isplitl [O]; · iexact O
    iexact C0
  iintro ⟨O, I, Z0⟩
  ihave I := (lnd0 xv wv c) $$ I
  iapply (ld3u mcM c 0 128 0 96 (mc0 xv wv c) (by decide)) $$ E
  iintro %v ⟨%hv, E⟩
  iapply (ld3u irxM c 0 96 0 96 (drx xv wv (dv1 c)) (by decide)) $$ I
  iintro %w ⟨%hw, I⟩
  iapply Hk $$ %_
  isplitr; · ipureintro; exact mc_val xv wv c 0 v w _ hv hw (add3_apply v w _ _ _)
  isplitl [X]; · iexact X
  isplitl [D]; · iexact D
  isplitl [O]; · iexact O
  isplitl [Z0]; · iexact Z0
  isplitl [E]; · iexact E
  iexact I

/-- Part 22 stores that and starts copy 6, waits for the landing of copy 2, and adds what it brought to half 1. -/
theorem part22 {α : Type} {Q : α → sProp 𝕄} {k : Rest F _ α} (v25 v26 : BitVec 32) (v : FVec F S96x1024 .f32) (hv : ∀ j, k0_pay32 v j = mc xv wv c 0 (0 + (j 1).val) (j 2)) :
    iprop(recs xv wv K ∗ A3 mcM c 0 128 (mc0 xv wv c) ∗ owe (F := F) c (OR c 9) ∗ RS (F := F) 6 c ∗ rcvK (F := F) 2 c ∗ A3 mcM c 1 128 (mc0 xv wv c))
      ⊢ iprop((∀ v : FVec F S96x1024 .f32, iprop(⌜∀ j, k0_pay34 v j = mc xv wv c 1 (0 + (j 1).val) (j 2)⌝ ∗ owe (F := F) c (OR c 8) ∗ sndK (F := F) 6 c ∗ zr (F := F) 2 c ∗ A3 mcM c 1 128 (mc0 xv wv c) ∗ A3 irxM c 1 96 (drx xv wv (dv1 c))) -∗ WP c (k v) Q)
        -∗ WP c (on (k0_part22 (F := F)) c v25 v26 v >>= k) Q) := by
  rw [k0_part22_eq_skeleton]; unfold k0_part22_skel
  simp only [semSignalWord, semWaitWord, Prog.lift, Prog.bind_op, Prog.bind_ret, Prog.pure_eq_ret]
  iintro ⟨#HI, E, O, R6, C2, D⟩ Hk
  iapply (ld3u mcM c 0 128 0 96 (mc0 xv wv c) (by decide)) $$ E
  iintro %u ⟨%hu, E⟩
  iapply (st_mc xv wv c 0 _ hv) $$ E
  iintro E
  ihave E := (src6 xv wv c) $$ E
  iapply (send_at xv wv K 6 (c128b 0) rfl c _ (dev38_eq c) 8 9 rfl rfl) $$ [O R6 E]
  · isplitr; · iexact HI
    isplitl [O]; · iexact O
    isplitl [R6]; · iexact R6
    iexact E
  iintro ⟨O, S6⟩
  iapply (rcv_step xv wv K 2 _ rfl c 8 (by decide) rfl) $$ [O C2]
  · isplitr; · iexact HI
    isplitl [O]; · iexact O
    iexact C2
  iintro ⟨O, I, Z2⟩
  ihave I := (lnd2 xv wv c) $$ I
  iapply (ld3u mcM c 1 128 0 96 (mc0 xv wv c) (by decide)) $$ D
  iintro %y ⟨%hy, D⟩
  iapply (ld3u irxM c 1 96 0 96 (drx xv wv (dv1 c)) (by decide)) $$ I
  iintro %w ⟨%hw, I⟩
  iapply (ld3u mcM c 1 128 0 96 (mc0 xv wv c) (by decide)) $$ D
  iintro %z ⟨%hz, D⟩
  iapply Hk $$ %_
  isplitr; · ipureintro; exact mc_val xv wv c 1 y w _ hy hw (add3_apply y w _ _ _)
  isplitl [O]; · iexact O
  isplitl [S6]; · iexact S6
  isplitl [Z2]; · iexact Z2
  isplitl [D]; · iexact D
  iexact I

/-- Part 23 stores that and starts copy 7, and computes the first piece of the device's own rows. -/
theorem part23 {α : Type} {Q : α → sProp 𝕄} {k : Rest F _ α} (v3 v20 v26 : BitVec 32) (v : FVec F S96x1024 .f32) (hv : ∀ j, k0_pay34 v j = mc xv wv c 1 (0 + (j 1).val) (j 2)) :
    iprop(recs xv wv K ∗ A3 mcM c 1 128 (mc0 xv wv c) ∗ owe (F := F) c (OR c 8) ∗ RS (F := F) 7 c ∗ xw (xv c) (wv c) c ∗ A2 wkM c 0 128 0 (w0 xv wv c))
      ⊢ iprop((∀ a b, iprop(owe (F := F) c (OR c 7) ∗ sndK (F := F) 7 c ∗ xw (xv c) (wv c) c ∗ A2 wkM c 0 128 32 (w0 xv wv c)) -∗ WP c (k ⟨a, b⟩) Q)
        -∗ WP c (on (k0_part23 (F := F)) c v3 v20 v26 v >>= k) Q) := by
  rw [k0_part23_eq_skeleton]; unfold k0_part23_skel
  simp only [semSignalWord, semWaitWord, Prog.lift, Prog.bind_op, Prog.bind_ret, Prog.pure_eq_ret]
  iintro ⟨#HI, E, O, R7, X, D⟩ Hk
  iapply (st_mc xv wv c 1 _ hv) $$ E
  iintro E
  ihave E := (src7 xv wv c) $$ E
  iapply (send_at xv wv K 7 (c128b 1) rfl c _ (dev39_eq c) 7 8 rfl rfl) $$ [O R7 E]
  · isplitr; · iexact HI
    isplitl [O]; · iexact O
    isplitl [R7]; · iexact R7
    iexact E
  iintro ⟨O, S7⟩
  iapply (dotw_step xv wv c wkM 0 128 0 _ (w0 xv wv c) _ (off3_eq c 0) (by decide) rfl 32 rfl (fun r k => w0_row xv wv c 0 r k) _ (fun _ _ => rfl)) $$ [X D]
  · isplitl [X]; · iexact X
    iexact D
  iintro ⟨X, D⟩
  iapply Hk $$ %_ %_
  isplitl [O]; · iexact O
  isplitl [S7]; · iexact S7
  isplitl [X]; · iexact X
  iexact D

/-- Part 24 computes two more and reads the next one's rows. -/
theorem part24 {α : Type} {Q : α → sProp 𝕄} {k : Rest F _ α} (v3 v20 v675 z : BitVec 32) :
    iprop(xw (xv c) (wv c) c ∗ A2 wkM c 0 128 32 (w0 xv wv c))
      ⊢ iprop((iprop(xw (xv c) (wv c) c ∗ A2 wkM c 0 128 96 (w0 xv wv c)) -∗ WP c (k (k0_pay38 (rowsX (xv c) (slot c 3 * 4 + c.val % 4)))) Q)
        -∗ WP c (on (k0_part24 (F := F)) c v3 v20 v675 z >>= k) Q) := by
  rw [k0_part24_eq_skeleton]; unfold k0_part24_skel
  simp only [semSignalWord, semWaitWord, Prog.lift, Prog.bind_op, Prog.bind_ret, Prog.pure_eq_ret]
  iintro ⟨X, D⟩ Hk
  iapply (dotw_step xv wv c wkM 0 128 32 _ (w0 xv wv c) _ (off3_eq c 1) (by decide) rfl 64 rfl (fun r k => w0_row xv wv c 1 r k) _ (fun _ _ => rfl)) $$ [X D]
  · isplitl [X]; · iexact X
    iexact D
  iintro ⟨X, D⟩
  iapply (dotw_step xv wv c wkM 0 128 64 _ (w0 xv wv c) _ (off3_eq c 2) (by decide) rfl 96 rfl (fun r k => w0_row xv wv c 2 r k) _ (fun _ _ => rfl)) $$ [X D]
  · isplitl [X]; · iexact X
    iexact D
  iintro ⟨X, D⟩
  iapply (ld_x (xv c) (wv c) c _ _ (off3_eq c 3)) $$ X
  iintro X
  iapply Hk
  isplitl [X]; · iexact X
  iexact D

/-- Part 25 computes two more and multiplies the next one. -/
theorem part25 {α : Type} {Q : α → sProp 𝕄} {k : Rest F _ α} (v3 v20 : BitVec 32) :
    iprop(xw (xv c) (wv c) c ∗ A2 wkM c 0 128 96 (w0 xv wv c) ∗ A2 wkM c 128 128 128 (w0 xv wv c))
      ⊢ iprop((iprop(xw (xv c) (wv c) c ∗ A2 wkM c 0 128 128 (w0 xv wv c) ∗ A2 wkM c 128 128 160 (w0 xv wv c)) -∗ WP c (k (k0_pay41 (rowsX (xv c) (slot c 5 * 4 + c.val % 4)) (wv c))) Q)
        -∗ WP c (on (k0_part25 (F := F)) c v3 v20 (k0_pay38 (rowsX (xv c) (slot c 3 * 4 + c.val % 4))) >>= k) Q) := by
  rw [k0_part25_eq_skeleton]; unfold k0_part25_skel
  simp only [semSignalWord, semWaitWord, Prog.lift, Prog.bind_op, Prog.bind_ret, Prog.pure_eq_ret]
  iintro ⟨X, D, E⟩ Hk
  iapply (ld_w (xv c) (wv c) c) $$ X
  iintro X
  iapply (ld2 wkM c 0 128 96 96 32 (w0 xv wv c) (by decide)) $$ D
  iintro %_ ⟨-, D⟩
  iapply (dstow_step xv wv c 0 128 96 _ (w0 xv wv c) (by decide) rfl 128 rfl (fun r k => w0_row xv wv c 3 r k) _ rfl) $$ D
  iintro D
  iapply (dotw_step xv wv c wkM 128 128 128 _ (w0 xv wv c) _ (off3_eq c 4) (by decide) rfl 160 rfl (fun r k => w0_row xv wv c 4 r k) _ (fun _ _ => rfl)) $$ [X E]
  · isplitl [X]; · iexact X
    iexact E
  iintro ⟨X, E⟩
  iapply (ld_x (xv c) (wv c) c _ _ (off3_eq c 5)) $$ X
  iintro X
  iapply (ld_w (xv c) (wv c) c) $$ X
  iintro X
  iapply Hk
  isplitl [X]; · iexact X
  isplitl [D]; · iexact D
  iexact E

/-- Part 26 stores it and computes the last two. -/
theorem part26 {α : Type} {Q : α → sProp 𝕄} {k : Rest F _ α} (v3 v20 : BitVec 32) :
    iprop(xw (xv c) (wv c) c ∗ A2 wkM c 128 128 160 (w0 xv wv c))
      ⊢ iprop((iprop(xw (xv c) (wv c) c ∗ A2 wkM c 128 128 256 (w0 xv wv c)) -∗ WP c (k ⟨⟩) Q)
        -∗ WP c (on (k0_part26 (F := F)) c v3 v20 (k0_pay41 (rowsX (xv c) (slot c 5 * 4 + c.val % 4)) (wv c)) >>= k) Q) := by
  rw [k0_part26_eq_skeleton]; unfold k0_part26_skel
  simp only [semSignalWord, semWaitWord, Prog.lift, Prog.bind_op, Prog.bind_ret, Prog.pure_eq_ret]
  iintro ⟨X, D⟩ Hk
  iapply (ld2 wkM c 128 128 160 160 32 (w0 xv wv c) (by decide)) $$ D
  iintro %_ ⟨-, D⟩
  iapply (dstow_step xv wv c 128 128 160 _ (w0 xv wv c) (by decide) rfl 192 rfl (fun r k => w0_row xv wv c 5 r k) _ rfl) $$ D
  iintro D
  iapply (dotw_step xv wv c wkM 128 128 192 _ (w0 xv wv c) _ (off3_eq c 6) (by decide) rfl 224 rfl (fun r k => w0_row xv wv c 6 r k) _ (fun _ _ => rfl)) $$ [X D]
  · isplitl [X]; · iexact X
    iexact D
  iintro ⟨X, D⟩
  iapply (dotw_step xv wv c wkM 128 128 224 _ (w0 xv wv c) _ (off3_eq c 7) (by decide) rfl 256 rfl (fun r k => w0_row xv wv c 7 r k) _ (fun _ _ => rfl)) $$ [X D]
  · isplitl [X]; · iexact X
    iexact D
  iintro ⟨X, D⟩
  iapply Hk
  isplitl [X]; · iexact X
  iexact D

end
end Cert.KProof
-- ==== Proof.Parts3.lean ====
/-
# The body, part by part: the sums, the second exchange and the result

Both neighbours' sums are added to the device's own rows, the seven other squares' sums are sent, those that come in are
added up, and the result is stored; then the sends are waited for.
-/
module

public import proofs.«01_k».proof.Proof.Parts2

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] Idealize.SL.BI.bigSep

section
variable (xv : Dev nD → Vec F S1024x32 .f32) (wv : Dev nD → Vec F S32x1024 .f32) (K : Dev nD × CI → ℕ) (c : Dev nD)

/-! ## Values -/

/-- Both neighbours' sums added to the device's own rows: half `g` of the working buffer. -/
theorem wk_val (g : ℕ) (hg : g < 2) (v w : Vec F S128x1024 .f32) (a b : Vec F S1x128x1024 .f32)
    (hv : ∀ j, v j = w0 xv wv c (128 * g + (j 0).val) (j 1))
    (ha : ∀ j, a j = mb xv wv (dv1 c) g (0 + (j 1).val) (j 2)) (hb : ∀ j, b j = mc xv wv (dv2 c) g (0 + (j 1).val) (j 2))
    (hw : ∀ j : S128x1024.Idx, w j = FloatOps.addf (F := F) (φ := .f32) (FloatOps.addf (F := F) (φ := .f32) (v j) (a (ix3 0 (j 0) (j 1)))) (b (ix3 0 (j 0) (j 1)))) (j : S128x1024.Idx) :
    w j = wk xv wv c (128 * g + (j 0).val) (j 1) := by
  have hj : (j 0).val < 128 := (j 0).isLt
  rw [hw, hv, ha, hb]
  unfold wk
  have e1 : (128 * g + (j 0).val) / 128 = g := by omega
  have e2 : (128 * g + (j 0).val) % 128 = 0 + (j 0).val := by omega
  rw [e1, e2]

/-- That addition element by element. -/
theorem sum3_apply (v : Vec F S128x1024 .f32) (a b : Vec F S1x128x1024 .f32) (j : S128x1024.Idx) (h h' : S1x128x1024.ShapeCasts S128x1024) (h'' : S128x1024.ShapeCasts S128x1024) :
    shapeCast S128x1024 (addf (F := F) (φ := .f32) (addf (F := F) (φ := .f32) v (shapeCast S128x1024 a h)) (shapeCast S128x1024 b h')) h'' j
      = FloatOps.addf (F := F) (φ := .f32) (FloatOps.addf (F := F) (φ := .f32) (v j) (a (ix3 0 (j 0) (j 1)))) (b (ix3 0 (j 0) (j 1))) := by
  rw [shapeCast_self]
  show FloatOps.addf (F := F) (φ := .f32) (FloatOps.addf (F := F) (φ := .f32) (v j) (shapeCast S128x1024 a h j)) (shapeCast S128x1024 b h' j) = _
  rw [show shapeCast S128x1024 a h j = _ from cast_drop a h j, show shapeCast S128x1024 b h' j = _ from cast_drop b h' j]

/-- A load within the known rows of a band. -/
theorem ld2u (lo0 n0 N lo n : ℕ) (G : ℕ → Fin 1024 → F .f32) (hlo : lo0 ≤ lo ∧ lo + n ≤ lo0 + n0) (hN : lo + n ≤ N)
    {inb : ∀ x, (![lo, 0] : Fin 2 → ℕ) x + (![n, 1024] : Fin 2 → ℕ) x ≤ (![256, 1024] : Fin 2 → ℕ) x}
    {hl : wkM.view.LoadsAt (Rect.unit (s := ⟨2, ![256, 1024]⟩) ![lo, 0] ![n, 1024] inb).toLoadRect} {α : Type} {Q : α → sProp 𝕄}
    {k : Vec F ⟨2, ![n, 1024]⟩ .f32 → Prog (TpuEff nD τ sig (Elt F) Λ₀ .tc) α} :
    A2 wkM c lo0 n0 N G ⊢ iprop((∀ v : Vec F ⟨2, ![n, 1024]⟩ .f32, iprop(⌜∀ j, v j = G (lo + (j 0).val) (j 1)⌝ ∗ A2 wkM c lo0 n0 N G) -∗ WP c (k v) Q)
      -∗ WP c (.op (.load wkM (Rect.unit (s := ⟨2, ![256, 1024]⟩) ![lo, 0] ![n, 1024] inb).toLoadRect hl) k) Q) := by
  iintro H Hk
  iapply (ld2 wkM c lo0 n0 N lo n G hlo) $$ H
  iintro %v ⟨%hv, H⟩
  iapply Hk
  isplitr
  · ipureintro; intro j; exact hv j (by have hj : (j 0).val < n := (j 0).isLt; omega)
  iexact H

/-- The store of a half of the working buffer with both neighbours' sums added. -/
theorem st_wk (g : ℕ) (lo N : ℕ) (hlo : lo = 128 * g) (hN : N = lo + 128) (w : Vec F S128x1024 .f32) (hw : ∀ j : S128x1024.Idx, w j = wk xv wv c (128 * g + (j 0).val) (j 1))
    {inb : ∀ x, (![lo, 0] : Fin 2 → ℕ) x + S128x1024.size x ≤ S256x1024.size x}
    {hx : (wkM.access (Rect.unit (s := S256x1024) ![lo, 0] S128x1024.size inb)).Stores Finset.univ}
    {hm : (Finset.univ : Finset (Rect.unit (s := S256x1024) ![lo, 0] S128x1024.size inb).shape.Idx) = Finset.univ ∨ ∀ a', (Rect.unit (s := S256x1024) ![lo, 0] S128x1024.size inb).stride a' = 1}
    {α : Type} {Q : α → sProp 𝕄} {k : PUnit → Prog (TpuEff nD τ sig (Elt F) Λ₀ .tc) α} :
    A2 wkM c lo 128 N (w0 xv wv c) ⊢ iprop((A2 wkM c lo 128 N (wk xv wv c) -∗ WP c (k ⟨⟩) Q)
      -∗ WP c (.op (.store wkM (Rect.unit (s := S256x1024) ![lo, 0] S128x1024.size inb) w Finset.univ hx hm) k) Q) := by
  subst hlo hN
  exact st2 wkM c (128 * g) 128 _ _ (128 * g) 128 (w0 xv wv c) (wk xv wv c) (by omega) w hw (fun r h1 h2 h3 h4 => by omega)

/-- A box read without its leading axis. -/
theorem box_at {b : ℕ} (v : Vec F S1x32x1024 .f32) (hv : ∀ j, v j = ib xv wv c b (0 + (j 1).val) (j 2)) (h : S1x32x1024.ShapeCasts S32x1024) (j : S32x1024.Idx) :
    shapeCast S32x1024 v h j = ib xv wv c b (j 0).val (j 1) := by
  refine (cast_drop v h j).trans ((hv _).trans ?_)
  show ib xv wv c b (0 + (j 0).val) (j 1) = _
  rw [Nat.zero_add]

/-- The sums of the first squares: two, -/
def accA (r : ℕ) (k : Fin 1024) : F .f32 := FloatOps.addf (wk xv wv c (224 + r) k) (ib xv wv c 6 r k)
/-- and five. -/
def accB (r : ℕ) (k : Fin 1024) : F .f32 := FloatOps.addf (FloatOps.addf (FloatOps.addf (accA xv wv c r k) (ib xv wv c 5 r k)) (ib xv wv c 4 r k)) (ib xv wv c 3 r k)

/-- The stored rows and box 6 added up, -/
theorem pay47_at (v : Vec F S32x1024 .f32) (b6 : Vec F S1x32x1024 .f32) (hv : ∀ j : S32x1024.Idx, v j = wk xv wv c (224 + (j 0).val) (j 1))
    (h6 : ∀ j, b6 j = ib xv wv c 6 (0 + (j 1).val) (j 2)) (j : S32x1024.Idx) : k0_pay47 v b6 j = accA xv wv c (j 0).val (j 1) := by
  show FloatOps.addf (F := F) (φ := .f32) (v j) (shapeCast S32x1024 b6 shapeCasts_S1x32x1024_S32x1024 j) = _
  rw [hv, box_at xv wv c b6 h6]; rfl
/-- then boxes 5, 4 and 3, -/
theorem pay48_at (v : Vec F S32x1024 .f32) (b5 b4 b3 : Vec F S1x32x1024 .f32) (hv : ∀ j : S32x1024.Idx, v j = accA xv wv c (j 0).val (j 1))
    (h5 : ∀ j, b5 j = ib xv wv c 5 (0 + (j 1).val) (j 2)) (h4 : ∀ j, b4 j = ib xv wv c 4 (0 + (j 1).val) (j 2)) (h3 : ∀ j, b3 j = ib xv wv c 3 (0 + (j 1).val) (j 2))
    (j : S32x1024.Idx) : k0_pay48 v b5 b4 b3 j = accB xv wv c (j 0).val (j 1) := by
  show FloatOps.addf (F := F) (φ := .f32) (FloatOps.addf (F := F) (φ := .f32) (FloatOps.addf (F := F) (φ := .f32) (v j) (shapeCast S32x1024 b5 shapeCasts_S1x32x1024_S32x1024 j))
    (shapeCast S32x1024 b4 shapeCasts_S1x32x1024_S32x1024 j)) (shapeCast S32x1024 b3 shapeCasts_S1x32x1024_S32x1024 j) = _
  rw [hv, box_at xv wv c b5 h5, box_at xv wv c b4 h4, box_at xv wv c b3 h3]; rfl
/-- then boxes 2, 1 and 0, and the sum made nonnegative: the result. -/
theorem pay49_at (v : Vec F S32x1024 .f32) (b2 b1 b0 : Vec F S1x32x1024 .f32) (hv : ∀ j : S32x1024.Idx, v j = accB xv wv c (j 0).val (j 1))
    (h2 : ∀ j, b2 j = ib xv wv c 2 (0 + (j 1).val) (j 2)) (h1 : ∀ j, b1 j = ib xv wv c 1 (0 + (j 1).val) (j 2)) (h0 : ∀ j, b0 j = ib xv wv c 0 (0 + (j 1).val) (j 2))
    (j : S32x1024.Idx) : k0_pay49 v b2 b1 b0 j = res xv wv c (j 0).val (j 1) := by
  show FloatOps.maximumf (F := F) (φ := .f32) (FloatOps.addf (F := F) (φ := .f32) (FloatOps.addf (F := F) (φ := .f32) (FloatOps.addf (F := F) (φ := .f32) (v j) (shapeCast S32x1024 b2 shapeCasts_S1x32x1024_S32x1024 j))
    (shapeCast S32x1024 b1 shapeCasts_S1x32x1024_S32x1024 j)) (shapeCast S32x1024 b0 shapeCasts_S1x32x1024_S32x1024 j)) (Scalar.ofBits .f32 0x00000000#32) = _
  rw [hv, box_at xv wv c b2 h2, box_at xv wv c b1 h1, box_at xv wv c b0 h0]; rfl

/-- A copy's source and its landing place count alike. -/
theorem src_amt (k : Fin 15) : (cp k).src.view.dmaCredit = amt k := by
  revert k; decide +kernel

/-- The result's load, of no use, and its store. -/
theorem st_out (w : Vec F S32x1024 .f32) (hw : ∀ j, w j = res xv wv c (j 0).val (j 1))
    {inb : ∀ a, (![0, 0] : Fin 2 → ℕ) a + S32x1024.size a ≤ S32x1024.size a} {hl : oM.view.LoadsAt (Rect.unit (s := S32x1024) ![0, 0] S32x1024.size inb).toLoadRect}
    {hx : (oM.access (Rect.unit (s := S32x1024) ![0, 0] S32x1024.size inb)).Stores Finset.univ}
    {hm : (Finset.univ : Finset (Rect.unit (s := S32x1024) ![0, 0] S32x1024.size inb).shape.Idx) = Finset.univ ∨ ∀ a', (Rect.unit (s := S32x1024) ![0, 0] S32x1024.size inb).stride a' = 1}
    {α : Type} {Q : α → sProp 𝕄} {k : PUnit → Prog (TpuEff nD τ sig (Elt F) Λ₀ .tc) α} :
    iprop(∃ f : Vec F S32x1024 .f32, oM.view.loc (c : Thread nD τ) ↦{fullShare} f)
      ⊢ iprop(((oM.view.loc (c : Thread nD τ) ↦{fullShare} (on2 (res xv wv c) : Vec F S32x1024 .f32)) -∗ WP c (k ⟨⟩) Q)
        -∗ WP c (.op (.load oM (Rect.unit (s := S32x1024) ![0, 0] S32x1024.size inb).toLoadRect hl) fun _ =>
          .op (.store oM (Rect.unit (s := S32x1024) ![0, 0] S32x1024.size inb) w Finset.univ hx hm) k) Q) := by
  have e : w = (on2 (res xv wv c) : Vec F S32x1024 .f32) := funext hw
  subst e
  have hr : ∀ f : Vec F S32x1024 .f32, (oM.access (Rect.unit (s := S32x1024) ![0, 0] S32x1024.size inb)).write (Elt F) f (on2 (res xv wv c)) Finset.univ = (on2 (res xv wv c) : Vec F S32x1024 .f32) := fun f =>
    Memref.write_access_unit_zero_univ (Elt F) cc0_stg2_0 (by funext a; fin_cases a <;> rfl) inb f _
  iintro ⟨%f, Ho⟩ Hk
  iapply (wp_load_rect 𝒱₀ (c : Thread nD τ) none Set.univ (m := oM) (r := Rect.unit (s := S32x1024) ![0, 0] S32x1024.size inb) (S := Finset.univ)
    (q := fullShare) (f := f) (Finset.subset_univ _)) $$ Ho
  iintro Ho
  iapply (wp_store 𝒱₀ (c : Thread nD τ) none Set.univ (m := oM) (r := Rect.unit (s := S32x1024) ![0, 0] S32x1024.size inb) (S := Finset.univ)
    (f := f) (Finset.subset_univ _)) $$ Ho
  rw [hr]
  iintro Ho
  iapply Hk $$ Ho

/-! ## The parts -/

/-- Part 27 waits for the landings of copies 4 and 6, and adds them to the first half of the working buffer. -/
theorem part27 {α : Type} {Q : α → sProp 𝕄} {k : Rest F _ α} (v20 v25 v26 : BitVec 32) :
    iprop(recs xv wv K ∗ owe (F := F) c (OR c 7) ∗ rcvK (F := F) 4 c ∗ rcvK (F := F) 6 c ∗ A2 wkM c 0 128 128 (w0 xv wv c))
      ⊢ iprop((∀ a, iprop(owe (F := F) c (OR c 7) ∗ zr (F := F) 4 c ∗ A3 ia1M c 0 128 (mb xv wv (dv1 c)) ∗ zr (F := F) 6 c ∗ A3 ia2M c 0 128 (mc xv wv (dv2 c)) ∗ A2 wkM c 0 128 128 (wk xv wv c)) -∗ WP c (k a) Q)
        -∗ WP c (on (k0_part27 (F := F)) v20 v25 v26 >>= k) Q) := by
  rw [k0_part27_eq_skeleton]; unfold k0_part27_skel
  simp only [semSignalWord, semWaitWord, Prog.lift, Prog.bind_op, Prog.bind_ret, Prog.pure_eq_ret]
  iintro ⟨#HI, O, C4, C6, D⟩ Hk
  iapply (rcv_step xv wv K 4 _ rfl c 7 (by decide) rfl) $$ [O C4]
  · isplitr; · iexact HI
    isplitl [O]; · iexact O
    iexact C4
  iintro ⟨O, I, Z4⟩
  ihave I := (lnd4 xv wv c) $$ I
  iapply (rcv_step xv wv K 6 _ rfl c 7 (by decide) rfl) $$ [O C6]
  · isplitr; · iexact HI
    isplitl [O]; · iexact O
    iexact C6
  iintro ⟨O, J, Z6⟩
  ihave J := (lnd6 xv wv c) $$ J
  iapply (ld2u c 0 128 128 0 128 (w0 xv wv c) (by decide) (by decide)) $$ D
  iintro %v ⟨%hv, D⟩
  iapply (ld3u ia1M c 0 128 0 128 (mb xv wv (dv1 c)) (by decide)) $$ I
  iintro %a ⟨%ha, I⟩
  iapply (ld3u ia2M c 0 128 0 128 (mc xv wv (dv2 c)) (by decide)) $$ J
  iintro %b ⟨%hb, J⟩
  iapply (ld2u c 0 128 128 0 128 (w0 xv wv c) (by decide) (by decide)) $$ D
  iintro %u ⟨-, D⟩
  iapply (st_wk xv wv c 0 0 128 rfl rfl _ (wk_val xv wv c 0 (by decide) v _ a b hv ha hb (fun j => sum3_apply v a b j _ _ _))) $$ D
  iintro D
  iapply Hk $$ %_
  isplitl [O]; · iexact O
  isplitl [Z4]; · iexact Z4
  isplitl [I]; · iexact I
  isplitl [Z6]; · iexact Z6
  isplitl [J]; · iexact J
  iexact D

/-- Part 28 starts copies 8 and 9. -/
theorem part28 {α : Type} {Q : α → sProp 𝕄} {k : Rest F _ α} (v3 v20 v802 : BitVec 32) :
    iprop(recs xv wv K ∗ owe (F := F) c (OR c 7) ∗ RS (F := F) 8 c ∗ srcP xv wv 8 c ∗ RS (F := F) 9 c ∗ srcP xv wv 9 c)
      ⊢ iprop((∀ a b d, iprop(owe (F := F) c (OR c 5) ∗ sndK (F := F) 8 c ∗ sndK (F := F) 9 c) -∗ WP c (k ⟨a, b, d⟩) Q)
        -∗ WP c (on (k0_part28 (F := F)) c v3 v20 v802 >>= k) Q) := by
  rw [k0_part28_eq_skeleton]; unfold k0_part28_skel
  simp only [semSignalWord, semWaitWord, Prog.lift, Prog.bind_op, Prog.bind_ret, Prog.pure_eq_ret]
  iintro ⟨#HI, O, R8, P8, R9, P9⟩ Hk
  iapply (send_at xv wv K 8 (c7 0 0 6) rfl c _ (dev40_eq c) 6 7 rfl rfl) $$ [O R8 P8]
  · isplitr; · iexact HI
    isplitl [O]; · iexact O
    isplitl [R8]; · iexact R8
    iexact P8
  iintro ⟨O, S8⟩
  iapply (send_at xv wv K 9 (c7 1 32 5) rfl c _ (dev41_eq c) 5 6 rfl rfl) $$ [O R9 P9]
  · isplitr; · iexact HI
    isplitl [O]; · iexact O
    isplitl [R9]; · iexact R9
    iexact P9
  iintro ⟨O, S9⟩
  iapply Hk $$ %_ %_ %_
  isplitl [O]; · iexact O
  isplitl [S8]; · iexact S8
  iexact S9

/-- Part 29 starts copies 10 and 11. -/
theorem part29 {α : Type} {Q : α → sProp 𝕄} {k : Rest F _ α} (v3 v20 v25 v832 : BitVec 32) :
    iprop(recs xv wv K ∗ owe (F := F) c (OR c 5) ∗ RS (F := F) 10 c ∗ srcP xv wv 10 c ∗ RS (F := F) 11 c ∗ srcP xv wv 11 c)
      ⊢ iprop((∀ a b, iprop(owe (F := F) c (OR c 3) ∗ sndK (F := F) 10 c ∗ sndK (F := F) 11 c) -∗ WP c (k ⟨a, b⟩) Q)
        -∗ WP c (on (k0_part29 (F := F)) c v3 v20 v25 v832 >>= k) Q) := by
  rw [k0_part29_eq_skeleton]; unfold k0_part29_skel
  simp only [semSignalWord, semWaitWord, Prog.lift, Prog.bind_op, Prog.bind_ret, Prog.pure_eq_ret]
  iintro ⟨#HI, O, R10, P10, R11, P11⟩ Hk
  iapply (send_at xv wv K 10 (c7 2 64 4) rfl c _ (dev42_eq c) 4 5 rfl rfl) $$ [O R10 P10]
  · isplitr; · iexact HI
    isplitl [O]; · iexact O
    isplitl [R10]; · iexact R10
    iexact P10
  iintro ⟨O, S10⟩
  iapply (send_at xv wv K 11 (c7 3 96 3) rfl c _ (dev43_eq c) 3 4 rfl rfl) $$ [O R11 P11]
  · isplitr; · iexact HI
    isplitl [O]; · iexact O
    isplitl [R11]; · iexact R11
    iexact P11
  iintro ⟨O, S11⟩
  iapply Hk $$ %_ %_
  isplitl [O]; · iexact O
  isplitl [S10]; · iexact S10
  iexact S11

/-- Part 30 waits for the landings of copies 5 and 7, and adds them to the second half of the working buffer. -/
theorem part30 {α : Type} {Q : α → sProp 𝕄} {k : Rest F _ α} (v3 v20 v26 : BitVec 32) :
    iprop(recs xv wv K ∗ owe (F := F) c (OR c 3) ∗ rcvK (F := F) 5 c ∗ rcvK (F := F) 7 c ∗ A2 wkM c 128 128 256 (w0 xv wv c))
      ⊢ iprop((∀ a, iprop(owe (F := F) c (OR c 3) ∗ zr (F := F) 5 c ∗ A3 ia1M c 1 128 (mb xv wv (dv1 c)) ∗ zr (F := F) 7 c ∗ A3 ia2M c 1 128 (mc xv wv (dv2 c)) ∗ A2 wkM c 128 128 256 (wk xv wv c)) -∗ WP c (k a) Q)
        -∗ WP c (on (k0_part30 (F := F)) v3 v20 v26 >>= k) Q) := by
  rw [k0_part30_eq_skeleton]; unfold k0_part30_skel
  simp only [semSignalWord, semWaitWord, Prog.lift, Prog.bind_op, Prog.bind_ret, Prog.pure_eq_ret]
  iintro ⟨#HI, O, C5, C7, D⟩ Hk
  iapply (rcv_step xv wv K 5 _ rfl c 3 (by decide) rfl) $$ [O C5]
  · isplitr; · iexact HI
    isplitl [O]; · iexact O
    iexact C5
  iintro ⟨O, I, Z5⟩
  ihave I := (lnd5 xv wv c) $$ I
  iapply (rcv_step xv wv K 7 _ rfl c 3 (by decide) rfl) $$ [O C7]
  · isplitr; · iexact HI
    isplitl [O]; · iexact O
    iexact C7
  iintro ⟨O, J, Z7⟩
  ihave J := (lnd7 xv wv c) $$ J
  iapply (ld2u c 128 128 256 128 128 (w0 xv wv c) (by decide) (by decide)) $$ D
  iintro %v ⟨%hv, D⟩
  iapply (ld3u ia1M c 1 128 0 128 (mb xv wv (dv1 c)) (by decide)) $$ I
  iintro %a ⟨%ha, I⟩
  iapply (ld3u ia2M c 1 128 0 128 (mc xv wv (dv2 c)) (by decide)) $$ J
  iintro %b ⟨%hb, J⟩
  iapply (ld2u c 128 128 256 128 128 (w0 xv wv c) (by decide) (by decide)) $$ D
  iintro %u ⟨-, D⟩
  iapply (st_wk xv wv c 1 128 256 rfl rfl _ (wk_val xv wv c 1 (by decide) v _ a b hv ha hb (fun j => sum3_apply v a b j _ _ _))) $$ D
  iintro D
  iapply Hk $$ %_
  isplitl [O]; · iexact O
  isplitl [Z5]; · iexact Z5
  isplitl [I]; · iexact I
  isplitl [Z7]; · iexact Z7
  isplitl [J]; · iexact J
  iexact D

/-- Part 31 starts copies 12 and 13. -/
theorem part31 {α : Type} {Q : α → sProp 𝕄} {k : Rest F _ α} (v3 v20 v888 : BitVec 32) :
    iprop(recs xv wv K ∗ owe (F := F) c (OR c 3) ∗ RS (F := F) 12 c ∗ srcP xv wv 12 c ∗ RS (F := F) 13 c ∗ srcP xv wv 13 c)
      ⊢ iprop((∀ a b d e, iprop(owe (F := F) c (OR c 1) ∗ sndK (F := F) 12 c ∗ sndK (F := F) 13 c) -∗ WP c (k ⟨a, b, d, e⟩) Q)
        -∗ WP c (on (k0_part31 (F := F)) c v3 v20 v888 >>= k) Q) := by
  rw [k0_part31_eq_skeleton]; unfold k0_part31_skel
  simp only [semSignalWord, semWaitWord, Prog.lift, Prog.bind_op, Prog.bind_ret, Prog.pure_eq_ret]
  iintro ⟨#HI, O, R12, P12, R13, P13⟩ Hk
  iapply (send_at xv wv K 12 (c7 4 128 2) rfl c _ (dev44_eq c) 2 3 rfl rfl) $$ [O R12 P12]
  · isplitr; · iexact HI
    isplitl [O]; · iexact O
    isplitl [R12]; · iexact R12
    iexact P12
  iintro ⟨O, S12⟩
  iapply (send_at xv wv K 13 (c7 5 160 1) rfl c _ (dev45_eq c) 1 2 rfl rfl) $$ [O R13 P13]
  · isplitr; · iexact HI
    isplitl [O]; · iexact O
    isplitl [R13]; · iexact R13
    iexact P13
  iintro ⟨O, S13⟩
  iapply Hk $$ %_ %_ %_ %_
  isplitl [O]; · iexact O
  isplitl [S12]; · iexact S12
  iexact S13

/-- Part 32 starts copy 14, waits for the landings of copies 8 and 9, and begins to add up. -/
theorem part32 {α : Type} {Q : α → sProp 𝕄} {k : Rest F _ α} (v806 v820 v917 z : BitVec 32) :
    iprop(recs xv wv K ∗ owe (F := F) c (OR c 1) ∗ RS (F := F) 14 c ∗ srcP xv wv 14 c ∗ A2 wkM c 224 32 256 (wk xv wv c) ∗ rcvK (F := F) 8 c ∗ rcvK (F := F) 9 c)
      ⊢ iprop((∀ (v : FVec F S32x1024 .f32) (u : Vec F S1x32x1024 .f32), iprop(⌜∀ j : S32x1024.Idx, v j = accA xv wv c (j 0).val (j 1)⌝ ∗ ⌜∀ j, u j = ib xv wv c 5 (0 + (j 1).val) (j 2)⌝ ∗ owe (F := F) c (OR c 0) ∗ sndK (F := F) 14 c ∗ A2 wkM c 224 32 256 (wk xv wv c) ∗ zr (F := F) 8 c ∗ A3 ibM c 6 32 (ib xv wv c) ∗ zr (F := F) 9 c ∗ A3 ibM c 5 32 (ib xv wv c)) -∗ WP c (k ⟨v, u⟩) Q)
        -∗ WP c (on (k0_part32 (F := F)) c v806 v820 v917 z >>= k) Q) := by
  rw [k0_part32_eq_skeleton]; unfold k0_part32_skel
  simp only [semSignalWord, semWaitWord, Prog.lift, Prog.bind_op, Prog.bind_ret, Prog.pure_eq_ret]
  iintro ⟨#HI, O, R14, P14, D, C8, C9⟩ Hk
  iapply (send_at xv wv K 14 (c7 6 192 0) rfl c _ (dev46_eq c) 0 1 rfl rfl) $$ [O R14 P14]
  · isplitr; · iexact HI
    isplitl [O]; · iexact O
    isplitl [R14]; · iexact R14
    iexact P14
  iintro ⟨O, S14⟩
  iapply (ld2u c 224 32 256 224 32 (wk xv wv c) (by decide) (by decide)) $$ D
  iintro %v ⟨%hv, D⟩
  iapply (rcv_step xv wv K 8 _ rfl c 0 (by decide) rfl) $$ [O C8]
  · isplitr; · iexact HI
    isplitl [O]; · iexact O
    iexact C8
  iintro ⟨O, B6, Z8⟩
  ihave B6 := (lnd8 xv wv c) $$ B6
  iapply (ld3u ibM c 6 32 0 32 (ib xv wv c) (by decide)) $$ B6
  iintro %b6 ⟨%hb6, B6⟩
  iapply (rcv_step xv wv K 9 _ rfl c 0 (by decide) rfl) $$ [O C9]
  · isplitr; · iexact HI
    isplitl [O]; · iexact O
    iexact C9
  iintro ⟨O, B5, Z9⟩
  ihave B5 := (lnd9 xv wv c) $$ B5
  iapply (ld3u ibM c 5 32 0 32 (ib xv wv c) (by decide)) $$ B5
  iintro %b5 ⟨%hb5, B5⟩
  iapply Hk $$ %_ %_
  isplitr; · ipureintro; exact pay47_at xv wv c v b6 hv hb6
  isplitr; · ipureintro; exact hb5
  isplitl [O]; · iexact O
  isplitl [S14]; · iexact S14
  isplitl [D]; · iexact D
  isplitl [Z8]; · iexact Z8
  isplitl [B6]; · iexact B6
  isplitl [Z9]; · iexact Z9
  iexact B5

/-- Part 33 waits for those of copies 10 and 11, and adds boxes 5 to 3. -/
theorem part33 {α : Type} {Q : α → sProp 𝕄} {k : Rest F _ α} (v834 v848 v888 : BitVec 32) (v : FVec F S32x1024 .f32) (u : Vec F S1x32x1024 .f32) (hv : ∀ j : S32x1024.Idx, v j = accA xv wv c (j 0).val (j 1)) (hu : ∀ j, u j = ib xv wv c 5 (0 + (j 1).val) (j 2)) :
    iprop(recs xv wv K ∗ owe (F := F) c (OR c 0) ∗ rcvK (F := F) 10 c ∗ rcvK (F := F) 11 c)
      ⊢ iprop((∀ v : FVec F S32x1024 .f32, iprop(⌜∀ j : S32x1024.Idx, v j = accB xv wv c (j 0).val (j 1)⌝ ∗ owe (F := F) c (OR c 0) ∗ zr (F := F) 10 c ∗ A3 ibM c 4 32 (ib xv wv c) ∗ zr (F := F) 11 c ∗ A3 ibM c 3 32 (ib xv wv c)) -∗ WP c (k v) Q)
        -∗ WP c (on (k0_part33 (F := F)) v834 v848 v888 v u >>= k) Q) := by
  rw [k0_part33_eq_skeleton]; unfold k0_part33_skel
  simp only [semSignalWord, semWaitWord, Prog.lift, Prog.bind_op, Prog.bind_ret, Prog.pure_eq_ret]
  iintro ⟨#HI, O, C10, C11⟩ Hk
  iapply (rcv_step xv wv K 10 _ rfl c 0 (by decide) rfl) $$ [O C10]
  · isplitr; · iexact HI
    isplitl [O]; · iexact O
    iexact C10
  iintro ⟨O, B4, Z10⟩
  ihave B4 := (lnd10 xv wv c) $$ B4
  iapply (ld3u ibM c 4 32 0 32 (ib xv wv c) (by decide)) $$ B4
  iintro %b4 ⟨%hb4, B4⟩
  iapply (rcv_step xv wv K 11 _ rfl c 0 (by decide) rfl) $$ [O C11]
  · isplitr; · iexact HI
    isplitl [O]; · iexact O
    iexact C11
  iintro ⟨O, B3, Z11⟩
  ihave B3 := (lnd11 xv wv c) $$ B3
  iapply (ld3u ibM c 3 32 0 32 (ib xv wv c) (by decide)) $$ B3
  iintro %b3 ⟨%hb3, B3⟩
  iapply Hk $$ %_
  isplitr; · ipureintro; exact pay48_at xv wv c v u b4 b3 hv hu hb4 hb3
  isplitl [O]; · iexact O
  isplitl [Z10]; · iexact Z10
  isplitl [B4]; · iexact B4
  isplitl [Z11]; · iexact Z11
  iexact B3

/-- Part 34 waits for those of copies 12 to 14, and adds the last boxes. -/
theorem part34 {α : Type} {Q : α → sProp 𝕄} {k : Rest F _ α} (v902 v916 : BitVec 32) (v : FVec F S32x1024 .f32) (hv : ∀ j : S32x1024.Idx, v j = accB xv wv c (j 0).val (j 1)) :
    iprop(recs xv wv K ∗ owe (F := F) c (OR c 0) ∗ rcvK (F := F) 12 c ∗ rcvK (F := F) 13 c ∗ rcvK (F := F) 14 c)
      ⊢ iprop((∀ v : FVec F S32x1024 .f32, iprop(⌜∀ j : S32x1024.Idx, v j = res xv wv c (j 0).val (j 1)⌝ ∗ owe (F := F) c (OR c 0) ∗ zr (F := F) 12 c ∗ A3 ibM c 2 32 (ib xv wv c) ∗ zr (F := F) 13 c ∗ A3 ibM c 1 32 (ib xv wv c) ∗ zr (F := F) 14 c ∗ A3 ibM c 0 32 (ib xv wv c)) -∗ WP c (k v) Q)
        -∗ WP c (on (k0_part34 (F := F)) v902 v916 v >>= k) Q) := by
  rw [k0_part34_eq_skeleton]; unfold k0_part34_skel
  simp only [semSignalWord, semWaitWord, Prog.lift, Prog.bind_op, Prog.bind_ret, Prog.pure_eq_ret]
  iintro ⟨#HI, O, C12, C13, C14⟩ Hk
  iapply (rcv_step xv wv K 12 _ rfl c 0 (by decide) rfl) $$ [O C12]
  · isplitr; · iexact HI
    isplitl [O]; · iexact O
    iexact C12
  iintro ⟨O, B2, Z12⟩
  ihave B2 := (lnd12 xv wv c) $$ B2
  iapply (ld3u ibM c 2 32 0 32 (ib xv wv c) (by decide)) $$ B2
  iintro %b2 ⟨%hb2, B2⟩
  iapply (rcv_step xv wv K 13 _ rfl c 0 (by decide) rfl) $$ [O C13]
  · isplitr; · iexact HI
    isplitl [O]; · iexact O
    iexact C13
  iintro ⟨O, B1, Z13⟩
  ihave B1 := (lnd13 xv wv c) $$ B1
  iapply (ld3u ibM c 1 32 0 32 (ib xv wv c) (by decide)) $$ B1
  iintro %b1 ⟨%hb1, B1⟩
  iapply (rcv_step xv wv K 14 _ rfl c 0 (by decide) rfl) $$ [O C14]
  · isplitr; · iexact HI
    isplitl [O]; · iexact O
    iexact C14
  iintro ⟨O, B0, Z14⟩
  ihave B0 := (lnd14 xv wv c) $$ B0
  iapply (ld3u ibM c 0 32 0 32 (ib xv wv c) (by decide)) $$ B0
  iintro %b0 ⟨%hb0, B0⟩
  iapply Hk $$ %_
  isplitr; · ipureintro; exact pay49_at xv wv c v b2 b1 b0 hv hb2 hb1 hb0
  isplitl [O]; · iexact O
  isplitl [Z12]; · iexact Z12
  isplitl [B2]; · iexact B2
  isplitl [Z13]; · iexact Z13
  isplitl [B1]; · iexact B1
  isplitl [Z14]; · iexact Z14
  iexact B0

/-- Part 35 stores the result, and waits for the sends of copies 0, 2 and 1. -/
theorem part35 {α : Type} {Q : α → sProp 𝕄} {k : Rest F _ α} (v : FVec F S32x1024 .f32) (hv : ∀ j : S32x1024.Idx, v j = res xv wv c (j 0).val (j 1)) :
    iprop(recs xv wv K ∗ (∃ f : Vec F S32x1024 .f32, oM.view.loc (c : Thread nD τ) ↦{fullShare} f) ∗ owe (F := F) c 0 ∗ sndK (F := F) 0 c ∗ sndK (F := F) 2 c ∗ sndK (F := F) 1 c)
      ⊢ iprop((iprop((oM.view.loc (c : Thread nD τ) ↦{fullShare} (on2 (res xv wv c) : Vec F S32x1024 .f32)) ∗ owe (F := F) c 0 ∗ srcP xv wv 0 c ∗ zs (F := F) 0 c ∗ srcP xv wv 2 c ∗ zs (F := F) 2 c ∗ srcP xv wv 1 c ∗ zs (F := F) 1 c) -∗ WP c (k ⟨⟩) Q)
        -∗ WP c (on (k0_part35 (F := F)) v >>= k) Q) := by
  rw [k0_part35_eq_skeleton]; unfold k0_part35_skel
  simp only [semSignalWord, semWaitWord, Prog.lift, Prog.bind_op, Prog.bind_ret, Prog.pure_eq_ret]
  iintro ⟨#HI, U, O, S0, S2, S1⟩ Hk
  iapply (st_out xv wv c _ hv) $$ U
  iintro U
  iapply (snd_step xv wv K 0 _ rfl c (src_amt 0)) $$ [O S0]
  · isplitr; · iexact HI
    isplitl [O]; · iexact O
    iexact S0
  iintro ⟨O, P0, Y0⟩
  iapply (snd_step xv wv K 2 _ rfl c (src_amt 2)) $$ [O S2]
  · isplitr; · iexact HI
    isplitl [O]; · iexact O
    iexact S2
  iintro ⟨O, P2, Y2⟩
  iapply (snd_step xv wv K 1 _ rfl c (src_amt 1)) $$ [O S1]
  · isplitr; · iexact HI
    isplitl [O]; · iexact O
    iexact S1
  iintro ⟨O, P1, Y1⟩
  iapply Hk
  isplitl [U]; · iexact U
  isplitl [O]; · iexact O
  isplitl [P0]; · iexact P0
  isplitl [Y0]; · iexact Y0
  isplitl [P2]; · iexact P2
  isplitl [Y2]; · iexact Y2
  isplitl [P1]; · iexact P1
  iexact Y1

/-- Part 36 waits for the sends of copies 3 to 6. -/
theorem part36 {α : Type} {Q : α → sProp 𝕄} {k : Rest F _ α} :
    iprop(recs xv wv K ∗ owe (F := F) c 0 ∗ sndK (F := F) 3 c ∗ sndK (F := F) 4 c ∗ sndK (F := F) 5 c ∗ sndK (F := F) 6 c)
      ⊢ iprop((iprop(owe (F := F) c 0 ∗ srcP xv wv 3 c ∗ zs (F := F) 3 c ∗ srcP xv wv 4 c ∗ zs (F := F) 4 c ∗ srcP xv wv 5 c ∗ zs (F := F) 5 c ∗ srcP xv wv 6 c ∗ zs (F := F) 6 c) -∗ WP c (k ⟨⟩) Q)
        -∗ WP c (on (k0_part36 (F := F)) >>= k) Q) := by
  rw [k0_part36_eq_skeleton]; unfold k0_part36_skel
  simp only [semSignalWord, semWaitWord, Prog.lift, Prog.bind_op, Prog.bind_ret, Prog.pure_eq_ret]
  iintro ⟨#HI, O, S3, S4, S5, S6⟩ Hk
  iapply (snd_step xv wv K 3 _ rfl c (src_amt 3)) $$ [O S3]
  · isplitr; · iexact HI
    isplitl [O]; · iexact O
    iexact S3
  iintro ⟨O, P3, Y3⟩
  iapply (snd_step xv wv K 4 _ rfl c (src_amt 4)) $$ [O S4]
  · isplitr; · iexact HI
    isplitl [O]; · iexact O
    iexact S4
  iintro ⟨O, P4, Y4⟩
  iapply (snd_step xv wv K 5 _ rfl c (src_amt 5)) $$ [O S5]
  · isplitr; · iexact HI
    isplitl [O]; · iexact O
    iexact S5
  iintro ⟨O, P5, Y5⟩
  iapply (snd_step xv wv K 6 _ rfl c (src_amt 6)) $$ [O S6]
  · isplitr; · iexact HI
    isplitl [O]; · iexact O
    iexact S6
  iintro ⟨O, P6, Y6⟩
  iapply Hk
  isplitl [O]; · iexact O
  isplitl [P3]; · iexact P3
  isplitl [Y3]; · iexact Y3
  isplitl [P4]; · iexact P4
  isplitl [Y4]; · iexact Y4
  isplitl [P5]; · iexact P5
  isplitl [Y5]; · iexact Y5
  isplitl [P6]; · iexact P6
  iexact Y6

/-- Part 37 waits for the sends of copies 7 to 10. -/
theorem part37 {α : Type} {Q : α → sProp 𝕄} {k : Rest F _ α} :
    iprop(recs xv wv K ∗ owe (F := F) c 0 ∗ sndK (F := F) 7 c ∗ sndK (F := F) 8 c ∗ sndK (F := F) 9 c ∗ sndK (F := F) 10 c)
      ⊢ iprop((iprop(owe (F := F) c 0 ∗ srcP xv wv 7 c ∗ zs (F := F) 7 c ∗ srcP xv wv 8 c ∗ zs (F := F) 8 c ∗ srcP xv wv 9 c ∗ zs (F := F) 9 c ∗ srcP xv wv 10 c ∗ zs (F := F) 10 c) -∗ WP c (k ⟨⟩) Q)
        -∗ WP c (on (k0_part37 (F := F)) >>= k) Q) := by
  rw [k0_part37_eq_skeleton]; unfold k0_part37_skel
  simp only [semSignalWord, semWaitWord, Prog.lift, Prog.bind_op, Prog.bind_ret, Prog.pure_eq_ret]
  iintro ⟨#HI, O, S7, S8, S9, S10⟩ Hk
  iapply (snd_step xv wv K 7 _ rfl c (src_amt 7)) $$ [O S7]
  · isplitr; · iexact HI
    isplitl [O]; · iexact O
    iexact S7
  iintro ⟨O, P7, Y7⟩
  iapply (snd_step xv wv K 8 _ rfl c (src_amt 8)) $$ [O S8]
  · isplitr; · iexact HI
    isplitl [O]; · iexact O
    iexact S8
  iintro ⟨O, P8, Y8⟩
  iapply (snd_step xv wv K 9 _ rfl c (src_amt 9)) $$ [O S9]
  · isplitr; · iexact HI
    isplitl [O]; · iexact O
    iexact S9
  iintro ⟨O, P9, Y9⟩
  iapply (snd_step xv wv K 10 _ rfl c (src_amt 10)) $$ [O S10]
  · isplitr; · iexact HI
    isplitl [O]; · iexact O
    iexact S10
  iintro ⟨O, P10, Y10⟩
  iapply Hk
  isplitl [O]; · iexact O
  isplitl [P7]; · iexact P7
  isplitl [Y7]; · iexact Y7
  isplitl [P8]; · iexact P8
  isplitl [Y8]; · iexact Y8
  isplitl [P9]; · iexact P9
  isplitl [Y9]; · iexact Y9
  isplitl [P10]; · iexact P10
  iexact Y10

end
end Cert.KProof
-- ==== Proof.Stock.lean ====
/-
# A device's buffers, cut up and put together

The ten scratch buffers whole, as a device has them before and after the kernel, and cut into the fifteen sources and
the fifteen landing places, as the copies use them.
-/
module

public import proofs.«01_k».proof.Proof.Parts3

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] Idealize.SL.BI.bigSep

/-- A big star over the fifteen copies, written out; -/
theorem fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
/-- over the seven boxes; -/
theorem fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
/-- over the two halves. -/
theorem fin2 (Φ : Fin 2 → sProp 𝕄) : bigSep Finset.univ Φ = iprop(Φ 0 ∗ Φ 1) :=
  bigSep_univ_eq_bigSepL [0, 1] (by decide) (by decide) Φ

section
variable (xv : Dev nD → Vec F S1024x32 .f32) (wv : Dev nD → Vec F S32x1024 .f32) (c : Dev nD)

/-- Part of a buffer described by an equal set. -/
theorem any_set {s : Shape} (m : Memref sig .tc .vmem s .f32) (c : Dev nD) (S : Finset s.Idx) (T : Finset m.view.ref.ty.Idx) (h : T = S.map m.view.emb) :
    (iprop(∃ f, m.view.loc (c : Thread nD τ) ↦[T]{fullShare} f) : sProp 𝕄) = any (F := F) m c S := by
  subst h; rfl

/-- The landing place of a copy is half of a buffer, or one of seven boxes. -/
theorem place96 (k : Fin 15) (g : ℕ) (hg : g < 2) (hk : cp k = c96 g hg) : lndAny (F := F) k c = any irxM c (slab g) := by
  unfold lndAny; rw [hk]; exact any_set irxM c _ _ (set96 irxM g hg)
/-- Of the second neighbour's rows for the detour, -/
theorem place32 (k : Fin 15) (g : ℕ) (hg : g < 2) (hk : cp k = c32 g hg) : lndAny (F := F) k c = any iryM c (slab g) := by
  unfold lndAny; rw [hk]; exact any_set iryM c _ _ (set32 iryM g hg)
/-- of the first neighbour's sums, -/
theorem place128a (k : Fin 15) (g : ℕ) (hg : g < 2) (hk : cp k = c128a g hg) : lndAny (F := F) k c = any ia1M c (slab g) := by
  unfold lndAny; rw [hk]; exact any_set ia1M c _ _ (set128 ia1M g hg)
/-- of the second neighbour's sums, -/
theorem place128b (k : Fin 15) (g : ℕ) (hg : g < 2) (hk : cp k = c128b g hg) : lndAny (F := F) k c = any ia2M c (slab g) := by
  unfold lndAny; rw [hk]; exact any_set ia2M c _ _ (set128 ia2M g hg)
/-- and of another square's sum. -/
theorem place7 (k : Fin 15) (j r b : ℕ) (hj : j < 7) (hr : r + 32 ≤ 256) (hb : b < 7) (hk : cp k = c7 j r b hj hr hb) : lndAny (F := F) k c = any ibM c (slab b) := by
  unfold lndAny; rw [hk]; exact any_set ibM c _ _ (set7 ibM b hb)

/-- A copy's source, at whatever contents. -/
def srcAny (k : Fin 15) (c : Dev nD) : sProp 𝕄 :=
  iprop(∃ f, (cp k).src.view.loc (c : Thread nD τ) ↦[(cp k).src.view.set]{fullShare} f)
/-- A source's contents may be forgotten. -/
theorem src_any (k : Fin 15) (c : Dev nD) : srcP xv wv k c ⊢ srcAny (F := F) k c := by
  unfold srcP srcAny; iintro H; iexists _; iexact H
/-- The source of a copy is half of a buffer: of the detour's rows for the first neighbour, -/
theorem from96 (k : Fin 15) (g : ℕ) (hg : g < 2) (hk : cp k = c96 g hg) : srcAny (F := F) k c = any drxM c (slab g) := by
  unfold srcAny; rw [hk]; exact any_set drxM c _ _ (set96 drxM g hg)
/-- for the second, -/
theorem from32 (k : Fin 15) (g : ℕ) (hg : g < 2) (hk : cp k = c32 g hg) : srcAny (F := F) k c = any dryM c (slab g) := by
  unfold srcAny; rw [hk]; exact any_set dryM c _ _ (set32 dryM g hg)
/-- of the first neighbour's rows, -/
theorem from128a (k : Fin 15) (g : ℕ) (hg : g < 2) (hk : cp k = c128a g hg) : srcAny (F := F) k c = any mbM c (slab g) := by
  unfold srcAny; rw [hk]; exact any_set mbM c _ _ (set128 mbM g hg)
/-- of the second neighbour's; -/
theorem from128b (k : Fin 15) (g : ℕ) (hg : g < 2) (hk : cp k = c128b g hg) : srcAny (F := F) k c = any mcM c (slab g) := by
  unfold srcAny; rw [hk]; exact any_set mcM c _ _ (set128 mcM g hg)
/-- or thirty-two rows of the working buffer. -/
theorem from7 (k : Fin 15) (j r b : ℕ) (hj : j < 7) (hr : r + 32 ≤ 256) (hb : b < 7) (hk : cp k = c7 j r b hj hr hb) : srcAny (F := F) k c = any wkM c (rows r 32) := by
  unfold srcAny; rw [hk]; exact any_set wkM c _ _ (setw wkM r hr)

/-- The five buffers copies land in, whole. -/
def boxes (c : Dev nD) : sProp 𝕄 :=
  iprop(any irxM c Finset.univ ∗ any iryM c Finset.univ ∗ any ia1M c Finset.univ ∗ any ia2M c Finset.univ ∗ any ibM c Finset.univ)
/-- The five buffers copies are read from, whole. -/
def outs (c : Dev nD) : sProp 𝕄 :=
  iprop(any drxM c Finset.univ ∗ any dryM c Finset.univ ∗ any mbM c Finset.univ ∗ any mcM c Finset.univ ∗ any wkM c Finset.univ)

/-- A buffer of two halves is its halves, -/
theorem slab2 {h : ℕ} (m : Memref sig .tc .vmem ⟨3, ![2, h, 1024]⟩ .f32) (c : Dev nD) :
    any (F := F) m c Finset.univ ⊢ iprop(any m c (slab 0) ∗ any m c (slab 1)) := by
  refine (slab_split m c).trans (Entails.of_eq ?_); rw [fin2]; rfl
/-- and one of seven boxes is its boxes; -/
theorem slab7 {h : ℕ} (m : Memref sig .tc .vmem ⟨3, ![7, h, 1024]⟩ .f32) (c : Dev nD) :
    any (F := F) m c Finset.univ ⊢ iprop(any m c (slab 0) ∗ any m c (slab 1) ∗ any m c (slab 2) ∗ any m c (slab 3) ∗ any m c (slab 4) ∗ any m c (slab 5) ∗ any m c (slab 6)) := by
  refine (slab_split m c).trans (Entails.of_eq ?_); rw [fin7]; rfl
/-- two halves are the buffer again, -/
theorem join2 {h : ℕ} (m : Memref sig .tc .vmem ⟨3, ![2, h, 1024]⟩ .f32) (c : Dev nD) :
    iprop(any (F := F) m c (slab 0) ∗ any m c (slab 1)) ⊢ any (F := F) m c Finset.univ := by
  have e : (bigSep Finset.univ fun g : Fin 2 => any (F := F) m c (slab g.val)) = iprop(any (F := F) m c (slab 0) ∗ any m c (slab 1)) := by rw [fin2]; rfl
  refine (show _ ⊢ iprop(∃ f₀ : Buf (Elt F) (m.view.loc (c : Thread nD τ)), bigSep Finset.univ fun g : Fin 2 => any (F := F) m c (slab g.val)) from ?_).trans ?_
  · rw [e]
    conv_lhs => unfold any
    conv_rhs => unfold any
    iintro ⟨⟨%f, A⟩, B⟩
    iexists f
    isplitl [A]; · iexists f; iexact A
    iexact B
  · iintro ⟨%f₀, H⟩
    iapply (slab_join m c f₀); iexact H
/-- and so are seven boxes. -/
theorem join7 {h : ℕ} (m : Memref sig .tc .vmem ⟨3, ![7, h, 1024]⟩ .f32) (c : Dev nD) :
    iprop(any (F := F) m c (slab 0) ∗ any m c (slab 1) ∗ any m c (slab 2) ∗ any m c (slab 3) ∗ any m c (slab 4) ∗ any m c (slab 5) ∗ any m c (slab 6)) ⊢ any (F := F) m c Finset.univ := by
  have e : (bigSep Finset.univ fun g : Fin 7 => any (F := F) m c (slab g.val)) = iprop(any (F := F) m c (slab 0) ∗ any m c (slab 1) ∗ any m c (slab 2) ∗ any m c (slab 3) ∗ any m c (slab 4) ∗ any m c (slab 5) ∗ any m c (slab 6)) := by rw [fin7]; rfl
  refine (show _ ⊢ iprop(∃ f₀ : Buf (Elt F) (m.view.loc (c : Thread nD τ)), bigSep Finset.univ fun g : Fin 7 => any (F := F) m c (slab g.val)) from ?_).trans ?_
  · rw [e]
    conv_lhs => unfold any
    conv_rhs => unfold any
    iintro ⟨⟨%f, A⟩, B⟩
    iexists f
    isplitl [A]; · iexists f; iexact A
    iexact B
  · iintro ⟨%f₀, H⟩
    iapply (slab_join m c f₀); iexact H

/-- The buffers copies land in are the fifteen landing places, -/
theorem boxes_split (c : Dev nD) : boxes (F := F) c ⊢ bigSep Finset.univ fun k : Fin 15 => lndAny (F := F) k c := by
  rw [fin15, place96 c 0 0 (by decide) rfl, place32 c 1 0 (by decide) rfl, place96 c 2 1 (by decide) rfl, place32 c 3 1 (by decide) rfl,
    place128a c 4 0 (by decide) rfl, place128a c 5 1 (by decide) rfl, place128b c 6 0 (by decide) rfl, place128b c 7 1 (by decide) rfl,
    place7 c 8 0 0 6 (by decide) (by decide) (by decide) rfl, place7 c 9 1 32 5 (by decide) (by decide) (by decide) rfl,
    place7 c 10 2 64 4 (by decide) (by decide) (by decide) rfl, place7 c 11 3 96 3 (by decide) (by decide) (by decide) rfl,
    place7 c 12 4 128 2 (by decide) (by decide) (by decide) rfl, place7 c 13 5 160 1 (by decide) (by decide) (by decide) rfl,
    place7 c 14 6 192 0 (by decide) (by decide) (by decide) rfl]
  unfold boxes
  iintro ⟨A, B, C, D, E⟩
  ihave A := (slab2 irxM c) $$ A
  ihave B := (slab2 iryM c) $$ B
  ihave C := (slab2 ia1M c) $$ C
  ihave D := (slab2 ia2M c) $$ D
  ihave E := (slab7 ibM c) $$ E
  icases A with ⟨A0, A1⟩
  icases B with ⟨B0, B1⟩
  icases C with ⟨C0, C1⟩
  icases D with ⟨D0, D1⟩
  icases E with ⟨E0, E1, E2, E3, E4, E5, E6⟩
  isplitl [A0]; · iexact A0
  isplitl [B0]; · iexact B0
  isplitl [A1]; · iexact A1
  isplitl [B1]; · iexact B1
  isplitl [C0]; · iexact C0
  isplitl [C1]; · iexact C1
  isplitl [D0]; · iexact D0
  isplitl [D1]; · iexact D1
  isplitl [E6]; · iexact E6
  isplitl [E5]; · iexact E5
  isplitl [E4]; · iexact E4
  isplitl [E3]; · iexact E3
  isplitl [E2]; · iexact E2
  isplitl [E1]; · iexact E1
  iexact E0

/-- and these are the buffers again. -/
theorem boxes_join (c : Dev nD) : (bigSep Finset.univ fun k : Fin 15 => lndAny (F := F) k c) ⊢ boxes (F := F) c := by
  rw [fin15, place96 c 0 0 (by decide) rfl, place32 c 1 0 (by decide) rfl, place96 c 2 1 (by decide) rfl, place32 c 3 1 (by decide) rfl,
    place128a c 4 0 (by decide) rfl, place128a c 5 1 (by decide) rfl, place128b c 6 0 (by decide) rfl, place128b c 7 1 (by decide) rfl,
    place7 c 8 0 0 6 (by decide) (by decide) (by decide) rfl, place7 c 9 1 32 5 (by decide) (by decide) (by decide) rfl,
    place7 c 10 2 64 4 (by decide) (by decide) (by decide) rfl, place7 c 11 3 96 3 (by decide) (by decide) (by decide) rfl,
    place7 c 12 4 128 2 (by decide) (by decide) (by decide) rfl, place7 c 13 5 160 1 (by decide) (by decide) (by decide) rfl,
    place7 c 14 6 192 0 (by decide) (by decide) (by decide) rfl]
  unfold boxes
  iintro ⟨A0, B0, A1, B1, C0, C1, D0, D1, E6, E5, E4, E3, E2, E1, E0⟩
  isplitl [A0 A1]
  · iapply (join2 irxM c); isplitl [A0]; · iexact A0
    iexact A1
  isplitl [B0 B1]
  · iapply (join2 iryM c); isplitl [B0]; · iexact B0
    iexact B1
  isplitl [C0 C1]
  · iapply (join2 ia1M c); isplitl [C0]; · iexact C0
    iexact C1
  isplitl [D0 D1]
  · iapply (join2 ia2M c); isplitl [D0]; · iexact D0
    iexact D1
  iapply (join7 ibM c)
  isplitl [E0]; · iexact E0
  isplitl [E1]; · iexact E1
  isplitl [E2]; · iexact E2
  isplitl [E3]; · iexact E3
  isplitl [E4]; · iexact E4
  isplitl [E5]; · iexact E5
  iexact E6

/-- All rows of a buffer are the buffer. -/
theorem rows_univ {h : ℕ} : (rows 0 h : Finset (⟨2, ![h, 1024]⟩ : Shape).Idx) = Finset.univ := by
  ext i; simp only [mem_rows, Finset.mem_univ, iff_true]
  have h1 : (i 0).val < h := (i 0).isLt
  omega

/-- The buffers read from, before: nothing in them known yet. -/
theorem outs_split (c : Dev nD) :
    outs (F := F) c ⊢ iprop(A3 drxM c 0 0 (drx xv wv c) ∗ A3 drxM c 1 0 (drx xv wv c) ∗ A3 dryM c 0 0 (dry xv wv c) ∗ A3 dryM c 1 0 (dry xv wv c)
      ∗ A3 mbM c 0 0 (mb0 xv wv c) ∗ A3 mbM c 1 0 (mb0 xv wv c) ∗ A3 mcM c 0 0 (mc0 xv wv c) ∗ A3 mcM c 1 0 (mc0 xv wv c)
      ∗ A2 wkM c 0 128 0 (w0 xv wv c) ∗ A2 wkM c 128 128 128 (w0 xv wv c)) := by
  unfold outs
  have hw : any (F := F) wkM c Finset.univ ⊢ iprop(any (F := F) wkM c (rows 0 128) ∗ any (F := F) wkM c (rows (0 + 128) 128)) :=
    (Entails.of_eq (congrArg (any wkM c) (rows_univ (h := 256)).symm)).trans (rows_split wkM c 0 128 128)
  iintro ⟨A, B, C, D, E⟩
  ihave A := (slab2 drxM c) $$ A
  ihave B := (slab2 dryM c) $$ B
  ihave C := (slab2 mbM c) $$ C
  ihave D := (slab2 mcM c) $$ D
  ihave E := hw $$ E
  icases A with ⟨A0, A1⟩
  icases B with ⟨B0, B1⟩
  icases C with ⟨C0, C1⟩
  icases D with ⟨D0, D1⟩
  icases E with ⟨E0, E1⟩
  isplitl [A0]; · iapply (any_ag drxM c (slab 0) _ _ fun i _ => Nat.not_lt_zero _); iexact A0
  isplitl [A1]; · iapply (any_ag drxM c (slab 1) _ _ fun i _ => Nat.not_lt_zero _); iexact A1
  isplitl [B0]; · iapply (any_ag dryM c (slab 0) _ _ fun i _ => Nat.not_lt_zero _); iexact B0
  isplitl [B1]; · iapply (any_ag dryM c (slab 1) _ _ fun i _ => Nat.not_lt_zero _); iexact B1
  isplitl [C0]; · iapply (any_ag mbM c (slab 0) _ _ fun i _ => Nat.not_lt_zero _); iexact C0
  isplitl [C1]; · iapply (any_ag mbM c (slab 1) _ _ fun i _ => Nat.not_lt_zero _); iexact C1
  isplitl [D0]; · iapply (any_ag mcM c (slab 0) _ _ fun i _ => Nat.not_lt_zero _); iexact D0
  isplitl [D1]; · iapply (any_ag mcM c (slab 1) _ _ fun i _ => Nat.not_lt_zero _); iexact D1
  isplitl [E0]; · iapply (any_ag wkM c (rows 0 128) _ _ fun i _ => Nat.not_lt_zero _); iexact E0
  iapply (any_ag wkM c (rows 128 128) _ _ fun i hi => by have h := (mem_rows i).mp hi; omega); iexact E1

/-- And after: the fifteen sources, and the last rows of the working buffer. -/
theorem outs_join (c : Dev nD) :
    iprop((bigSep Finset.univ fun k : Fin 15 => srcP xv wv k c) ∗ A2 wkM c 224 32 256 (wk xv wv c)) ⊢ outs (F := F) c := by
  have h0 : (bigSep Finset.univ fun k : Fin 15 => srcP xv wv k c) ⊢ bigSep Finset.univ fun k : Fin 15 => srcAny (F := F) k c := bigSep_mono fun k _ => src_any xv wv k c
  have h1 : any (F := F) wkM c (rows 0 (192 + (32 + 32))) ⊢ any (F := F) wkM c Finset.univ := Entails.of_eq (congrArg (any wkM c) (rows_univ (h := 256)))
  unfold outs
  refine (show iprop((bigSep Finset.univ fun k : Fin 15 => srcP xv wv k c) ∗ A2 wkM c 224 32 256 (wk xv wv c))
    ⊢ iprop((bigSep Finset.univ fun k : Fin 15 => srcAny (F := F) k c) ∗ any (F := F) wkM c (rows 224 32)) from BI.sep_mono h0 (ag_any wkM c (rows 224 32) _ _)).trans ?_
  rw [fin15, from96 c 0 0 (by decide) rfl, from32 c 1 0 (by decide) rfl, from96 c 2 1 (by decide) rfl, from32 c 3 1 (by decide) rfl,
    from128a c 4 0 (by decide) rfl, from128a c 5 1 (by decide) rfl, from128b c 6 0 (by decide) rfl, from128b c 7 1 (by decide) rfl,
    from7 c 8 0 0 6 (by decide) (by decide) (by decide) rfl, from7 c 9 1 32 5 (by decide) (by decide) (by decide) rfl,
    from7 c 10 2 64 4 (by decide) (by decide) (by decide) rfl, from7 c 11 3 96 3 (by decide) (by decide) (by decide) rfl,
    from7 c 12 4 128 2 (by decide) (by decide) (by decide) rfl, from7 c 13 5 160 1 (by decide) (by decide) (by decide) rfl,
    from7 c 14 6 192 0 (by decide) (by decide) (by decide) rfl]
  iintro ⟨⟨A0, B0, A1, B1, C0, C1, D0, D1, E0, E1, E2, E3, E4, E5, E6⟩, W⟩
  isplitl [A0 A1]
  · iapply (join2 drxM c); isplitl [A0]; · iexact A0
    iexact A1
  isplitl [B0 B1]
  · iapply (join2 dryM c); isplitl [B0]; · iexact B0
    iexact B1
  isplitl [C0 C1]
  · iapply (join2 mbM c); isplitl [C0]; · iexact C0
    iexact C1
  isplitl [D0 D1]
  · iapply (join2 mcM c); isplitl [D0]; · iexact D0
    iexact D1
  iapply h1
  iapply (rows_join wkM c 0 192 (32 + 32))
  isplitl [E0 E1 E2 E3 E4 E5]
  · iapply (rows_join wkM c 0 160 32)
    isplitl [E0 E1 E2 E3 E4]
    · iapply (rows_join wkM c 0 128 32)
      isplitl [E0 E1 E2 E3]
      · iapply (rows_join wkM c 0 96 32)
        isplitl [E0 E1 E2]
        · iapply (rows_join wkM c 0 64 32)
          isplitl [E0 E1]
          · iapply (rows_join wkM c 0 32 32)
            isplitl [E0]; · iexact E0
            iexact E1
          iexact E2
        iexact E3
      iexact E4
    iexact E5
  iapply (rows_join wkM c 192 32 32)
  isplitl [E6]; · iexact E6
  iexact W

/-- With the landing places its peers handed over, a device has all its copies need but the sources. -/
theorem ready (c : Dev nD) :
    iprop((bigSep Finset.univ fun k : Fin 15 => iprop(tokK (F := F) k c ∗ atPos ER (sndC k c) 0 ∅ 0)) ∗ (bigSep Finset.univ fun k : Fin 15 => lndAny (F := F) k (toD k c)))
      ⊢ bigSep Finset.univ fun k : Fin 15 => RS (F := F) k c := by
  refine (Entails.of_eq (bigSep_sep' Finset.univ _ _).symm).trans (bigSep_mono fun k _ => ?_)
  show iprop((tokK (F := F) k c ∗ atPos ER (sndC k c) 0 ∅ 0) ∗ lndAny (F := F) k (toD k c)) ⊢ iprop(rdy (F := F) k c ∗ atPos ER (sndC k c) 0 ∅ 0)
  unfold rdy
  iintro ⟨⟨T, A⟩, N⟩
  isplitl [T N]
  · isplitl [T]; · iexact T
    iexact N
  iexact A

/-- The tokens of the thirty-one signals with the landing places they hand over. -/
theorem sigs_all (c : Dev nD) :
    iprop((bigSep (Finset.univ.erase c) fun e : Dev nD => dutyTok ER (barC e) 0 c) ∗ boxes (F := F) c) ⊢ sigs (F := F) c 31 := by
  have hf : (Finset.univ.filter fun e : Dev nD => 31 < rel c e + 31) = Finset.univ.erase c := by
    revert c; decide +kernel
  have hb : (bigSep Finset.univ fun k : Fin 15 => lndAny (F := F) k c) ⊢ bigSep (Finset.univ.erase c) fun e : Dev nD => barPay (F := F) e c := by
    rw [bigSep_fiberwise Finset.univ (fun k : Fin 15 => frD k c)]
    have hi : ((Finset.univ : Finset (Fin 15)).image fun k => frD k c) ⊆ Finset.univ.erase c := by
      revert c; decide +kernel
    have hp : ∀ e : Dev nD, (Finset.univ.filter fun k : Fin 15 => frD k c = e) = Finset.univ.filter fun k : Fin 15 => toD k e = c := by
      intro e; ext k; simp only [Finset.mem_filter, Finset.mem_univ, true_and]
      exact ⟨fun h => by rw [← h]; exact to_fr k c, fun h => by rw [← h]; exact fr_to k e⟩
    have hu : ∀ Φ : Dev nD → sProp 𝕄, bigSep (Finset.univ.erase c) Φ
        = iprop(bigSep (Finset.univ.image fun k : Fin 15 => frD k c) Φ ∗ bigSep (Finset.univ.erase c \ Finset.univ.image fun k : Fin 15 => frD k c) Φ) := fun Φ => by
      conv_lhs => rw [← Finset.union_sdiff_of_subset hi]
      exact bigSep_union Finset.disjoint_sdiff
    rw [hu]
    unfold barPay
    iintro H
    isplitl [H]
    · iapply (show (bigSep (Finset.univ.image fun k : Fin 15 => frD k c) fun e => bigSep (Finset.univ.filter fun k : Fin 15 => frD k c = e) fun k => lndAny (F := F) k c)
        ⊢ (bigSep (Finset.univ.image fun k : Fin 15 => frD k c) fun e => bigSep (Finset.univ.filter fun k : Fin 15 => toD k e = c) fun k => lndAny (F := F) k c)
        from bigSep_mono fun e _ => Entails.of_eq (congrArg (fun s => bigSep s fun k => lndAny (F := F) k c) (hp e)))
      iexact H
    · iapply (show (emp : sProp 𝕄) ⊢ (bigSep (Finset.univ.erase c \ Finset.univ.image fun k : Fin 15 => frD k c) fun e => bigSep (Finset.univ.filter fun k : Fin 15 => toD k e = c) fun k => lndAny (F := F) k c) from ?_)
      · refine (Entails.of_eq (bigSep_emp_const (M := 𝕄) _).symm).trans (bigSep_mono fun e he => ?_)
        have h0 : (Finset.univ.filter fun k : Fin 15 => toD k e = c) = ∅ := by
          rw [← hp e]; refine Finset.filter_false_of_mem fun k _ hk => ?_
          exact (Finset.mem_sdiff.mp he).2 (Finset.mem_image.mpr ⟨k, Finset.mem_univ _, hk⟩)
        rw [h0]; exact Entails.of_eq (bigSep_empty).symm
      iempintro
  unfold sigs
  rw [hf]
  refine (show iprop((bigSep (Finset.univ.erase c) fun e : Dev nD => dutyTok ER (barC e) 0 c) ∗ boxes (F := F) c)
    ⊢ iprop((bigSep (Finset.univ.erase c) fun e : Dev nD => dutyTok ER (barC e) 0 c) ∗ (bigSep (Finset.univ.erase c) fun e : Dev nD => barPay (F := F) e c))
    from sep_mono_right ((boxes_split c).trans hb)).trans (Entails.of_eq (bigSep_sep' _ _ _).symm)

end
end Cert.KProof
-- ==== Proof.Body.lean ====
/-
# The body

The parts one after the other, at a symbolic device: from its buffers, tokens and credits to the result, every buffer
and every semaphore back.
-/
module

public import proofs.«01_k».proof.Proof.Stock

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] Idealize.SL.BI.bigSep

section
variable (xv : Dev nD → Vec F S1024x32 .f32) (wv : Dev nD → Vec F S32x1024 .f32) (K : Dev nD × CI → ℕ) (c : Dev nD)

/-- What a device runs with: its promises and what each needs, its credits, its arguments and its buffers. -/
def before : sProp 𝕄 :=
  iprop(owe (F := F) c (OS c 31) ∗ sigs (F := F) c 31 ∗ atPos ER (barC c) 0 ∅ 0 ∗ cred (tallyAt (barC c) () 31)
    ∗ (bigSep Finset.univ fun k : Fin 15 => iprop(tokK (F := F) k c ∗ atPos ER (sndC k c) 0 ∅ 0)) ∗ (bigSep Finset.univ fun k : Fin 15 => rcvK (F := F) k c)
    ∗ xw (xv c) (wv c) c ∗ (∃ f : Vec F S32x1024 .f32, oM.view.loc (c : Thread nD τ) ↦{fullShare} f) ∗ outs (F := F) c)
/-- What it ends with: nothing owed, its arguments unchanged, its result, its semaphores at zero and its buffers. -/
def finis : sProp 𝕄 :=
  iprop(owe (F := F) c 0 ∗ xw (xv c) (wv c) c ∗ (oM.view.loc (c : Thread nD τ) ↦{fullShare} (on2 (res xv wv c) : Vec F S32x1024 .f32))
    ∗ zb (F := F) c ∗ (bigSep Finset.univ fun k : Fin 15 => zr (F := F) k c) ∗ (bigSep Finset.univ fun k : Fin 15 => zs (F := F) k c)
    ∗ outs (F := F) c ∗ boxes (F := F) c)

/-- What has landed, its contents forgotten. -/
theorem landed (m : Fin 15) (A : sProp 𝕄) (B : sProp 𝕄) (h : A ⊢ B) (e : lndAny (F := F) m c = B) : A ⊢ lndAny (F := F) m c := h.trans (Entails.of_eq e.symm)

set_option maxHeartbeats 4000000 in
set_option maxRecDepth 20000 in
/-- The body, run. -/
theorem body_run {Q : PUnit → sProp 𝕄} :
    iprop(recs xv wv K ∗ before xv wv c) ⊢ iprop((finis xv wv c -∗ Q ⟨⟩) -∗ WP c (on (cc0_body (F := F))) Q) := by
  rw [cc0_body_eq_skeleton]; unfold cc0_body_skel
  rw [k0_part38_eq_skeleton]; unfold k0_part38_skel
  simp only [Prog.lift, bind_assoc, Prog.bind_op, Prog.bind_ret, Prog.pure_eq_ret]
  unfold before
  iintro ⟨#HI, O, Sg, Bp, Bc, T, V, X, U, H⟩ Hk
  ihave H := (outs_split xv wv c) $$ H
  icases H with ⟨D0, D1, E0, E1, M0, M1, C0, C1, W0, W1⟩
  ihave V := (Entails.of_eq (fin15 fun k => rcvK (F := F) k c)) $$ V
  icases V with ⟨V0, V1, V2, V3, V4, V5, V6, V7, V8, V9, V10, V11, V12, V13, V14⟩
  ihave O := (show iprop(owe (F := F) c (OS c 31) ∗ sigs (F := F) c 31) ⊢ SG (F := F) c 31 from BI.Entails.refl _) $$ [O Sg]
  · isplitl [O]; · iexact O
    iexact Sg
  iapply (part1 xv wv K c) $$ [O]
  · isplitr; · iexact HI
    iexact O
  iintro %v2 %v3 %v20 %v22 %v23 %v24 %v25 %v26 %v34 %z1 O
  iapply (part2 xv wv K c _ _ _) $$ [O]
  · isplitr; · iexact HI
    iexact O
  iintro %a2 %b2 O
  iapply (part3 xv wv K c _ _ _) $$ [O]
  · isplitr; · iexact HI
    iexact O
  iintro %a3 %b3 O
  iapply (part4 xv wv K c _ _ _) $$ [O]
  · isplitr; · iexact HI
    iexact O
  iintro %a4 %b4 O
  iapply (part5 xv wv K c _ _ _) $$ [O]
  · isplitr; · iexact HI
    iexact O
  iintro %a5 %b5 O
  iapply (part6 xv wv K c _ _ _ _) $$ [O]
  · isplitr; · iexact HI
    iexact O
  iintro %a6 ⟨O, -⟩
  iapply (part7 xv wv c _ _ _) $$ [X D0]
  · isplitl [X]; · iexact X
    iexact D0
  iintro ⟨X, D0⟩
  iapply (part8 xv wv K c _ _ _) $$ [O Bp Bc X D0 E0]
  · isplitr; · iexact HI
    isplitl [O]; · iexact O
    isplitl [Bp]; · iexact Bp
    isplitl [Bc]; · iexact Bc
    isplitl [X]; · iexact X
    isplitl [D0]; · iexact D0
    iexact E0
  iintro ⟨O, Zb, N, X, D0, E0⟩
  ihave T := (ready c) $$ [T N]
  · isplitl [T]; · iexact T
    iexact N
  ihave T := (Entails.of_eq (fin15 fun k => RS (F := F) k c)) $$ T
  icases T with ⟨R0, R1, R2, R3, R4, R5, R6, R7, R8, R9, R10, R11, R12, R13, R14⟩
  iapply (part9 xv wv K c _ _ _) $$ [O R0 R1 D0 E0 X D1]
  · isplitr; · iexact HI
    isplitl [O]; · iexact O
    isplitl [R0]; · iexact R0
    isplitl [R1]; · iexact R1
    isplitl [D0]; · iexact D0
    isplitl [E0]; · iexact E0
    isplitl [X]; · iexact X
    iexact D1
  iintro %a9 %b9 ⟨O, S0, S1, X, D1⟩
  iapply (part10 xv wv c _ _ _ _) $$ [X D1]
  · isplitl [X]; · iexact X
    iexact D1
  iintro %a10 %b10 ⟨X, D1⟩
  iapply (part11 xv wv K c _ _ _ _ _) $$ [O R2 D1 X E1]
  · isplitr; · iexact HI
    isplitl [O]; · iexact O
    isplitl [R2]; · iexact R2
    isplitl [D1]; · iexact D1
    isplitl [X]; · iexact X
    iexact E1
  iintro ⟨O, S2, X, E1⟩
  iapply (part12 xv wv K c _ _) $$ [O R3 E1 X M0]
  · isplitr; · iexact HI
    isplitl [O]; · iexact O
    isplitl [R3]; · iexact R3
    isplitl [E1]; · iexact E1
    isplitl [X]; · iexact X
    iexact M0
  iintro %a12 ⟨O, S3, X, M0⟩
  iapply (part13 xv wv c _ _ _) $$ [X M0]
  · isplitl [X]; · iexact X
    iexact M0
  iintro %a13 ⟨X, M0⟩
  iapply (part14 xv wv K c _ _ _ _) $$ [O V1 R4 M0]
  · isplitr; · iexact HI
    isplitl [O]; · iexact O
    isplitl [V1]; · iexact V1
    isplitl [R4]; · iexact R4
    iexact M0
  iintro %a14 %b14 ⟨O, Y1, I1, S4⟩
  iapply (part15 xv wv c _ _ _ _) $$ [X C0]
  · isplitl [X]; · iexact X
    iexact C0
  iintro %a15 ⟨X, C0⟩
  iapply (part16 xv wv c _ _ _ _) $$ [X C0]
  · isplitl [X]; · iexact X
    iexact C0
  iintro ⟨X, C0⟩
  iapply (part17 xv wv c _ _) $$ [X M1]
  · isplitl [X]; · iexact X
    iexact M1
  iintro ⟨X, M1⟩
  iapply (part18 xv wv K c _ _ _) $$ [X M1 O V3]
  · isplitr; · iexact HI
    isplitl [X]; · iexact X
    isplitl [M1]; · iexact M1
    isplitl [O]; · iexact O
    iexact V3
  iintro %u18 ⟨%h18, X, M1, O, Y3, I3⟩
  iapply (part19 xv wv K c _ _ _ u18 h18) $$ [M1 I3 O R5 X C1]
  · isplitr; · iexact HI
    isplitl [M1]; · iexact M1
    isplitl [I3]; · iexact I3
    isplitl [O]; · iexact O
    isplitl [R5]; · iexact R5
    isplitl [X]; · iexact X
    iexact C1
  iintro %u19 ⟨I3, O, S5, X, C1⟩
  iapply (part20 xv wv c _ _ _) $$ [X C1]
  · isplitl [X]; · iexact X
    iexact C1
  iintro %a20 ⟨X, C1⟩
  iapply (part21 xv wv K c _ _ _ _) $$ [X C1 O V0 C0]
  · isplitr; · iexact HI
    isplitl [X]; · iexact X
    isplitl [C1]; · iexact C1
    isplitl [O]; · iexact O
    isplitl [V0]; · iexact V0
    iexact C0
  iintro %u21 ⟨%h21, X, C1, O, Y0, C0, I0⟩
  iapply (part22 xv wv K c _ _ u21 h21) $$ [C0 O R6 V2 C1]
  · isplitr; · iexact HI
    isplitl [C0]; · iexact C0
    isplitl [O]; · iexact O
    isplitl [R6]; · iexact R6
    isplitl [V2]; · iexact V2
    iexact C1
  iintro %u22 ⟨%h22, O, S6, Y2, C1, I2⟩
  iapply (part23 xv wv K c _ _ _ u22 h22) $$ [C1 O R7 X W0]
  · isplitr; · iexact HI
    isplitl [C1]; · iexact C1
    isplitl [O]; · iexact O
    isplitl [R7]; · iexact R7
    isplitl [X]; · iexact X
    iexact W0
  iintro %a23 %b23 ⟨O, S7, X, W0⟩
  iapply (part24 xv wv c _ _ _ _) $$ [X W0]
  · isplitl [X]; · iexact X
    iexact W0
  iintro ⟨X, W0⟩
  iapply (part25 xv wv c _ _) $$ [X W0 W1]
  · isplitl [X]; · iexact X
    isplitl [W0]; · iexact W0
    iexact W1
  iintro ⟨X, W0, W1⟩
  iapply (part26 xv wv c _ _) $$ [X W1]
  · isplitl [X]; · iexact X
    iexact W1
  iintro ⟨X, W1⟩
  iapply (part27 xv wv K c _ _ _) $$ [O V4 V6 W0]
  · isplitr; · iexact HI
    isplitl [O]; · iexact O
    isplitl [V4]; · iexact V4
    isplitl [V6]; · iexact V6
    iexact W0
  iintro %a27 ⟨O, Y4, I4, Y6, I6, W0⟩
  ihave W0 := (srcLo xv wv c) $$ W0
  icases W0 with ⟨P8, P9, P10, P11⟩
  iapply (part28 xv wv K c _ _ _) $$ [O R8 P8 R9 P9]
  · isplitr; · iexact HI
    isplitl [O]; · iexact O
    isplitl [R8]; · iexact R8
    isplitl [P8]; · iexact P8
    isplitl [R9]; · iexact R9
    iexact P9
  iintro %a28 %b28 %d28 ⟨O, S8, S9⟩
  iapply (part29 xv wv K c _ _ _ _) $$ [O R10 P10 R11 P11]
  · isplitr; · iexact HI
    isplitl [O]; · iexact O
    isplitl [R10]; · iexact R10
    isplitl [P10]; · iexact P10
    isplitl [R11]; · iexact R11
    iexact P11
  iintro %a29 %b29 ⟨O, S10, S11⟩
  iapply (part30 xv wv K c _ _ _) $$ [O V5 V7 W1]
  · isplitr; · iexact HI
    isplitl [O]; · iexact O
    isplitl [V5]; · iexact V5
    isplitl [V7]; · iexact V7
    iexact W1
  iintro %a30 ⟨O, Y5, I5, Y7, I7, W1⟩
  ihave W1 := (srcHi xv wv c) $$ W1
  icases W1 with ⟨P12, P13, P14, W1⟩
  iapply (part31 xv wv K c _ _ _) $$ [O R12 P12 R13 P13]
  · isplitr; · iexact HI
    isplitl [O]; · iexact O
    isplitl [R12]; · iexact R12
    isplitl [P12]; · iexact P12
    isplitl [R13]; · iexact R13
    iexact P13
  iintro %a31 %b31 %d31 %e31 ⟨O, S12, S13⟩
  iapply (part32 xv wv K c _ _ _ _) $$ [O R14 P14 W1 V8 V9]
  · isplitr; · iexact HI
    isplitl [O]; · iexact O
    isplitl [R14]; · iexact R14
    isplitl [P14]; · iexact P14
    isplitl [W1]; · iexact W1
    isplitl [V8]; · iexact V8
    iexact V9
  iintro %u32 %t32 ⟨%h32, %g32, O, S14, W1, Y8, I8, Y9, I9⟩
  iapply (part33 xv wv K c _ _ _ u32 t32 h32 g32) $$ [O V10 V11]
  · isplitr; · iexact HI
    isplitl [O]; · iexact O
    isplitl [V10]; · iexact V10
    iexact V11
  iintro %u33 ⟨%h33, O, Y10, I10, Y11, I11⟩
  iapply (part34 xv wv K c _ _ u33 h33) $$ [O V12 V13 V14]
  · isplitr; · iexact HI
    isplitl [O]; · iexact O
    isplitl [V12]; · iexact V12
    isplitl [V13]; · iexact V13
    iexact V14
  iintro %u34 ⟨%h34, O, Y12, I12, Y13, I13, Y14, I14⟩
  ihave O := (Entails.of_eq (congrArg (owe (F := F) c) (OR_zero c))) $$ O
  iapply (part35 xv wv K c u34 h34) $$ [U O S0 S2 S1]
  · isplitr; · iexact HI
    isplitl [U]; · iexact U
    isplitl [O]; · iexact O
    isplitl [S0]; · iexact S0
    isplitl [S2]; · iexact S2
    iexact S1
  iintro ⟨U, O, P0, Z0, P2, Z2, P1, Z1⟩
  iapply (part36 xv wv K c) $$ [O S3 S4 S5 S6]
  · isplitr; · iexact HI
    isplitl [O]; · iexact O
    isplitl [S3]; · iexact S3
    isplitl [S4]; · iexact S4
    isplitl [S5]; · iexact S5
    iexact S6
  iintro ⟨O, P3, Z3, P4, Z4, P5, Z5, P6, Z6⟩
  iapply (part37 xv wv K c) $$ [O S7 S8 S9 S10]
  · isplitr; · iexact HI
    isplitl [O]; · iexact O
    isplitl [S7]; · iexact S7
    isplitl [S8]; · iexact S8
    isplitl [S9]; · iexact S9
    iexact S10
  iintro ⟨O, P7, Z7, P8, Z8, P9, Z9, P10, Z10⟩
  iapply (snd_step xv wv K 11 _ rfl c (src_amt 11)) $$ [O S11]
  · isplitr; · iexact HI
    isplitl [O]; · iexact O
    iexact S11
  iintro ⟨O, P11, Z11⟩
  iapply (snd_step xv wv K 12 _ rfl c (src_amt 12)) $$ [O S12]
  · isplitr; · iexact HI
    isplitl [O]; · iexact O
    iexact S12
  iintro ⟨O, P12, Z12⟩
  iapply (snd_step xv wv K 13 _ rfl c (src_amt 13)) $$ [O S13]
  · isplitr; · iexact HI
    isplitl [O]; · iexact O
    iexact S13
  iintro ⟨O, P13, Z13⟩
  iapply (snd_step xv wv K 14 _ rfl c (src_amt 14)) $$ [O S14]
  · isplitr; · iexact HI
    isplitl [O]; · iexact O
    iexact S14
  iintro ⟨O, P14, Z14⟩
  unfold finis
  iapply (show iprop(|={Set.univ}=> Q ⟨⟩) ⊢ WP c (.ret ⟨⟩) Q from Entails.of_eq (wp_ret ..).symm)
  imodintro
  iapply Hk
  isplitl [O]; · iexact O
  isplitl [X]; · iexact X
  isplitl [U]; · iexact U
  isplitl [Zb]; · iexact Zb
  isplitl [Y0 Y1 Y2 Y3 Y4 Y5 Y6 Y7 Y8 Y9 Y10 Y11 Y12 Y13 Y14]
  · iapply (Entails.of_eq (fin15 fun k => zr (F := F) k c).symm)
    isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    isplitl [Y7]; · iexact Y7
    isplitl [Y8]; · iexact Y8
    isplitl [Y9]; · iexact Y9
    isplitl [Y10]; · iexact Y10
    isplitl [Y11]; · iexact Y11
    isplitl [Y12]; · iexact Y12
    isplitl [Y13]; · iexact Y13
    iexact Y14
  isplitl [Z0 Z1 Z2 Z3 Z4 Z5 Z6 Z7 Z8 Z9 Z10 Z11 Z12 Z13 Z14]
  · iapply (Entails.of_eq (fin15 fun k => zs (F := F) k c).symm)
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    iexact Z14
  isplitl [P0 P1 P2 P3 P4 P5 P6 P7 P8 P9 P10 P11 P12 P13 P14 W1]
  · iapply (outs_join xv wv c)
    isplitr [W1]
    · iapply (Entails.of_eq (fin15 fun k => srcP xv wv k c).symm)
      isplitl [P0]; · iexact P0
      isplitl [P1]; · iexact P1
      isplitl [P2]; · iexact P2
      isplitl [P3]; · iexact P3
      isplitl [P4]; · iexact P4
      isplitl [P5]; · iexact P5
      isplitl [P6]; · iexact P6
      isplitl [P7]; · iexact P7
      isplitl [P8]; · iexact P8
      isplitl [P9]; · iexact P9
      isplitl [P10]; · iexact P10
      isplitl [P11]; · iexact P11
      isplitl [P12]; · iexact P12
      isplitl [P13]; · iexact P13
      iexact P14
    iexact W1
  iapply (boxes_join c)
  iapply (Entails.of_eq (fin15 fun k => lndAny (F := F) k c).symm)
  isplitl [I0]; · iapply (landed c 0 _ _ (ag_any _ c _ _ _) (place96 c 0 0 (by decide) rfl)); iexact I0
  isplitl [I1]; · iapply (landed c 1 _ _ (ag_any _ c _ _ _) (place32 c 1 0 (by decide) rfl)); iexact I1
  isplitl [I2]; · iapply (landed c 2 _ _ (ag_any _ c _ _ _) (place96 c 2 1 (by decide) rfl)); iexact I2
  isplitl [I3]; · iapply (landed c 3 _ _ (ag_any _ c _ _ _) (place32 c 3 1 (by decide) rfl)); iexact I3
  isplitl [I4]; · iapply (landed c 4 _ _ (ag_any _ c _ _ _) (place128a c 4 0 (by decide) rfl)); iexact I4
  isplitl [I5]; · iapply (landed c 5 _ _ (ag_any _ c _ _ _) (place128a c 5 1 (by decide) rfl)); iexact I5
  isplitl [I6]; · iapply (landed c 6 _ _ (ag_any _ c _ _ _) (place128b c 6 0 (by decide) rfl)); iexact I6
  isplitl [I7]; · iapply (landed c 7 _ _ (ag_any _ c _ _ _) (place128b c 7 1 (by decide) rfl)); iexact I7
  isplitl [I8]; · iapply (landed c 8 _ _ (ag_any _ c _ _ _) (place7 c 8 0 0 6 (by decide) (by decide) (by decide) rfl)); iexact I8
  isplitl [I9]; · iapply (landed c 9 _ _ (ag_any _ c _ _ _) (place7 c 9 1 32 5 (by decide) (by decide) (by decide) rfl)); iexact I9
  isplitl [I10]; · iapply (landed c 10 _ _ (ag_any _ c _ _ _) (place7 c 10 2 64 4 (by decide) (by decide) (by decide) rfl)); iexact I10
  isplitl [I11]; · iapply (landed c 11 _ _ (ag_any _ c _ _ _) (place7 c 11 3 96 3 (by decide) (by decide) (by decide) rfl)); iexact I11
  isplitl [I12]; · iapply (landed c 12 _ _ (ag_any _ c _ _ _) (place7 c 12 4 128 2 (by decide) (by decide) (by decide) rfl)); iexact I12
  isplitl [I13]; · iapply (landed c 13 _ _ (ag_any _ c _ _ _) (place7 c 13 5 160 1 (by decide) (by decide) (by decide) rfl)); iexact I13
  iapply (landed c 14 _ _ (ag_any _ c _ _ _) (place7 c 14 6 192 0 (by decide) (by decide) (by decide) rfl)); iexact I14

end
end Cert.KProof
-- ==== Proof.Launch.lean ====
/-
# The launch

What each device is dealt, what all devices together owe each cell, and the run of the whole program from a memory
with every counter at zero.
-/
module

public import proofs.«01_k».proof.Proof.Body

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] Idealize.SL.BI.bigSep

/-! ## Cells, one device's -/

/-- A big star over sends and receives. -/
theorem bool2 (Φ : Bool → sProp 𝕄) : bigSep Finset.univ Φ = iprop(Φ false ∗ Φ true) := bigSep_univ_eq_bigSepL [false, true] (by decide) (by decide) Φ

/-- A big star over the copies' cells: those of the sends and those of the receives. -/
theorem pairs_split (Φ : Fin 15 × Bool → sProp 𝕄) :
    bigSep Finset.univ Φ = iprop((bigSep Finset.univ fun k : Fin 15 => Φ (k, false)) ∗ (bigSep Finset.univ fun k : Fin 15 => Φ (k, true))) := by
  rw [bigSep_univ_prod, bigSep_congr (s := Finset.univ) (fun (k : Fin 15) _ => bool2 fun b => Φ (k, b)), bigSep_sep']

/-- A device's cells: the barrier's, the sends', the receives'. -/
theorem cells_split (Φ : CI → sProp 𝕄) :
    bigSep Finset.univ Φ = iprop(((bigSep Finset.univ fun k : Fin 15 => Φ (some (k, false))) ∗ (bigSep Finset.univ fun k : Fin 15 => Φ (some (k, true)))) ∗ Φ none) := by
  rw [bigSep_univ_equiv (Equiv.optionEquivSumPUnit.{0} (Fin 15 × Bool)).symm Φ, bigSep_univ_sum]
  have h0 : (bigSep Finset.univ fun b : PUnit.{1} => Φ ((Equiv.optionEquivSumPUnit.{0} (Fin 15 × Bool)).symm (.inr b))) = Φ none := by
    rw [show (Finset.univ : Finset PUnit.{1}) = {PUnit.unit.{1}} from rfl, bigSep_singleton]; rfl
  rw [h0, pairs_split]; rfl

/-- The kernel's own semaphores: the sends' and the receives'. -/
abbrev osem : Fin 15 × Bool → SemLoc sig := fun i => csem (some i)

/-- They are the kernel's own semaphores, each once. -/
theorem ownSemFacts : Pipeline.OwnSemFacts cfg0.spec osem := by decide +kernel

/-- Their counters at zero are the send cells' and the receive cells'. -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 15 => zs (F := F) k c) ∗ (bigSep Finset.univ fun k : Fin 15 => zr (F := F) k c)) := by
  unfold Pipeline.ownSems0; rw [pairs_split]; rfl
/-- The one other counter is the barrier's. -/
theorem unscopedSems0_eq (c : Dev nD) : (unscopedSems0 c : sProp 𝕄) = zb c := by
  unfold unscopedSems0; rw [bigSep_eq_bigSepL_of_eq [SemLoc.reg barS] (by decide +kernel) (by decide)]; rfl

/-! ## Ghost state -/

section
variable (xv : Dev nD → Vec F S1024x32 .f32) (wv : Dev nD → Vec F S32x1024 .f32)

def allCells : Finset (GSem nD τ sig) := Finset.univ.map ⟨cell, cell_inj⟩

/-- The tokens minted: for each cell one per device. -/
abbrev tokOf (x : Dev nD × CI × Dev nD) : GSem nD τ sig × ℕ × Dev nD := (cell (x.1, x.2.1), 0, x.2.2)
/-- The tokens are all different. -/
theorem tokOf_inj : Function.Injective tokOf := by
  rintro ⟨c, i, d⟩ ⟨c', i', d'⟩ h
  have h1 : (c, i) = (c', i') := cell_inj (congrArg Prod.fst h)
  have h2 : d = d' := congrArg (fun x : GSem nD τ sig × ℕ × Dev nD => x.2.2) h
  have h3 : c = c' := congrArg Prod.fst h1
  have h4 : i = i' := congrArg Prod.snd h1
  rw [h2, h3, h4]
def allToks : Finset (GSem nD τ sig × ℕ × Dev nD) := Finset.univ.map ⟨tokOf, tokOf_inj⟩

def u₀ : UU :=
  (initOf (Pipeline.cells cfgs cellOf_inj) (Pipeline.launchToks cfgs cellOf_inj), initOf allCells allToks)

/-- The tokens of one device's own cells. -/
def toks (c : Dev nD) : sProp 𝕄 := bigSep Finset.univ fun x : CI × Dev nD => dutyTok ER (cell (c, x.1)) 0 x.2

/-- What the launch deals a device; -/
def G (c : Dev nD) : sProp 𝕄 :=
  iprop((bigSep Finset.univ fun i : CI => roundState ER (Rd xv wv) (cell (c, i)) 0)
    ∗ (bigSep Finset.univ fun i : CI => iprop(atPos ER (cell (c, i)) 0 ∅ 0 ∗ reached ER (cell (c, i)) 0)) ∗ toks c)
/-- the tokens a device pays with; -/
def payToks (c : Dev nD) : sProp 𝕄 :=
  iprop((bigSep (Finset.univ.erase c) fun e : Dev nD => dutyTok ER (barC e) 0 c) ∗ (bigSep Finset.univ fun k : Fin 15 => tokK (F := F) k c))
/-- those with its places in its own cells; -/
def linear (c : Dev nD) : sProp 𝕄 := iprop((bigSep Finset.univ fun i : CI => atPos ER (cell (c, i)) 0 ∅ 0) ∗ payToks (F := F) c)
/-- what all devices know of all cells; -/
def known (K : Dev nD × CI → ℕ) : sProp 𝕄 :=
  iprop((bigSep Finset.univ fun ci : Dev nD × CI => cellInv ER (Rd xv wv) (K ci) (cell ci))
    ∗ (bigSep Finset.univ fun ci : Dev nD × CI => reached ER (cell ci) 0))
instance known_persistent (K : Dev nD × CI → ℕ) : BI.Persistent (known xv wv K) := by unfold known; infer_instance
/-- and what a device has when all cells are set up. -/
def G' (c : Dev nD) : sProp 𝕄 := iprop(∃ K, known xv wv K ∗ linear (F := F) c)

/-- The ghost state of the launch, dealt to the devices. -/
theorem fund_all : BI.own (ER (initOf allCells allToks)) ⊢ (|==> bigSep Finset.univ (G xv wv) : sProp 𝕄) := by
  have hX (Φ : GSem nD τ sig → sProp 𝕄) : bigSep allCells Φ = bigSep Finset.univ fun c : Dev nD => bigSep Finset.univ fun i : CI => Φ (cell (c, i)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]; rfl
  iintro HX
  imod (Rounds.fund ER (Rd xv wv) allCells allToks) $$ HX with ⟨Hst, Hr, Hat, Htok⟩
  imodintro
  ihave Hst := (Entails.of_eq (hX fun g => roundState ER (Rd xv wv) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-- A device's counters at zero, cell by cell. -/
theorem sems_at (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (cell (c, i)) 0 : sProp 𝕄) := by
  rw [ownSems0_eq, unscopedSems0_eq, cells_split]; exact BI.Entails.refl _

/-- With its ghost state a device sets up its cells. -/
theorem cells_alloc (c : Dev nD) :
    iprop(Pipeline.ownSems0 (Ix := Unit) (Name := ℕ) (U := UU) (Lvl := ℕ) (Val := Elt F) (τ := τ) osem c ∗ unscopedSems0 c ∗ G xv wv c)
      ⊢ |={Set.univ}=> iprop((bigSep Finset.univ fun i : CI => iprop(∃ κ : ℕ, cellInv ER (Rd xv wv) κ (cell (c, i))))
          ∗ (bigSep Finset.univ fun i : CI => iprop(atPos ER (cell (c, i)) 0 ∅ 0 ∗ reached ER (cell (c, i)) 0)) ∗ toks c) := by
  have ha : iprop((bigSep Finset.univ fun i : CI => semVal (cell (c, i)) 0) ∗ bigSep Finset.univ fun i : CI => roundState ER (Rd xv wv) (cell (c, i)) 0)
      ⊢ (|={Set.univ}=> bigSep Finset.univ fun i : CI => iprop(∃ κ : ℕ, cellInv ER (Rd xv wv) κ (cell (c, i))) : sProp 𝕄) := by
    rw [← bigSep_sep']
    exact (bigSep_mono fun i _ => (Rounds.body_intro ER (Rd xv wv) (cell (c, i))).trans inv_alloc).trans (bigSep_fupd _ _)
  unfold G
  iintro ⟨Ho, Hu, Hst, Hat, Htok⟩
  ihave Hv := (sems_at (F := F) c) $$ [Ho Hu]
  · isplitl [Ho]; · iexact Ho
    iexact Hu
  imod ha $$ [Hv Hst] with Hinv
  · isplitl [Hv]; · iexact Hv
    iexact Hst
  imodintro
  isplitl [Hinv]; · iexact Hinv
  isplitl [Hat]; · iexact Hat
  iexact Htok

/-- Of its own cells' tokens: one per device of the barrier's, one each of the sends' and receives'. -/
theorem toks_own (c : Dev nD) : toks (F := F) c
    ⊢ iprop((bigSep Finset.univ fun d : Dev nD => dutyTok ER (barC c) 0 d) ∗ (bigSep Finset.univ fun k : Fin 15 => dutyTok ER (sndC k c) 0 (0 : Fin 32))
      ∗ (bigSep Finset.univ fun k : Fin 15 => dutyTok ER (rcvC k c) 0 (0 : Fin 32))) := by
  have h1 : ∀ i : CI, (bigSep Finset.univ fun d : Dev nD => (dutyTok ER (cell (c, i)) 0 d : sProp 𝕄)) ⊢ dutyTok ER (cell (c, i)) 0 (0 : Fin 32) :=
    fun i => bigSep_elim (Finset.mem_univ (0 : Fin 32))
  have h2 : ∀ b : Bool, (bigSep Finset.univ fun k : Fin 15 => bigSep Finset.univ fun d : Dev nD => (dutyTok ER (cell (c, some (k, b))) 0 d : sProp 𝕄))
      ⊢ bigSep Finset.univ fun k : Fin 15 => dutyTok ER (cell (c, some (k, b))) 0 (0 : Fin 32) := fun b => bigSep_mono fun k _ => h1 _
  unfold toks
  rw [bigSep_univ_prod, cells_split]
  iintro ⟨⟨S, R⟩, B⟩
  isplitl [B]; · iexact B
  isplitl [S]; · iapply (h2 false); iexact S
  iapply (h2 true); iexact R

/-- The tokens dealt to those who pay with them. -/
theorem toks_dealt : (bigSep Finset.univ fun c : Dev nD => toks (F := F) c) ⊢ bigSep Finset.univ fun c : Dev nD => payToks (F := F) c := by
  have hb : (bigSep Finset.univ fun c : Dev nD => bigSep Finset.univ fun d : Dev nD => (dutyTok ER (barC c) 0 d : sProp 𝕄))
      ⊢ bigSep Finset.univ fun c : Dev nD => bigSep (Finset.univ.erase c) fun e : Dev nD => (dutyTok ER (barC e) 0 c : sProp 𝕄) := by
    rw [bigSep_univ_comm]
    exact bigSep_mono fun c _ => bigSep_subset (Finset.erase_subset _ _)
  have hr : (bigSep Finset.univ fun c : Dev nD => bigSep Finset.univ fun k : Fin 15 => (dutyTok ER (rcvC k c) 0 (0 : Fin 32) : sProp 𝕄))
      = bigSep Finset.univ fun c : Dev nD => bigSep Finset.univ fun k : Fin 15 => (dutyTok ER (rcvC k (toD k c)) 0 (0 : Fin 32) : sProp 𝕄) := by
    rw [bigSep_univ_comm, bigSep_congr (s := Finset.univ) (fun (k : Fin 15) _ => bigSep_univ_equiv (across k) fun c : Dev nD => (dutyTok ER (rcvC k c) 0 (0 : Fin 32) : sProp 𝕄)),
      bigSep_univ_comm]; rfl
  refine (bigSep_mono fun c _ => toks_own (F := F) c).trans ?_
  unfold payToks tokK
  simp only [bigSep_sep']
  rw [hr]
  exact BI.sep_mono hb (BI.Entails.refl _)

/-- Knowledge that lasts goes to every part of a big star. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What the devices know of their cells goes to all of them; what they hold goes to those who use it. -/
theorem regroup :
    (bigSep Finset.univ fun c : Dev nD => iprop((bigSep Finset.univ fun i : CI => iprop(∃ κ : ℕ, cellInv ER (Rd xv wv) κ (cell (c, i))))
          ∗ (bigSep Finset.univ fun i : CI => iprop(atPos ER (cell (c, i)) 0 ∅ 0 ∗ reached ER (cell (c, i)) 0)) ∗ toks (F := F) c) : sProp 𝕄)
      ⊢ bigSep Finset.univ (G' xv wv) := by
  rw [bigSep_sep', bigSep_sep', ← bigSep_univ_prod (fun ci : Dev nD × CI => iprop(∃ κ : ℕ, cellInv ER (Rd xv wv) κ (cell ci))),
    bigSep_congr (s := Finset.univ) (fun (c : Dev nD) _ => bigSep_sep' Finset.univ (fun i : CI => (atPos ER (cell (c, i)) 0 ∅ 0 : sProp 𝕄)) (fun i => reached ER (cell (c, i)) 0)),
    bigSep_sep', ← bigSep_univ_prod (fun ci : Dev nD × CI => (reached ER (cell ci) 0 : sProp 𝕄))]
  iintro ⟨HI, ⟨Hat, #HR⟩, Htok⟩
  ihave HK := (BI.bigSep_exists_pi Finset.univ (fun (ci : Dev nD × CI) (κ : ℕ) => (cellInv ER (Rd xv wv) κ (cell ci) : sProp 𝕄))) $$ HI
  icases HK with ⟨%K, #HI⟩
  ihave Htk := (toks_dealt (F := F)) $$ Htok
  have hg : ∀ c ∈ (Finset.univ : Finset (Dev nD)), iprop(known xv wv K ∗ linear (F := F) c) ⊢ G' xv wv c := fun c _ => by
    unfold G'; iintro H; iexists K; iexact H
  iapply (with_persistent (R := known xv wv K) hg)
  isplitr
  · unfold known; isplitl; · iexact HI
    iexact HR
  · iapply ((Entails.of_eq (bigSep_sep' Finset.univ (fun c : Dev nD => bigSep Finset.univ fun i : CI => (atPos ER (cell (c, i)) 0 ∅ 0 : sProp 𝕄)) (payToks (F := F))).symm))
    isplitl [Hat]; · iexact Hat
    iexact Htk

/-- All devices' cells set up at once. -/
theorem glob : (bigSep Finset.univ fun c => iprop(Pipeline.ownSems0 (Ix := Unit) (Name := ℕ) (U := UU) (Lvl := ℕ) (Val := Elt F) (τ := τ) osem c ∗ unscopedSems0 c ∗ G xv wv c) : sProp 𝕄)
    ⊢ |={Set.univ}=> bigSep Finset.univ (G' xv wv) :=
  ((bigSep_mono fun c _ => cells_alloc xv wv c).trans (bigSep_fupd _ _)).trans (BI.fupd_mono (regroup xv wv))

end

/-! ## What all devices together owe each cell -/

abbrev O₀ (c : Dev nD) : CellTallies nD τ sig Unit := OS c 31

/-- At the start all other devices are still to be signalled. -/
theorem barrier_all (d : Dev nD) : (Finset.univ.filter fun e : Dev nD => 31 < rel d e + 31) = Finset.univ.erase d := by
  revert d; decide +kernel

/-- Different kinds of cell are different cells. -/
theorem cell_ne {a b : Dev nD} {i j : CI} (h : i ≠ j) : cell (a, i) ≠ cell (b, j) := fun e => h (congrArg Prod.snd (cell_inj e))

/-- At the start a device owes every other device's barrier one unit, -/
theorem owed_bar (d c : Dev nD) : O₀ d (barC c) () = if c ∈ Finset.univ.erase d then 1 else 0 := by
  unfold O₀ OS OR
  rw [barrier_all, Pi.add_apply, Finsupp.add_apply, tallies_sum_apply, tallies_sum_apply,
    Finset.sum_eq_zero (fun k _ => by rw [tallyAt_apply, if_neg fun h => cell_ne (by simp) h.1]), Nat.zero_add,
    ← Finset.sum_ite_eq (Finset.univ.erase d) c fun _ => 1]
  refine Finset.sum_congr rfl fun e _ => ?_
  rw [tallyAt_apply]
  by_cases h : c = e
  · subst h; rw [if_pos ⟨rfl, rfl⟩, if_pos rfl]
  · rw [if_neg fun h' => h (congrArg Prod.fst (cell_inj h'.1)), if_neg h]

/-- and the landing of each of its copies that copy's bytes. -/
theorem owed_rcv (k : Fin 15) (d c : Dev nD) : O₀ d (rcvC k c) () = if d = frD k c then amt k else 0 := by
  unfold O₀ OS OR
  rw [Pi.add_apply, Finsupp.add_apply, tallies_sum_apply, tallies_sum_apply,
    Finset.sum_eq_zero (s := Finset.univ.filter fun e : Dev nD => 31 < rel d e + 31) (fun e _ => by rw [tallyAt_apply, if_neg fun h => cell_ne (by simp) h.1]), Nat.add_zero,
    Finset.sum_eq_single k]
  · rw [tallyAt_apply]
    by_cases h : d = frD k c
    · subst h; rw [to_fr, if_pos ⟨rfl, rfl⟩, if_pos rfl]
    · rw [if_neg fun h' => h (by rw [show c = toD k d from congrArg Prod.fst (cell_inj h'.1), fr_to]), if_neg h]
  · intro j _ hj
    rw [tallyAt_apply, if_neg fun h => cell_ne (by simpa using hj.symm) h.1]
  · intro h; exact absurd (Finset.mem_filter.mpr ⟨Finset.mem_univ k, Nat.le_add_left _ _⟩) h

/-- So all together owe a barrier thirty-one units, -/
theorem all_bar (c : Dev nD) :
    tallyOn (barC c) (launchCredit (Pipeline.owing O₀) 0 (barC c)) = (tallyAt (barC c) () 31 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

/-- and a receive cell its copy's bytes. -/
theorem all_rcv (k : Fin 15) (c : Dev nD) :
    tallyOn (rcvC k c) (launchCredit (Pipeline.owing O₀) 0 (rcvC k c)) = (tallyAt (rcvC k c) () (amt k) : CellTallies nD τ sig Unit) := by
  unfold tallyAt; refine congrArg _ (Finsupp.ext fun u => ?_); cases u
  rw [Pipeline.launchCredit_owing, Finsupp.single_eq_same, Finset.sum_congr rfl fun d _ => owed_rcv k d c, Finset.sum_ite_eq' Finset.univ (frD k c) fun _ => amt k,
    if_pos (Finset.mem_univ _)]

/-- So a device's credits at launch. -/
theorem creds (c : Dev nD) :
    (Pipeline.launchCred O₀ c : sProp 𝕄) ⊢ iprop(cred (tallyAt (barC c) () 31) ∗ (bigSep Finset.univ fun k : Fin 15 => cred (tallyAt (rcvC k c) () (amt k)))) := by
  unfold Pipeline.launchCred
  refine (bigSep_subset (Finset.subset_univ (Finset.univ.map ⟨csem, csem_inj⟩))).trans ?_
  rw [bigSep_map, cells_split]
  have hr : (bigSep Finset.univ fun k : Fin 15 => (cred (tallyOn (rcvC k c) (launchCredit (Pipeline.owing O₀) 0 (rcvC k c))) : sProp 𝕄))
      ⊢ bigSep Finset.univ fun k : Fin 15 => cred (tallyAt (rcvC k c) () (amt k)) := bigSep_mono fun k _ => Entails.of_eq (congrArg cred (all_rcv k c))
  have hj : ∀ A B C D E : sProp 𝕄, (C ⊢ D) → (B ⊢ E) → (iprop((A ∗ B) ∗ C) ⊢ iprop(D ∗ E)) := fun A B C D E h1 h2 => by
    iintro ⟨⟨-, R⟩, B⟩
    isplitl [B]; · iapply h1; iexact B
    iapply h2; iexact R
  exact hj _ _ _ _ _ (Entails.of_eq (congrArg cred (all_bar c))) hr

end Cert.KProof
-- ==== Proof.Run.lean ====
/-
# The run

Every run of the program from a memory with every counter at zero ends with the arguments as they were, every counter
zero again, and on each device the result `Contents.res`.
-/
module

public import proofs.«01_k».proof.Proof.Launch
public import Idealize.ShloMosaic.Lib.Pipeline.CollectiveSegs
public import Idealize.ShloMosaic.Lib.Pipeline.ValueKit

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds

open Idealize.ShloMosaic.Pipeline (Dat BodyObligation)

variable {F : FTy → Type} [FloatOps F]

local notation "𝕄" => MT nD τ sig Unit (Elt F) ℕ UU ℕ

attribute [local irreducible] Idealize.SL.BI.bigSep

variable (m : (ℓ : Loc nD τ sig) → Buf (Elt F) ℓ) (ρ : Dev nD → PrngReg)

/-- The devices' blocks of the two arguments. -/
def xv (c : Dev nD) : Vec F S1024x32 .f32 := m ((c : Thread nD τ).loc main_arg0)
def wv (c : Dev nD) : Vec F S32x1024 .f32 := m ((c : Thread nD τ).loc main_arg1)
/-- The result's contents. -/
def out (c : Dev nD) : Vec F S32x1024 .f32 := on2 (res (xv m) (wv m) c)

/-- What the staged block of the first argument holds, -/
theorem read0 (c : Dev nD) : (win0_0.blk (0 : Fin 1)).view.read (Elt F) (m ((c : Thread nD τ).loc main_arg0)) = xv m c := by
  funext i
  refine congrArg (m ((c : Thread nD τ).loc main_arg0)) (funext fun a => Fin.ext ?_)
  refine a.cases ?_ fun a => a.cases ?_ fun a => a.elim0
  · show 0 + 1 * (i 0).val = (i 0).val; omega
  · show 0 + 1 * (i 1).val = (i 1).val; omega
/-- and of the second. -/
theorem read1 (c : Dev nD) : (win0_1.blk (0 : Fin 1)).view.read (Elt F) (m ((c : Thread nD τ).loc main_arg1)) = wv m c := by
  funext i
  refine congrArg (m ((c : Thread nD τ).loc main_arg1)) (funext fun a => Fin.ext ?_)
  refine a.cases ?_ fun a => a.cases ?_ fun a => a.elim0
  · show 0 + 1 * (i 0).val = (i 0).val; omega
  · show 0 + 1 * (i 1).val = (i 1).val; omega

/-- What the body starts with besides the arguments and the result, -/
def start (c : Dev nD) : sProp 𝕄 :=
  iprop((∃ K, recs (xv m) (wv m) K ∗ linear (F := F) c) ∗ cred (tallyAt (barC c) () 31) ∗ (bigSep Finset.univ fun k : Fin 15 => cred (tallyAt (rcvC k c) () (amt k))))
def Φ₀ (c : Dev nD) : sProp 𝕄 := iprop(start m c ∗ outs (F := F) c ∗ boxes (F := F) c)
/-- and ends with. -/
def Φ₁ (c : Dev nD) : sProp 𝕄 :=
  iprop(outs (F := F) c ∗ boxes (F := F) c ∗ zb (F := F) c ∗ (bigSep Finset.univ fun k : Fin 15 => zr (F := F) k c) ∗ (bigSep Finset.univ fun k : Fin 15 => zs (F := F) k c))

def dats (_ : Fin 1) (c : Dev nD) : Dat τ (Elt F) Unit ℕ UU ℕ cfg0 c where
  A w := m ((cfg0.win w).arr.view.loc (c : Thread nD τ))
  after w _ := match w with
    | ⟨0, _⟩ => xv m c
    | ⟨1, _⟩ => wv m c
    | ⟨2, _⟩ => out m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-! ## The body -/

/-- Owning a whole buffer is its points-to at the full share. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPost (c : Dev nD) : sProp 𝕄 :=
  iprop(Φ₁ (F := F) c ∗ (dats m 0 c).owesAt () t0_0.succ ∗ stg c cc0_stg0_0 (xv m c) ∗ stg c cc0_stg1_0 (wv m c) ∗ stg c cc0_stg2_0 (out m c))

set_option maxRecDepth 4000 in
def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

/-- What the body's run wants, from the start. -/
theorem before_of (c : Dev nD) :
    iprop(owe (F := F) c (OS c 31) ∗ linear (F := F) c ∗ cred (tallyAt (barC c) () 31) ∗ (bigSep Finset.univ fun k : Fin 15 => cred (tallyAt (rcvC k c) () (amt k)))
      ∗ outs (F := F) c ∗ boxes (F := F) c ∗ xw (xv m c) (wv m c) c ∗ (∃ f : Vec F S32x1024 .f32, oM.view.loc (c : Thread nD τ) ↦{fullShare} f))
      ⊢ before (xv m) (wv m) c := by
  have hl : linear (F := F) c = iprop((((bigSep Finset.univ fun k : Fin 15 => atPos ER (sndC k c) 0 ∅ 0) ∗ (bigSep Finset.univ fun k : Fin 15 => atPos ER (rcvC k c) 0 ∅ 0)) ∗ atPos ER (barC c) 0 ∅ 0)
      ∗ payToks (F := F) c) := by unfold linear; rw [cells_split]
  have hk : (bigSep Finset.univ fun k : Fin 15 => rcvK (F := F) k c) = iprop((bigSep Finset.univ fun k : Fin 15 => atPos ER (rcvC k c) 0 ∅ 0)
      ∗ (bigSep Finset.univ fun k : Fin 15 => cred (tallyAt (rcvC k c) () (amt k)))) := bigSep_sep' _ _ _
  unfold before
  rw [hl, hk, bigSep_sep']
  unfold payToks
  iintro ⟨HO, ⟨⟨⟨PS, PR⟩, PB⟩, TB, TK⟩, CB, CR, Os, Bs, X, U⟩
  isplitl [HO]; · iexact HO
  isplitl [TB Bs]
  · iapply (sigs_all (F := F) c); isplitl [TB]; · iexact TB
    iexact Bs
  isplitl [PB]; · iexact PB
  isplitl [CB]; · iexact CB
  isplitl [TK PS]
  · isplitl [TK]; · iexact TK
    iexact PS
  isplitl [PR CR]
  · isplitl [PR]; · iexact PR
    iexact CR
  isplitl [X]; · iexact X
  isplitl [U]; · iexact U
  iexact Os

set_option maxRecDepth 16384 in
set_option maxHeartbeats 800000 in
/-- The body on device `c`. -/
theorem body_obligation (c : Dev nD) : BodyObligation (dats m 0 c) (defs₀ (F := F)) 𝒱₀ () Set.univ := fun t => by
  rw [fin_N0 t]
  rw [bigSep_W0, bigSep_W0]
  have h0 : ∀ d, (dats m 0 c).before (0 : Fin 3) t0_0 d = xv m c := fun d => by
    unfold Dat.before; rw [if_pos (fetch0_0 t0_0)]; exact read0 m c
  have h1 : ∀ d, (dats m 0 c).before (1 : Fin 3) t0_0 d = wv m c := fun d => by
    unfold Dat.before; rw [if_pos (fetch0_1 t0_0)]; exact read1 m c
  have hO : (dats m 0 c).owesAt () t0_0.castSucc ⊢ (owe (F := F) c (OS c 31) : sProp 𝕄) := by
    unfold Dat.owesAt Pipeline.owesWithin owe
    iintro ⟨%W, %hW, HO⟩; iexists W; iexact HO
  have hE : (owe (F := F) c 0 : sProp 𝕄) ⊢ (dats m 0 c).owesAt () t0_0.succ := by
    unfold Dat.owesAt Pipeline.owesWithin owe
    iintro ⟨%W, HO⟩; iexists W; isplitr; · ipureintro; exact fun _ _ => Or.inl trivial
    iexact HO
  simp only [owns_whole_eq]
  show bodyPre m c ⊢ WP c (on (cc0_body (F := F))) fun _ => bodyPost m c
  unfold bodyPre Φ₀ start
  iintro ⟨⟨⟨⟨%K, #HR, HL⟩, CB, CR⟩, Os, Bs⟩, Ho, ⟨%d0, %g0, %hg0, Hx⟩, ⟨%d1, %g1, %hg1, Hw⟩, ⟨%d2, %g2, -, Hu⟩⟩
  have e0 : g0 = xv m c := hg0.trans (h0 d0)
  have e1 : g1 = wv m c := hg1.trans (h1 d1)
  subst e0 e1
  ihave HO := hO $$ Ho
  iapply (body_run (xv m) (wv m) K c (Q := fun _ => bodyPost m c)) $$ [HL CB CR Os Bs HO Hx Hw Hu]
  · isplitr; · iexact HR
    iapply (before_of m c)
    isplitl [HO]; · iexact HO
    isplitl [HL]; · iexact HL
    isplitl [CB]; · iexact CB
    isplitl [CR]; · iexact CR
    isplitl [Os]; · iexact Os
    isplitl [Bs]; · iexact Bs
    isplitl [Hx Hw]
    · unfold xw; isplitl [Hx]; · iexact Hx
      iexact Hw
    iexists g2; iexact Hu
  unfold finis bodyPost Φ₁ xw
  iintro ⟨HO, ⟨Hx, Hw⟩, Hu, ZB, ZR, ZS, Os, Bs⟩
  isplitl [ZB ZR ZS Os Bs]
  · isplitl [Os]; · iexact Os
    isplitl [Bs]; · iexact Bs
    isplitl [ZB]; · iexact ZB
    isplitl [ZR]; · iexact ZR
    iexact ZS
  isplitl [HO]; · iapply hE; iexact HO
  isplitl [Hx]; · iexists (xv m c); isplitr; · ipureintro; rfl
                  iexact Hx
  isplitl [Hw]; · iexists (wv m c); isplitr; · ipureintro; rfl
                  iexact Hw
  iexists (out m c); isplitr; · ipureintro; rfl
  iexact Hu

/-! ## The side conditions -/

/-- Every window is held at the full share. -/
theorem share_eq (c : Dev nD) (w : Fin cfg0.W) : (dats m 0 c).share w = fullShare := by unfold Dat.share; split <;> rfl

/-- The start from what the launch gives a device. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xv m) (wv m) c)
      ⊢ |={Set.univ}=> iprop(start m c ∗ emp) := by
  iintro ⟨-, #Hlev, Hcr, -, HG⟩
  ihave Hc := (creds (F := F) c) $$ Hcr
  icases Hc with ⟨H1, H2⟩
  imodintro
  unfold start G' known recs
  icases HG with ⟨%K, ⟨#HI, #HR⟩, HL⟩
  isplitl
  · isplitl [HL]
    · iexists K
      isplitr
      · isplitr; · iexact HI
        isplitr; · iexact HR
        iexact Hlev
      iexact HL
    isplitl [H1]; · iexact H1
    iexact H2
  · iempintro

/-- The scratch buffers are those copies are read from and those they land in. -/
theorem scratch_eq (c : Dev nD) :
    (Pipeline.scopedRest (Ix := Unit) (Name := ℕ) (U := UU) (Lvl := ℕ) (Val := Elt F) spec0 c : sProp 𝕄)
      = iprop(any (F := F) drxM c Finset.univ ∗ any (F := F) dryM c Finset.univ ∗ any (F := F) mbM c Finset.univ ∗ any (F := F) mcM c Finset.univ ∗ any (F := F) wkM c Finset.univ
        ∗ any (F := F) irxM c Finset.univ ∗ any (F := F) iryM c Finset.univ ∗ any (F := F) ia1M c Finset.univ ∗ any (F := F) ia2M c Finset.univ ∗ any (F := F) ibM c Finset.univ) := by
  rw [scopedRest0_eq, ← any_set drxM c Finset.univ Finset.univ (View.set_whole _).symm, ← any_set dryM c Finset.univ Finset.univ (View.set_whole _).symm,
    ← any_set mbM c Finset.univ Finset.univ (View.set_whole _).symm, ← any_set mcM c Finset.univ Finset.univ (View.set_whole _).symm,
    ← any_set wkM c Finset.univ Finset.univ (View.set_whole _).symm, ← any_set irxM c Finset.univ Finset.univ (View.set_whole _).symm,
    ← any_set iryM c Finset.univ Finset.univ (View.set_whole _).symm, ← any_set ia1M c Finset.univ Finset.univ (View.set_whole _).symm,
    ← any_set ia2M c Finset.univ Finset.univ (View.set_whole _).symm, ← any_set ibM c Finset.univ Finset.univ (View.set_whole _).symm]

/-- What the body starts with, put together, -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest cfg0.spec c : sProp 𝕄) = _ from scratch_eq c]
  unfold Φ₀ outs boxes
  iintro ⟨Hs, -, A0, A1, A2, A3, A4, A5⟩
  isplitl [Hs]; · iexact Hs
  isplitr [A5]
  · isplitl [A0]; · iexact A0
    isplitl [A1]; · iexact A1
    isplitl [A2]; · iexact A2
    isplitl [A3]; · iexact A3
    iexact A4
  iexact A5

/-- and what it ends with, taken apart. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, show (Pipeline.scopedRest cfg0.spec c : sProp 𝕄) = _ from scratch_eq c, ownSems0_eq, unscopedSems0_eq]
  unfold Φ₁ outs boxes
  iintro ⟨⟨A0, A1, A2, A3, A4⟩, A5, ZB, ZR, ZS⟩
  isplitl [ZB]; · iexact ZB
  isplitl [ZR ZS]
  · isplitl [ZS]; · iexact ZS
    iexact ZR
  isplitl [A0]; · iexact A0
  isplitl [A1]; · iexact A1
  isplitl [A2]; · iexact A2
  isplitl [A3]; · iexact A3
  isplitl [A4]; · iexact A4
  iexact A5

/-- The staging copies may be waited for all along. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Every run ends, with the windows' arrays as the body's data says and every counter zero. -/
theorem run_arrays : θ_run defs (onTc (τ := τ) (main (F := F))) (⟨m, fun _ => 0, ρ⟩ : MemSt nD τ sig (Elt F)) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main (hmain := fun _ => rfl)
    (hbody := body_obligation m) (hne := fun w => by fin_cases w <;> exact Nat.succ_pos _) (harr := arr_whole0) (hstage := stage_whole0) (hshare := share_eq m)
    (hdistinct := winFacts0.arr_inj) (O₀ := O₀) (howed₀ := fun _ => rfl) (howedN := fun _ => rfl) (L := L) (lv := lv) (hL := L_of_ne) (hwaits := waits m)
    (G := G (xv m) (wv m)) (G' := G' (xv m) (wv m)) (u₀ := u₀)
    (hu₀ := by
      unfold u₀; iintro Hu; ihave H := (ownU_pair _ _) $$ Hu; icases H with ⟨HP, HX⟩
      imod (fund_all (xv m) (wv m)) $$ HX with HG; imodintro
      isplitl [HP]; · iexact HP
      iexact HG)
    (hglob := glob (xv m) (wv m)) (hA := fun _ _ => rfl) (hpf := fun _ k => k.elim0)
    (X := start m) (Y := fun c => unscopedSems0 c) (Z := fun _ => iprop(emp)) (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩; iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The result's array at the end. -/
theorem final2 (c : Dev nD) : finalA m c (2 : Fin 3) = out m c := by
  funext i
  exact (dats m 0 c).arrAt_emb_eq_after_last (2 : Fin 3) t0_0 (by decide +kernel) i

/-- Every run ends with both arguments as they were, the result `out` on every device, and every counter zero. -/
theorem run_main : θ_run defs (onTc (τ := τ) (main (F := F))) (⟨m, fun _ => 0, ρ⟩ : MemSt nD τ sig (Elt F)) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = out m c) ∧ r.2.sem = fun _ => 0) :=
  (θ_run defs _ _).mono (fun _ h => ⟨fun c => ⟨(h.1 c 0).trans ((dats m 0 c).arrAt_in (0 : Fin 3) rfl _),
    (h.1 c 1).trans ((dats m 0 c).arrAt_in (1 : Fin 3) rfl _), (h.1 c 2).trans (final2 m c)⟩, h.2⟩) (run_arrays m ρ)

end Cert.KProof
-- ==== Proof.Values.lean ====
/-
# The value

Over the extended reals a device's result is the sum, over the thirty-two devices, of their partial products for its row
block, made nonnegative; and that is its row block of the two whole arguments' product, made nonnegative.
-/
module

public import proofs.«01_k».proof.Proof.Contents
public import proofs.«01_k».proof.Proof.Gen.ReferenceIdeal.Run
public import Idealize.ShloMosaic.Lib.Layout
public import Idealize.ShloMosaic.Lib.MatmulPlain
public import Idealize.ShloMosaic.Lib.StackMember

@[expose] public section

noncomputable section

namespace Cert.KProof

open Cert.KernelIdeal Cert.KernelIdeal.Gen

open Idealize.ShloMosaic
open Idealize.ShloMosaic.TcCoe
open Idealize.ShloMosaic.ValueIdx

section
variable (xv : Dev nD → Vec Ideal S1024x32 .f32) (wv : Dev nD → Vec Ideal S32x1024 .f32)

/-- A partial product, written out. -/
theorem dn_eq (d : Dev nD) (e r : ℕ) (k : Fin 1024) : dn xv wv d e r k
    = ∑ j : Fin 32, (xv d (ix2 ⟨(32 * e + r % 32) % 1024, Nat.mod_lt _ (by decide)⟩ j) : EReal) * wv d (ix2 j k) := by
  unfold dn dotBlk
  refine (Ideal.matmul_plain_apply (M := 32) (K := 32) (N := 1024) none (rowsX (xv d) e) (wv d) (constant S32x1024 .f32 0x00000000#32) ⟨r % 32, Nat.mod_lt _ (by decide)⟩ k).trans ?_
  have h0 : (constant (F := Ideal) S32x1024 .f32 0x00000000#32 : FVec Ideal S32x1024 .f32) (ix2 ⟨r % 32, Nat.mod_lt _ (by decide)⟩ k) = (0 : EReal) := Ideal.ofBits_zero_f32
  rw [h0, zero_add]; rfl

/-- A partial product counts its row within the row block. -/
theorem dn_mod (d : Dev nD) (e r r' : ℕ) (h : r % 32 = r' % 32) (k : Fin 1024) : dn xv wv d e r k = dn xv wv d e r' k := by
  rw [dn_eq, dn_eq, h]

/-! ## The four devices of a square -/

/-- The four devices of a square, from one of them. -/
def corner (v : Fin 4) (e : Dev nD) : Dev nD := match v with
  | 0 => e | 1 => dv1 e | 2 => dv2 e | 3 => dv1 (dv2 e)

/-- The opposite corner is reached either way round. -/
theorem dv21 (e : Dev nD) : dv2 (dv1 e) = dv1 (dv2 e) := by revert e; decide

/-- The block a neighbour's rows are for is the same as one's own. -/
theorem blk1 (e : Dev nD) (p : Fin 8) : slot (dv1 e) p.val * 4 + q1 ((dv1 e).val % 4) = slot e p.val * 4 + e.val % 4 := by revert e p; decide +kernel
/-- So from the second neighbour, -/
theorem blk2 (e : Dev nD) (p : Fin 8) : slot (dv2 e) p.val * 4 + q2 ((dv2 e).val % 4) = slot e p.val * 4 + e.val % 4 := by revert e p; decide +kernel
/-- and from the opposite corner. -/
theorem blk3 (e : Dev nD) (p : Fin 8) : slot (dv1 (dv2 e)) p.val * 4 + qd ((dv1 (dv2 e)).val % 4) = slot e p.val * 4 + e.val % 4 := by revert e p; decide +kernel

/-- A square's sum for piece `p`: the four devices' partial products for that piece's row block. -/
theorem wk_eq (e : Dev nD) (p : Fin 8) (r : ℕ) (hr : r < 32) (k : Fin 1024) :
    wk xv wv e (32 * p.val + r) k = ∑ v : Fin 4, (dn xv wv (corner v e) (slot e p.val * 4 + e.val % 4) r k : EReal) := by
  have e0 : (32 * p.val + r) / 32 = p.val := by omega
  have e1 : (32 * p.val + r) / 128 = p.val / 4 := by omega
  have e2 : (32 * p.val + r) % 128 = 32 * (p.val % 4) + r := by omega
  have e3 : 4 * (p.val / 4) + (32 * (p.val % 4) + r) / 32 = p.val := by omega
  have a0 : w0 xv wv e (32 * p.val + r) k = dn xv wv e (slot e p.val * 4 + e.val % 4) r k := by
    unfold w0; rw [e0]; exact dn_mod xv wv _ _ _ _ (by omega) k
  have a1 : mb0 xv wv (dv1 e) (p.val / 4) (32 * (p.val % 4) + r) k = dn xv wv (dv1 e) (slot e p.val * 4 + e.val % 4) r k := by
    unfold mb0; rw [e3, blk1]; exact dn_mod xv wv _ _ _ _ (by omega) k
  have a2 : mc0 xv wv (dv2 e) (p.val / 4) (32 * (p.val % 4) + r) k = dn xv wv (dv2 e) (slot e p.val * 4 + e.val % 4) r k := by
    unfold mc0; rw [e3, blk2]; exact dn_mod xv wv _ _ _ _ (by omega) k
  unfold wk mb mc
  rw [e1, e2, a0, a1, a2, Fin.sum_univ_four]
  by_cases h : 96 ≤ 32 * (p.val % 4) + r
  · have a3 : dry xv wv (dv2 (dv1 e)) (p.val / 4) (32 * (p.val % 4) + r - 96) k = dn xv wv (dv1 (dv2 e)) (slot e p.val * 4 + e.val % 4) r k := by
      unfold dry
      rw [show 4 * (p.val / 4) + 3 = p.val by omega, dv21, blk3]; exact dn_mod xv wv _ _ _ _ (by omega) k
    rw [if_pos h, if_neg (by omega), a3]
    simp only [Ideal.addf_def, corner]
    ac_rfl
  · have a3 : drx xv wv (dv1 (dv2 e)) (p.val / 4) (32 * (p.val % 4) + r) k = dn xv wv (dv1 (dv2 e)) (slot e p.val * 4 + e.val % 4) r k := by
      unfold drx
      rw [e3, blk3]; exact dn_mod xv wv _ _ _ _ (by omega) k
    rw [if_neg h, if_pos (by omega), a3]
    simp only [Ideal.addf_def, corner]
    ac_rfl

/-! ## All thirty-two -/

/-- The square `u` further on has its piece `7 - u` for this device's row block. -/
theorem piece (c : Dev nD) (u : Fin 8) : slot (sq u.val c) (7 - u.val) * 4 + (sq u.val c).val % 4 = c.val := by revert c u; decide +kernel
/-- No square further on is the device itself. -/
theorem sq_zero (c : Dev nD) : sq 0 c = c := by revert c; decide

/-- What the square `u` further on sums for this device's row block: its four devices' partial products. -/
theorem wk_sq (c : Dev nD) (u : Fin 8) (r : ℕ) (hr : r < 32) (k : Fin 1024) :
    wk xv wv (sq u.val c) (32 * (7 - u.val) + r) k = ∑ v : Fin 4, (dn xv wv (corner v (sq u.val c)) c.val r k : EReal) := by
  rw [wk_eq xv wv (sq u.val c) ⟨7 - u.val, by omega⟩ r hr k, piece]

/-- Eight squares of four are the devices. -/
theorem all_devices (c : Dev nD) : Function.Bijective fun uv : Fin 8 × Fin 4 => corner uv.2 (sq uv.1.val c) := by
  revert c; decide +kernel

/-- The eight squares' sums are the sum of all thirty-two devices' partial products. -/
theorem tot_eq (c : Dev nD) (r : ℕ) (hr : r < 32) (k : Fin 1024) :
    tot xv wv c r k = ∑ d : Dev nD, (dn xv wv d c.val r k : EReal) := by
  have h (u : Fin 8) := wk_sq xv wv c u r hr k
  have h0 : wk xv wv c (224 + r) k = _ := (congrArg (fun e => wk xv wv e (224 + r) k) (sq_zero c).symm).trans (h 0)
  rw [← Fintype.sum_bijective _ (all_devices c) (fun uv : Fin 8 × Fin 4 => (dn xv wv (corner uv.2 (sq uv.1.val c)) c.val r k : EReal)) _ fun _ => rfl,
    Fintype.sum_prod_type, Fin.sum_univ_eight, ← h 0, ← h 1, ← h 2, ← h 3, ← h 4, ← h 5, ← h 6, ← h 7]
  unfold tot ib
  simp only [Ideal.addf_def]
  have hz : wk xv wv c (224 + r) k = wk xv wv (sq (0 : Fin 8).val c) (32 * (7 - (0 : Fin 8).val) + r) k := h0.trans (h 0).symm
  rw [hz]
  show _ + wk xv wv (sq (7 : Fin 8).val c) (32 * (7 - (7 : Fin 8).val) + r) k + wk xv wv (sq (6 : Fin 8).val c) (32 * (7 - (6 : Fin 8).val) + r) k
    + wk xv wv (sq (5 : Fin 8).val c) (32 * (7 - (5 : Fin 8).val) + r) k + wk xv wv (sq (4 : Fin 8).val c) (32 * (7 - (4 : Fin 8).val) + r) k
    + wk xv wv (sq (3 : Fin 8).val c) (32 * (7 - (3 : Fin 8).val) + r) k + wk xv wv (sq (2 : Fin 8).val c) (32 * (7 - (2 : Fin 8).val) + r) k
    + wk xv wv (sq (1 : Fin 8).val c) (32 * (7 - (1 : Fin 8).val) + r) k = _
  ac_rfl

end

/-! ## The reference -/

/-- What the reference computes of the two whole arguments. -/
abbrev whole (X W : FVec Ideal ⟨2, ![1024, 1024]⟩ .f32) : FVec Ideal ⟨2, ![1024, 1024]⟩ .f32 :=
  maximumf (Host.dotGeneral Cert.ReferenceIdeal.dot_S1024x1024_S1024x1024_S1024x1024_1_0_0_1_n_n none X W)
    (broadcastInDim Cert.ReferenceIdeal.S1024x1024 ![] Cert.ReferenceIdeal.Gen.bcast_S_S1024x1024 (constant Cert.ReferenceIdeal.S_ .f32 0x00000000#32))

/-- The row blocks' products added up are the product. -/
theorem sum_blocks (f : Fin 1024 → EReal) : (∑ d : Fin 32, ∑ j : Fin 32, f ⟨d.val * 32 + j.val, by omega⟩) = ∑ i : Fin 1024, f i := by
  rw [← Fintype.sum_prod_type' (f := fun (d j : Fin 32) => f ⟨d.val * 32 + j.val, by omega⟩)]
  refine Fintype.sum_equiv (finProdFinEquiv (m := 32) (n := 32)) _ _ fun dj => congrArg f (Fin.ext ?_)
  show dj.1.val * 32 + dj.2.val = dj.2.val + 32 * dj.1.val
  omega

/-- A device's result is its row block of the reference's. -/
theorem value (xv : Dev nD → Vec Ideal S1024x32 .f32) (wv : Dev nD → Vec Ideal S32x1024 .f32) (X W : FVec Ideal ⟨2, ![1024, 1024]⟩ .f32)
    (hx : ∀ d : Dev nD, xv d = Layout.block ⟨2, ![1024, 32]⟩ ⟨2, ![1024, 1024]⟩ 1 32 d X)
    (hw : ∀ d : Dev nD, wv d = Layout.block ⟨2, ![32, 1024]⟩ ⟨2, ![1024, 1024]⟩ 0 32 d W) (c : Dev nD) :
    (on2 (res xv wv c) : Vec Ideal S32x1024 .f32) = Layout.block ⟨2, ![32, 1024]⟩ ⟨2, ![1024, 1024]⟩ 0 32 c (whole X W) := by
  funext i
  obtain ⟨r, k, rfl⟩ : ∃ (r : Fin 32) (k : Fin 1024), i = ix2 r k := ⟨i 0, i 1, eq_ix2 i⟩
  have hc : c.val * 32 + r.val < 1024 := by have := c.isLt; have : nD = 32 := rfl; omega
  have hi : (Layout.block ⟨2, ![32, 1024]⟩ ⟨2, ![1024, 1024]⟩ 0 32 c (whole X W) : Vec Ideal S32x1024 .f32) (ix2 r k)
      = whole X W (ix2 ⟨c.val * 32 + r.val, hc⟩ k) := by
    rw [Layout.block_apply]; refine congrArg (whole X W) ?_
    funext a; refine Fin.ext ?_; match a with | 0 => rfl | 1 => rfl
  have ht : (tot xv wv c r.val k : EReal) = Host.dotGeneral Cert.ReferenceIdeal.dot_S1024x1024_S1024x1024_S1024x1024_1_0_0_1_n_n none X W (ix2 ⟨c.val * 32 + r.val, hc⟩ k) := by
    refine (tot_eq xv wv c r.val r.isLt k).trans (Eq.trans ?_ (StackMember.dotGeneral_plain_apply (m := 1024) (k := 1024) (n := 1024) none X W ⟨c.val * 32 + r.val, hc⟩ k).symm)
    rw [← sum_blocks fun i => (X (ix2 ⟨c.val * 32 + r.val, hc⟩ i) : EReal) * W (ix2 i k)]
    refine Finset.sum_congr rfl fun d _ => ?_
    rw [dn_eq]
    refine Finset.sum_congr rfl fun j _ => ?_
    rw [hx d, hw d, Layout.block_apply, Layout.block_apply]
    refine congrArg₂ (fun a b : EReal => a * b) (congrArg X ?_) (congrArg W ?_)
    · funext a; refine Fin.ext ?_
      match a with
      | 0 => show (32 * c.val + r.val % 32) % 1024 = c.val * 32 + r.val; omega
      | 1 => rfl
    · funext a; refine Fin.ext ?_; match a with | 0 => rfl | 1 => rfl
  rw [hi]
  show FloatOps.maximumf (tot xv wv c r.val k) (Scalar.ofBits .f32 0x00000000#32) = FloatOps.maximumf (Host.dotGeneral Cert.ReferenceIdeal.dot_S1024x1024_S1024x1024_S1024x1024_1_0_0_1_n_n none X W (ix2 ⟨c.val * 32 + r.val, hc⟩ k)) (Scalar.ofBits .f32 0x00000000#32)
  rw [ht]

end Cert.KProof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Values

@[expose] public section

noncomputable section

namespace Cert.Proof

open Idealize.ShloMosaic Idealize.SL.Sem

/-- The kernel over the reals ends with its arguments unchanged and every counter zero; -/
theorem frame_ideal : Cert.quiescent_KernelIdeal := fun m ρ _ =>
  (θ_run Cert.KernelIdeal.defs _ _).mono (fun _ h => ⟨fun c => ⟨(h.1 c).1, (h.1 c).2.1⟩, h.2⟩) (Cert.KProof.run_main (F := Ideal) m ρ)

/-- The kernel's text is the same over the bits. -/
theorem same_bodies {F : FTy → Type} [FloatOps F] : Cert.Kernel.defs₀ (F := F) = Cert.KernelIdeal.defs₀ (F := F) := by
  unfold Cert.Kernel.defs₀ Cert.KernelIdeal.defs₀
  congr 1
  funext l a
  match l, a with
  | 0, (t, s) => rfl
  | ⟨_ + 1, h⟩, _ => exact absurd h (Nat.not_lt.2 (Nat.le_add_left _ _))
theorem same_defs {F : FTy → Type} [FloatOps F] : Cert.Kernel.defs (F := F) = Cert.KernelIdeal.defs (F := F) := by
  unfold Cert.Kernel.defs Cert.KernelIdeal.defs
  rw [same_bodies]; rfl

/-- So the kernel over the bits does too; -/
theorem frame_kernel : Cert.quiescent_Kernel := fun m ρ _ => by
  rw [same_defs]
  exact (θ_run Cert.KernelIdeal.defs _ _).mono (fun _ h => ⟨fun c => ⟨(h.1 c).1, (h.1 c).2.1⟩, h.2⟩) (Cert.KProof.run_main (F := Bits) m ρ)

/-- and the reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals every device ends with its row block of what the reference computes. -/
theorem algebraic : Cert.algebraic_KernelIdeal_ReferenceIdeal := fun m g m' g' _ h =>
  ⟨Cert.KProof.whole (m' (((0 : Dev Cert.ReferenceIdeal.nD).tc : Thread _ _).loc Cert.ReferenceIdeal.main_arg0))
      (m' (((0 : Dev Cert.ReferenceIdeal.nD).tc : Thread _ _).loc Cert.ReferenceIdeal.main_arg1)),
    (θ_run Cert.KernelIdeal.defs _ _).mono
      (fun _ k c => ⟨(k.1 c).2.2.trans (Cert.KProof.value (Cert.KProof.xv m) (Cert.KProof.wv m) _ _ (fun d => (h d).1) (fun d => (h d).2) c),
        (k.1 c).1, (k.1 c).2.1⟩)
      (Cert.KProof.run_main (F := Ideal) m g),
    (θ_run Cert.ReferenceIdeal.defs _ _).mono (fun _ k => k 0) (Cert.ReferenceIdeal.Value.run (F := Ideal) m' g')⟩

/-- All the claims together. -/
theorem claim : Cert.Claim := ⟨Cert.Kernel.Gen.facts, Cert.KernelIdeal.Gen.facts, Cert.ReferenceIdeal.Gen.facts,
  frame_kernel, frame_ideal, frame_reference, trivial, algebraic⟩

end Cert.Proof

end
